-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v197)) (v1 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_v198) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x384x384 : Shape := ⟨4, ![2, 3, 384, 384]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S255x256x1x1 : Shape := ⟨4, ![255, 256, 1, 1]⟩
abbrev S255 : Shape := ⟨1, ![255]⟩
abbrev S2x384x384x3 : Shape := ⟨4, ![2, 384, 384, 3]⟩
abbrev S_ : Shape := ⟨0, ![]⟩
abbrev S2x385x385x3 : Shape := ⟨4, ![2, 385, 385, 3]⟩
abbrev S2x192x192x3 : Shape := ⟨4, ![2, 192, 192, 3]⟩
abbrev S73728x3 : Shape := ⟨2, ![73728, 3]⟩
abbrev S73728x27 : Shape := ⟨2, ![73728, 27]⟩
abbrev S3x3x3x64 : Shape := ⟨4, ![3, 3, 3, 64]⟩
abbrev S27x64 : Shape := ⟨2, ![27, 64]⟩
abbrev S1x64 : Shape := ⟨2, ![1, 64]⟩
abbrev S73728x64 : Shape := ⟨2, ![73728, 64]⟩
abbrev S8192x27 : Shape := ⟨2, ![8192, 27]⟩
abbrev S8192x64 : Shape := ⟨2, ![8192, 64]⟩
abbrev S2x192x192x64 : Shape := ⟨4, ![2, 192, 192, 64]⟩
abbrev S2x193x193x64 : Shape := ⟨4, ![2, 193, 193, 64]⟩
abbrev S2x96x96x64 : Shape := ⟨4, ![2, 96, 96, 64]⟩
abbrev S18432x64 : Shape := ⟨2, ![18432, 64]⟩
abbrev S18432x576 : Shape := ⟨2, ![18432, 576]⟩
abbrev S3x3x64x128 : Shape := ⟨4, ![3, 3, 64, 128]⟩
abbrev S576x128 : Shape := ⟨2, ![576, 128]⟩
abbrev S1x128 : Shape := ⟨2, ![1, 128]⟩
abbrev S18432x128 : Shape := ⟨2, ![18432, 128]⟩
abbrev S2048x576 : Shape := ⟨2, ![2048, 576]⟩
abbrev S2048x128 : Shape := ⟨2, ![2048, 128]⟩
abbrev S2x96x96x128 : Shape := ⟨4, ![2, 96, 96, 128]⟩
abbrev S2x97x97x128 : Shape := ⟨4, ![2, 97, 97, 128]⟩
abbrev S2x48x48x128 : Shape := ⟨4, ![2, 48, 48, 128]⟩
abbrev S4608x128 : Shape := ⟨2, ![4608, 128]⟩
abbrev S4608x1152 : Shape := ⟨2, ![4608, 1152]⟩
abbrev S3x3x128x256 : Shape := ⟨4, ![3, 3, 128, 256]⟩
abbrev S1152x256 : Shape := ⟨2, ![1152, 256]⟩
abbrev S1x256 : Shape := ⟨2, ![1, 256]⟩
abbrev S4608x256 : Shape := ⟨2, ![4608, 256]⟩
abbrev S2304x1152 : Shape := ⟨2, ![2304, 1152]⟩
abbrev S2304x256 : Shape := ⟨2, ![2304, 256]⟩
abbrev S255x256 : Shape := ⟨2, ![255, 256]⟩
abbrev S256x255 : Shape := ⟨2, ![256, 255]⟩
abbrev S1x255 : Shape := ⟨2, ![1, 255]⟩
abbrev S4608x255 : Shape := ⟨2, ![4608, 255]⟩
abbrev S2304x255 : Shape := ⟨2, ![2304, 255]⟩
abbrev S2x2304x3x85 : Shape := ⟨4, ![2, 2304, 3, 85]⟩
abbrev S2x3x2304x85 : Shape := ⟨4, ![2, 3, 2304, 85]⟩
abbrev S2x6912x85 : Shape := ⟨3, ![2, 6912, 85]⟩
abbrev S2x6912x1 : Shape := ⟨3, ![2, 6912, 1]⟩
abbrev S2x6912 : Shape := ⟨2, ![2, 6912]⟩
abbrev S2x6912x80 : Shape := ⟨3, ![2, 6912, 80]⟩
abbrev S2x1024 : Shape := ⟨2, ![2, 1024]⟩
abbrev S2x1024x1 : Shape := ⟨3, ![2, 1024, 1]⟩
abbrev S1 : Shape := ⟨1, ![1]⟩
abbrev S1x1x1 : Shape := ⟨3, ![1, 1, 1]⟩
abbrev S2 : Shape := ⟨1, ![2]⟩
abbrev S2x1 : Shape := ⟨2, ![2, 1]⟩
abbrev S1x1 : Shape := ⟨2, ![1, 1]⟩
abbrev S1x1024 : Shape := ⟨2, ![1, 1024]⟩
abbrev S2x1024x5 : Shape := ⟨3, ![2, 1024, 5]⟩

abbrev nBuf : Space → Nat
  | .hbm => 428
  | .vmem => 29
  | .smem => 4
  | _ => 0

abbrev hbmTy0_0 (i : Nat) : BufTy := match i % 128 with
  | 0 => ⟨S2x3x384x384, .f32⟩
  | 1 => ⟨S64x3x3x3, .f32⟩
  | 2 => ⟨S64, .f32⟩
  | 3 => ⟨S128x64x3x3, .f32⟩
  | 4 => ⟨S128, .f32⟩
  | 5 => ⟨S256x128x3x3, .f32⟩
  | 6 => ⟨S256, .f32⟩
  | 7 => ⟨S255x256x1x1, .f32⟩
  | 8 => ⟨S255, .f32⟩
  | 9 => ⟨S2x384x384x3, .f32⟩
  | 10 => ⟨S_, .i32⟩
  | 11 => ⟨S_, .f32⟩
  | 12 => ⟨S2x385x385x3, .f32⟩
  | 13 => ⟨S2x192x192x3, .f32⟩
  | 14 => ⟨S73728x3, .f32⟩
  | 15 => ⟨S2x192x192x3, .f32⟩
  | 16 => ⟨S73728x3, .f32⟩
  | 17 => ⟨S2x192x192x3, .f32⟩
  | 18 => ⟨S73728x3, .f32⟩
  | 19 => ⟨S2x192x192x3, .f32⟩
  | 20 => ⟨S73728x3, .f32⟩
  | 21 => ⟨S2x192x192x3, .f32⟩
  | 22 => ⟨S73728x3, .f32⟩
  | 23 => ⟨S2x192x192x3, .f32⟩
  | 24 => ⟨S73728x3, .f32⟩
  | 25 => ⟨S2x192x192x3, .f32⟩
  | 26 => ⟨S73728x3, .f32⟩
  | 27 => ⟨S2x192x192x3, .f32⟩
  | 28 => ⟨S73728x3, .f32⟩
  | 29 => ⟨S2x192x192x3, .f32⟩
  | 30 => ⟨S73728x3, .f32⟩
  | 31 => ⟨S73728x27, .f32⟩
  | 32 => ⟨S73728x27, .bf16⟩
  | 33 => ⟨S3x3x3x64, .f32⟩
  | 34 => ⟨S27x64, .f32⟩
  | 35 => ⟨S27x64, .bf16⟩
  | 36 => ⟨S1x64, .f32⟩
  | 37 => ⟨S73728x64, .f32⟩
  | 38 => ⟨S73728x64, .f32⟩
  | 39 => ⟨S73728x64, .f32⟩
  | 40 => ⟨S_, .f32⟩
  | 41 => ⟨S73728x64, .f32⟩
  | 42 => ⟨S73728x64, .f32⟩
  | 43 => ⟨S_, .f32⟩
  | 44 => ⟨S73728x64, .f32⟩
  | 45 => ⟨S73728x64, .f32⟩
  | 46 => ⟨S73728x64, .f32⟩
  | 47 => ⟨S2x192x192x64, .f32⟩
  | 48 => ⟨S_, .i32⟩
  | 49 => ⟨S_, .f32⟩
  | 50 => ⟨S2x193x193x64, .f32⟩
  | 51 => ⟨S2x96x96x64, .f32⟩
  | 52 => ⟨S18432x64, .f32⟩
  | 53 => ⟨S2x96x96x64, .f32⟩
  | 54 => ⟨S18432x64, .f32⟩
  | 55 => ⟨S2x96x96x64, .f32⟩
  | 56 => ⟨S18432x64, .f32⟩
  | 57 => ⟨S2x96x96x64, .f32⟩
  | 58 => ⟨S18432x64, .f32⟩
  | 59 => ⟨S2x96x96x64, .f32⟩
  | 60 => ⟨S18432x64, .f32⟩
  | 61 => ⟨S2x96x96x64, .f32⟩
  | 62 => ⟨S18432x64, .f32⟩
  | 63 => ⟨S2x96x96x64, .f32⟩
  | 64 => ⟨S18432x64, .f32⟩
  | 65 => ⟨S2x96x96x64, .f32⟩
  | 66 => ⟨S18432x64, .f32⟩
  | 67 => ⟨S2x96x96x64, .f32⟩
  | 68 => ⟨S18432x64, .f32⟩
  | 69 => ⟨S18432x576, .f32⟩
  | 70 => ⟨S18432x576, .bf16⟩
  | 71 => ⟨S3x3x64x128, .f32⟩
  | 72 => ⟨S576x128, .f32⟩
  | 73 => ⟨S576x128, .bf16⟩
  | 74 => ⟨S1x128, .f32⟩
  | 75 => ⟨S18432x128, .f32⟩
  | 76 => ⟨S18432x128, .f32⟩
  | 77 => ⟨S18432x128, .f32⟩
  | 78 => ⟨S_, .f32⟩
  | 79 => ⟨S18432x128, .f32⟩
  | 80 => ⟨S18432x128, .f32⟩
  | 81 => ⟨S_, .f32⟩
  | 82 => ⟨S18432x128, .f32⟩
  | 83 => ⟨S18432x128, .f32⟩
  | 84 => ⟨S18432x128, .f32⟩
  | 85 => ⟨S2x96x96x128, .f32⟩
  | 86 => ⟨S_, .i32⟩
  | 87 => ⟨S_, .f32⟩
  | 88 => ⟨S2x97x97x128, .f32⟩
  | 89 => ⟨S2x48x48x128, .f32⟩
  | 90 => ⟨S4608x128, .f32⟩
  | 91 => ⟨S2x48x48x128, .f32⟩
  | 92 => ⟨S4608x128, .f32⟩
  | 93 => ⟨S2x48x48x128, .f32⟩
  | 94 => ⟨S4608x128, .f32⟩
  | 95 => ⟨S2x48x48x128, .f32⟩
  | 96 => ⟨S4608x128, .f32⟩
  | 97 => ⟨S2x48x48x128, .f32⟩
  | 98 => ⟨S4608x128, .f32⟩
  | 99 => ⟨S2x48x48x128, .f32⟩
  | 100 => ⟨S4608x128, .f32⟩
  | 101 => ⟨S2x48x48x128, .f32⟩
  | 102 => ⟨S4608x128, .f32⟩
  | 103 => ⟨S2x48x48x128, .f32⟩
  | 104 => ⟨S4608x128, .f32⟩
  | 105 => ⟨S2x48x48x128, .f32⟩
  | 106 => ⟨S4608x128, .f32⟩
  | 107 => ⟨S4608x1152, .f32⟩
  | 108 => ⟨S4608x1152, .bf16⟩
  | 109 => ⟨S3x3x128x256, .f32⟩
  | 110 => ⟨S1152x256, .f32⟩
  | 111 => ⟨S1152x256, .bf16⟩
  | 112 => ⟨S1x256, .f32⟩
  | 113 => ⟨S4608x256, .f32⟩
  | 114 => ⟨S4608x256, .f32⟩
  | 115 => ⟨S4608x256, .f32⟩
  | 116 => ⟨S_, .f32⟩
  | 117 => ⟨S4608x256, .f32⟩
  | 118 => ⟨S4608x256, .f32⟩
  | 119 => ⟨S_, .f32⟩
  | 120 => ⟨S4608x256, .f32⟩
  | 121 => ⟨S4608x256, .f32⟩
  | 122 => ⟨S4608x256, .f32⟩
  | 123 => ⟨S255x256, .f32⟩
  | 124 => ⟨S256x255, .f32⟩
  | 125 => ⟨S256x255, .bf16⟩
  | 126 => ⟨S4608x256, .bf16⟩
  | 127 => ⟨S1x255, .f32⟩
  | _ => ⟨S2x3x384x384, .f32⟩

abbrev hbmTy0_1 (i : Nat) : BufTy := match i % 128 with
  | 0 => ⟨S4608x255, .f32⟩
  | 1 => ⟨S2x2304x3x85, .f32⟩
  | 2 => ⟨S2x3x2304x85, .f32⟩
  | 3 => ⟨S2x6912x85, .f32⟩
  | 4 => ⟨S2x6912x1, .f32⟩
  | 5 => ⟨S2x6912, .f32⟩
  | 6 => ⟨S2x6912, .f32⟩
  | 7 => ⟨S2x6912, .f32⟩
  | 8 => ⟨S_, .f32⟩
  | 9 => ⟨S2x6912, .f32⟩
  | 10 => ⟨S2x6912, .f32⟩
  | 11 => ⟨S_, .f32⟩
  | 12 => ⟨S2x6912, .f32⟩
  | 13 => ⟨S2x6912, .f32⟩
  | 14 => ⟨S_, .f32⟩
  | 15 => ⟨S2x6912, .f32⟩
  | 16 => ⟨S2x6912, .f32⟩
  | 17 => ⟨S2x6912x1, .f32⟩
  | 18 => ⟨S2x6912, .f32⟩
  | 19 => ⟨S2x6912, .f32⟩
  | 20 => ⟨S2x6912, .f32⟩
  | 21 => ⟨S_, .f32⟩
  | 22 => ⟨S2x6912, .f32⟩
  | 23 => ⟨S2x6912, .f32⟩
  | 24 => ⟨S_, .f32⟩
  | 25 => ⟨S2x6912, .f32⟩
  | 26 => ⟨S2x6912, .f32⟩
  | 27 => ⟨S_, .f32⟩
  | 28 => ⟨S2x6912, .f32⟩
  | 29 => ⟨S2x6912, .f32⟩
  | 30 => ⟨S2x6912x1, .f32⟩
  | 31 => ⟨S2x6912, .f32⟩
  | 32 => ⟨S2x6912, .f32⟩
  | 33 => ⟨S2x6912, .f32⟩
  | 34 => ⟨S_, .f32⟩
  | 35 => ⟨S2x6912, .f32⟩
  | 36 => ⟨S2x6912, .f32⟩
  | 37 => ⟨S_, .f32⟩
  | 38 => ⟨S2x6912, .f32⟩
  | 39 => ⟨S2x6912, .f32⟩
  | 40 => ⟨S_, .f32⟩
  | 41 => ⟨S2x6912, .f32⟩
  | 42 => ⟨S2x6912, .f32⟩
  | 43 => ⟨S2x6912x1, .f32⟩
  | 44 => ⟨S2x6912, .f32⟩
  | 45 => ⟨S2x6912, .f32⟩
  | 46 => ⟨S2x6912, .f32⟩
  | 47 => ⟨S_, .f32⟩
  | 48 => ⟨S2x6912, .f32⟩
  | 49 => ⟨S2x6912, .f32⟩
  | 50 => ⟨S_, .f32⟩
  | 51 => ⟨S2x6912, .f32⟩
  | 52 => ⟨S2x6912, .f32⟩
  | 53 => ⟨S_, .f32⟩
  | 54 => ⟨S2x6912, .f32⟩
  | 55 => ⟨S2x6912, .f32⟩
  | 56 => ⟨S2x6912x1, .f32⟩
  | 57 => ⟨S2x6912, .f32⟩
  | 58 => ⟨S2x6912, .f32⟩
  | 59 => ⟨S2x6912, .f32⟩
  | 60 => ⟨S_, .f32⟩
  | 61 => ⟨S2x6912, .f32⟩
  | 62 => ⟨S2x6912, .f32⟩
  | 63 => ⟨S_, .f32⟩
  | 64 => ⟨S2x6912, .f32⟩
  | 65 => ⟨S2x6912, .f32⟩
  | 66 => ⟨S2x6912x80, .f32⟩
  | 67 => ⟨S2x6912x80, .f32⟩
  | 68 => ⟨S2x6912x80, .f32⟩
  | 69 => ⟨S_, .f32⟩
  | 70 => ⟨S2x6912x80, .f32⟩
  | 71 => ⟨S2x6912x80, .f32⟩
  | 72 => ⟨S_, .f32⟩
  | 73 => ⟨S2x6912x80, .f32⟩
  | 74 => ⟨S2x6912x80, .f32⟩
  | 75 => ⟨S_, .f32⟩
  | 76 => ⟨S2x6912, .f32⟩
  | 77 => ⟨S2x6912, .f32⟩
  | 78 => ⟨S2x6912x80, .i32⟩
  | 79 => ⟨S_, .f32⟩
  | 80 => ⟨S_, .i32⟩
  | 81 => ⟨S2x6912, .f32⟩
  | 82 => ⟨S2x6912, .i32⟩
  | 83 => ⟨S_, .f32⟩
  | 84 => ⟨S2x6912, .f32⟩
  | 85 => ⟨S2x6912, .i1⟩
  | 86 => ⟨S_, .f32⟩
  | 87 => ⟨S_, .f32⟩
  | 88 => ⟨S2x6912, .f32⟩
  | 89 => ⟨S2x6912, .f32⟩
  | 90 => ⟨S_, .f32⟩
  | 91 => ⟨S2x6912, .f32⟩
  | 92 => ⟨S2x6912, .f32⟩
  | 93 => ⟨S2x6912, .f32⟩
  | 94 => ⟨S_, .f32⟩
  | 95 => ⟨S2x6912, .f32⟩
  | 96 => ⟨S2x6912, .f32⟩
  | 97 => ⟨S2x6912, .f32⟩
  | 98 => ⟨S_, .f32⟩
  | 99 => ⟨S2x6912, .f32⟩
  | 100 => ⟨S2x6912, .f32⟩
  | 101 => ⟨S2x6912, .f32⟩
  | 102 => ⟨S_, .f32⟩
  | 103 => ⟨S2x6912, .f32⟩
  | 104 => ⟨S2x6912, .f32⟩
  | 105 => ⟨S2x6912, .f32⟩
  | 106 => ⟨S2x1024, .f32⟩
  | 107 => ⟨S2x1024, .i32⟩
  | 108 => ⟨S_, .i32⟩
  | 109 => ⟨S2x1024, .i32⟩
  | 110 => ⟨S2x1024, .i1⟩
  | 111 => ⟨S_, .i32⟩
  | 112 => ⟨S2x1024, .i32⟩
  | 113 => ⟨S2x1024, .i32⟩
  | 114 => ⟨S2x1024, .i32⟩
  | 115 => ⟨S2x1024x1, .i32⟩
  | 116 => ⟨S1, .i32⟩
  | 117 => ⟨S_, .i32⟩
  | 118 => ⟨S2x1024x1, .i32⟩
  | 119 => ⟨S2x1024x1, .i1⟩
  | 120 => ⟨S1x1x1, .i32⟩
  | 121 => ⟨S2x1024x1, .i32⟩
  | 122 => ⟨S2x1024x1, .i1⟩
  | 123 => ⟨S2x1024x1, .i1⟩
  | 124 => ⟨S_, .i1⟩
  | 125 => ⟨S2x1024, .i1⟩
  | 126 => ⟨S2x1024, .f32⟩
  | 127 => ⟨S_, .f32⟩
  | _ => ⟨S2x3x384x384, .f32⟩

abbrev hbmTy0_2 (i : Nat) : BufTy := match i % 128 with
  | 0 => ⟨S2x1024, .f32⟩
  | 1 => ⟨S2x1024, .f32⟩
  | 2 => ⟨S_, .i32⟩
  | 3 => ⟨S2x1024, .i32⟩
  | 4 => ⟨S2x1024, .i1⟩
  | 5 => ⟨S_, .i32⟩
  | 6 => ⟨S2x1024, .i32⟩
  | 7 => ⟨S2x1024, .i32⟩
  | 8 => ⟨S2x1024, .i32⟩
  | 9 => ⟨S2x1024x1, .i32⟩
  | 10 => ⟨S1, .i32⟩
  | 11 => ⟨S_, .i32⟩
  | 12 => ⟨S2x1024x1, .i32⟩
  | 13 => ⟨S2x1024x1, .i1⟩
  | 14 => ⟨S1x1x1, .i32⟩
  | 15 => ⟨S2x1024x1, .i32⟩
  | 16 => ⟨S2x1024x1, .i1⟩
  | 17 => ⟨S2x1024x1, .i1⟩
  | 18 => ⟨S_, .i1⟩
  | 19 => ⟨S2x1024, .i1⟩
  | 20 => ⟨S2x1024, .i32⟩
  | 21 => ⟨S_, .i32⟩
  | 22 => ⟨S2x1024, .i32⟩
  | 23 => ⟨S2x1024, .i32⟩
  | 24 => ⟨S_, .i32⟩
  | 25 => ⟨S2x1024, .i32⟩
  | 26 => ⟨S2x1024, .i1⟩
  | 27 => ⟨S_, .i32⟩
  | 28 => ⟨S2x1024, .i32⟩
  | 29 => ⟨S2x1024, .i32⟩
  | 30 => ⟨S2x1024, .i32⟩
  | 31 => ⟨S2x1024x1, .i32⟩
  | 32 => ⟨S1, .i32⟩
  | 33 => ⟨S_, .i32⟩
  | 34 => ⟨S2x1024x1, .i32⟩
  | 35 => ⟨S2x1024x1, .i1⟩
  | 36 => ⟨S1x1x1, .i32⟩
  | 37 => ⟨S2x1024x1, .i32⟩
  | 38 => ⟨S2x1024x1, .i1⟩
  | 39 => ⟨S2x1024x1, .i1⟩
  | 40 => ⟨S_, .i1⟩
  | 41 => ⟨S2x1024, .i1⟩
  | 42 => ⟨S2x1024, .f32⟩
  | 43 => ⟨S_, .f32⟩
  | 44 => ⟨S2x1024, .f32⟩
  | 45 => ⟨S2x1024, .f32⟩
  | 46 => ⟨S_, .i32⟩
  | 47 => ⟨S2x1024, .i32⟩
  | 48 => ⟨S2x1024, .i1⟩
  | 49 => ⟨S_, .i32⟩
  | 50 => ⟨S2x1024, .i32⟩
  | 51 => ⟨S2x1024, .i32⟩
  | 52 => ⟨S2x1024, .i32⟩
  | 53 => ⟨S2x1024x1, .i32⟩
  | 54 => ⟨S1, .i32⟩
  | 55 => ⟨S_, .i32⟩
  | 56 => ⟨S2x1024x1, .i32⟩
  | 57 => ⟨S2x1024x1, .i1⟩
  | 58 => ⟨S1x1x1, .i32⟩
  | 59 => ⟨S2x1024x1, .i32⟩
  | 60 => ⟨S2x1024x1, .i1⟩
  | 61 => ⟨S2x1024x1, .i1⟩
  | 62 => ⟨S_, .i1⟩
  | 63 => ⟨S2x1024, .i1⟩
  | 64 => ⟨S2x1024, .f32⟩
  | 65 => ⟨S_, .f32⟩
  | 66 => ⟨S2x1024, .f32⟩
  | 67 => ⟨S2x1024, .f32⟩
  | 68 => ⟨S_, .i32⟩
  | 69 => ⟨S2x1024, .i32⟩
  | 70 => ⟨S2x1024, .i1⟩
  | 71 => ⟨S_, .i32⟩
  | 72 => ⟨S2x1024, .i32⟩
  | 73 => ⟨S2x1024, .i32⟩
  | 74 => ⟨S2x1024, .i32⟩
  | 75 => ⟨S2x1024x1, .i32⟩
  | 76 => ⟨S1, .i32⟩
  | 77 => ⟨S_, .i32⟩
  | 78 => ⟨S2x1024x1, .i32⟩
  | 79 => ⟨S2x1024x1, .i1⟩
  | 80 => ⟨S1x1x1, .i32⟩
  | 81 => ⟨S2x1024x1, .i32⟩
  | 82 => ⟨S2x1024x1, .i1⟩
  | 83 => ⟨S2x1024x1, .i1⟩
  | 84 => ⟨S_, .i1⟩
  | 85 => ⟨S2x1024, .i1⟩
  | 86 => ⟨S2x1024, .f32⟩
  | 87 => ⟨S_, .f32⟩
  | 88 => ⟨S2x1024, .f32⟩
  | 89 => ⟨S2x1024, .f32⟩
  | 90 => ⟨S_, .i32⟩
  | 91 => ⟨S2x1024, .i32⟩
  | 92 => ⟨S2x1024, .i1⟩
  | 93 => ⟨S_, .i32⟩
  | 94 => ⟨S2x1024, .i32⟩
  | 95 => ⟨S2x1024, .i32⟩
  | 96 => ⟨S2x1024, .i32⟩
  | 97 => ⟨S2x1024x1, .i32⟩
  | 98 => ⟨S1, .i32⟩
  | 99 => ⟨S_, .i32⟩
  | 100 => ⟨S2x1024x1, .i32⟩
  | 101 => ⟨S2x1024x1, .i1⟩
  | 102 => ⟨S1x1x1, .i32⟩
  | 103 => ⟨S2x1024x1, .i32⟩
  | 104 => ⟨S2x1024x1, .i1⟩
  | 105 => ⟨S2x1024x1, .i1⟩
  | 106 => ⟨S_, .i1⟩
  | 107 => ⟨S2x1024, .i1⟩
  | 108 => ⟨S2x1024, .f32⟩
  | 109 => ⟨S_, .f32⟩
  | 110 => ⟨S2x1024, .f32⟩
  | 111 => ⟨S2x1024, .f32⟩
  | 112 => ⟨S2x1024, .f32⟩
  | 113 => ⟨S_, .f32⟩
  | 114 => ⟨S2x1024, .f32⟩
  | 115 => ⟨S2x1024, .f32⟩
  | 116 => ⟨S2x1024, .f32⟩
  | 117 => ⟨S2x1024, .f32⟩
  | 118 => ⟨S2x1024, .f32⟩
  | 119 => ⟨S2x1024, .f32⟩
  | 120 => ⟨S2x1024, .i32⟩
  | 121 => ⟨S_, .i32⟩
  | 122 => ⟨S2x1024, .i32⟩
  | 123 => ⟨S2x1024, .i1⟩
  | 124 => ⟨S2x1024, .f32⟩
  | 125 => ⟨S_, .f32⟩
  | 126 => ⟨S_, .f32⟩
  | 127 => ⟨S_, .f32⟩
  | _ => ⟨S2x3x384x384, .f32⟩

abbrev hbmTy0_3 (i : Nat) : BufTy := match i % 128 with
  | 0 => ⟨S2x1024, .f32⟩
  | 1 => ⟨S2x1024, .f32⟩
  | 2 => ⟨S_, .f32⟩
  | 3 => ⟨S2x1024, .f32⟩
  | 4 => ⟨S2x1024, .f32⟩
  | 5 => ⟨S_, .f32⟩
  | 6 => ⟨S_, .f32⟩
  | 7 => ⟨S_, .f32⟩
  | 8 => ⟨S2x1024, .f32⟩
  | 9 => ⟨S2x1024, .f32⟩
  | 10 => ⟨S_, .f32⟩
  | 11 => ⟨S2x1024, .f32⟩
  | 12 => ⟨S2x1024, .f32⟩
  | 13 => ⟨S_, .f32⟩
  | 14 => ⟨S_, .f32⟩
  | 15 => ⟨S_, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S_, .f32⟩
  | 22 => ⟨S_, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S2x1024, .f32⟩
  | 30 => ⟨S2x1024, .f32⟩
  | 31 => ⟨S2x1024, .f32⟩
  | 32 => ⟨S2x1024, .f32⟩
  | 33 => ⟨S2x1024, .f32⟩
  | 34 => ⟨S2x1024x1, .f32⟩
  | 35 => ⟨S2x1024x1, .f32⟩
  | 36 => ⟨S2x1024x1, .f32⟩
  | 37 => ⟨S2x1024x1, .f32⟩
  | 38 => ⟨S2x1024x1, .f32⟩
  | 39 => ⟨S2x1024x5, .f32⟩
  | 40 => ⟨S_, .i32⟩
  | 41 => ⟨S_, .i32⟩
  | 42 => ⟨S2x1024, .i32⟩
  | 43 => ⟨S2x1024, .i32⟩
  | _ => ⟨S2x3x384x384, .f32⟩

abbrev hbmTy (i : Nat) : BufTy := match i / 128 with
  | 0 => hbmTy0_0 i
  | 1 => hbmTy0_1 i
  | 2 => hbmTy0_2 i
  | 3 => hbmTy0_3 i
  | _ => ⟨S2x3x384x384, .f32⟩

abbrev bufTy : (tb : Table) → Fin (tcTables nBuf tb) → BufTy
  | .hbm, ⟨i, _⟩ => hbmTy i
  | .local _ .vmem, ⟨0, _⟩ => ⟨S8192x27, .bf16⟩
  | .local _ .vmem, ⟨1, _⟩ => ⟨S8192x27, .bf16⟩
  | .local _ .vmem, ⟨2, _⟩ => ⟨S27x64, .bf16⟩
  | .local _ .vmem, ⟨3, _⟩ => ⟨S1x64, .f32⟩
  | .local _ .vmem, ⟨4, _⟩ => ⟨S8192x64, .f32⟩
  | .local _ .vmem, ⟨5, _⟩ => ⟨S8192x64, .f32⟩
  | .local _ .vmem, ⟨6, _⟩ => ⟨S2048x576, .bf16⟩
  | .local _ .vmem, ⟨7, _⟩ => ⟨S2048x576, .bf16⟩
  | .local _ .vmem, ⟨8, _⟩ => ⟨S576x128, .bf16⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | .local _ .vmem, ⟨12, _⟩ => ⟨S2304x1152, .bf16⟩
  | .local _ .vmem, ⟨13, _⟩ => ⟨S2304x1152, .bf16⟩
  | .local _ .vmem, ⟨14, _⟩ => ⟨S1152x256, .bf16⟩
  | .local _ .vmem, ⟨15, _⟩ => ⟨S1x256, .f32⟩
  | .local _ .vmem, ⟨16, _⟩ => ⟨S2304x256, .f32⟩
  | .local _ .vmem, ⟨17, _⟩ => ⟨S2304x256, .f32⟩
  | .local _ .vmem, ⟨18, _⟩ => ⟨S2304x256, .bf16⟩
  | .local _ .vmem, ⟨19, _⟩ => ⟨S2304x256, .bf16⟩
  | .local _ .vmem, ⟨20, _⟩ => ⟨S256x255, .bf16⟩
  | .local _ .vmem, ⟨21, _⟩ => ⟨S1x255, .f32⟩
  | .local _ .vmem, ⟨22, _⟩ => ⟨S2304x255, .f32⟩
  | .local _ .vmem, ⟨23, _⟩ => ⟨S2304x255, .f32⟩
  | .local _ .vmem, ⟨24, _⟩ => ⟨S2x1024, .f32⟩
  | .local _ .vmem, ⟨25, _⟩ => ⟨S2x1024, .f32⟩
  | .local _ .vmem, ⟨26, _⟩ => ⟨S2x1024, .f32⟩
  | .local _ .vmem, ⟨27, _⟩ => ⟨S2x1024, .f32⟩
  | .local _ .vmem, ⟨28, _⟩ => ⟨S2x1024, .i32⟩
  | .local _ .smem, ⟨0, _⟩ => ⟨S2x1024, .f32⟩
  | .local _ .smem, ⟨1, _⟩ => ⟨S2x1024, .f32⟩
  | .local _ .smem, ⟨2, _⟩ => ⟨S2x1024, .f32⟩
  | .local _ .smem, ⟨3, _⟩ => ⟨S2x1024, .f32⟩
  | _, _ => ⟨S2x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v27 : Ref sig .tc := ⟨.hbm, 46, rfl⟩
abbrev main_v28 : Ref sig .tc := ⟨.hbm, 47, rfl⟩
abbrev main_c_0 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v55 : Ref sig .tc := ⟨.hbm, 84, rfl⟩
abbrev main_v56 : Ref sig .tc := ⟨.hbm, 85, rfl⟩
abbrev main_c_1 : Ref sig .tc := ⟨.hbm, 86, rfl⟩
abbrev main_call4_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call5_v0 : Ref sig .tc := ⟨.hbm, 114, rfl⟩
abbrev main_call5_v1 : Ref sig .tc := ⟨.hbm, 115, rfl⟩
abbrev main_call5_cst : Ref sig .tc := ⟨.hbm, 116, rfl⟩
abbrev main_call5_v2 : Ref sig .tc := ⟨.hbm, 117, rfl⟩
abbrev main_call5_v3 : Ref sig .tc := ⟨.hbm, 118, rfl⟩
abbrev main_call5_cst_0 : Ref sig .tc := ⟨.hbm, 119, rfl⟩
abbrev main_call5_v4 : Ref sig .tc := ⟨.hbm, 120, rfl⟩
abbrev main_call5_v5 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst : Ref sig .tc := ⟨.hbm, 136, rfl⟩
abbrev main_v97 : Ref sig .tc := ⟨.hbm, 137, rfl⟩
abbrev main_v98 : Ref sig .tc := ⟨.hbm, 138, rfl⟩
abbrev main_cst_2 : Ref sig .tc := ⟨.hbm, 139, rfl⟩
abbrev main_v99 : Ref sig .tc := ⟨.hbm, 140, rfl⟩
abbrev main_v100 : Ref sig .tc := ⟨.hbm, 141, rfl⟩
abbrev main_cst_3 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_4 : Ref sig .tc := ⟨.hbm, 149, rfl⟩
abbrev main_v107 : Ref sig .tc := ⟨.hbm, 150, rfl⟩
abbrev main_v108 : Ref sig .tc := ⟨.hbm, 151, rfl⟩
abbrev main_cst_5 : Ref sig .tc := ⟨.hbm, 152, rfl⟩
abbrev main_v109 : Ref sig .tc := ⟨.hbm, 153, rfl⟩
abbrev main_v110 : Ref sig .tc := ⟨.hbm, 154, rfl⟩
abbrev main_cst_6 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_7 : Ref sig .tc := ⟨.hbm, 162, rfl⟩
abbrev main_v117 : Ref sig .tc := ⟨.hbm, 163, rfl⟩
abbrev main_v118 : Ref sig .tc := ⟨.hbm, 164, rfl⟩
abbrev main_cst_8 : Ref sig .tc := ⟨.hbm, 165, rfl⟩
abbrev main_v119 : Ref sig .tc := ⟨.hbm, 166, rfl⟩
abbrev main_v120 : Ref sig .tc := ⟨.hbm, 167, rfl⟩
abbrev main_cst_9 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_10 : Ref sig .tc := ⟨.hbm, 175, rfl⟩
abbrev main_v127 : Ref sig .tc := ⟨.hbm, 176, rfl⟩
abbrev main_v128 : Ref sig .tc := ⟨.hbm, 177, rfl⟩
abbrev main_cst_11 : Ref sig .tc := ⟨.hbm, 178, rfl⟩
abbrev main_v129 : Ref sig .tc := ⟨.hbm, 179, rfl⟩
abbrev main_v130 : Ref sig .tc := ⟨.hbm, 180, rfl⟩
abbrev main_cst_12 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_13 : Ref sig .tc := ⟨.hbm, 188, rfl⟩
abbrev main_v137 : Ref sig .tc := ⟨.hbm, 189, rfl⟩
abbrev main_v138 : Ref sig .tc := ⟨.hbm, 190, rfl⟩
abbrev main_cst_14 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_cst_15 : Ref sig .tc := ⟨.hbm, 197, rfl⟩
abbrev main_v144 : Ref sig .tc := ⟨.hbm, 198, rfl⟩
abbrev main_v145 : Ref sig .tc := ⟨.hbm, 199, rfl⟩
abbrev main_cst_16 : Ref sig .tc := ⟨.hbm, 200, rfl⟩
abbrev main_v146 : Ref sig .tc := ⟨.hbm, 201, rfl⟩
abbrev main_v147 : Ref sig .tc := ⟨.hbm, 202, rfl⟩
abbrev main_cst_17 : Ref sig .tc := ⟨.hbm, 203, rfl⟩
abbrev main_v148 : Ref sig .tc := ⟨.hbm, 204, rfl⟩
abbrev main_v149 : Ref sig .tc := ⟨.hbm, 205, rfl⟩
abbrev main_call6_v0 : Ref sig .tc := ⟨.hbm, 206, rfl⟩
abbrev main_call6_cst : Ref sig .tc := ⟨.hbm, 207, rfl⟩
abbrev main_call6_c : Ref sig .tc := ⟨.hbm, 208, rfl⟩
abbrev main_call6_v1_0 : Ref sig .tc := ⟨.hbm, 209, rfl⟩
abbrev main_v150 : Ref sig .tc := ⟨.hbm, 210, rfl⟩
abbrev main_cst_18 : Ref sig .tc := ⟨.hbm, 211, rfl⟩
abbrev main_v151 : Ref sig .tc := ⟨.hbm, 212, rfl⟩
abbrev main_v152 : Ref sig .tc := ⟨.hbm, 213, rfl⟩
abbrev main_cst_19 : Ref sig .tc := ⟨.hbm, 214, rfl⟩
abbrev main_call7_v0 : Ref sig .tc := ⟨.hbm, 215, rfl⟩
abbrev main_call7_v1 : Ref sig .tc := ⟨.hbm, 216, rfl⟩
abbrev main_v153 : Ref sig .tc := ⟨.hbm, 217, rfl⟩
abbrev main_cst_20 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_21 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_22 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_cst_23 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_values : Ref sig .tc := ⟨.hbm, 234, rfl⟩
abbrev main_indices : Ref sig .tc := ⟨.hbm, 235, rfl⟩
abbrev main_call8_c : Ref sig .tc := ⟨.hbm, 236, rfl⟩
abbrev main_call8_v0 : Ref sig .tc := ⟨.hbm, 237, rfl⟩
abbrev main_call8_v1 : Ref sig .tc := ⟨.hbm, 238, rfl⟩
abbrev main_call8_c_0 : Ref sig .tc := ⟨.hbm, 239, rfl⟩
abbrev main_call8_v2 : Ref sig .tc := ⟨.hbm, 240, rfl⟩
abbrev main_call8_v3 : Ref sig .tc := ⟨.hbm, 241, rfl⟩
abbrev main_call8_v4 : Ref sig .tc := ⟨.hbm, 242, rfl⟩
abbrev main_call8_v5 : Ref sig .tc := ⟨.hbm, 243, rfl⟩
abbrev main_call8_c_1 : Ref sig .tc := ⟨.hbm, 244, rfl⟩
abbrev main_call8_c_2 : Ref sig .tc := ⟨.hbm, 245, rfl⟩
abbrev main_call8_v6 : Ref sig .tc := ⟨.hbm, 246, rfl⟩
abbrev main_call8_v7 : Ref sig .tc := ⟨.hbm, 247, rfl⟩
abbrev main_call8_v8 : Ref sig .tc := ⟨.hbm, 248, rfl⟩
abbrev main_call8_v9 : Ref sig .tc := ⟨.hbm, 249, rfl⟩
abbrev main_call8_v10 : Ref sig .tc := ⟨.hbm, 250, rfl⟩
abbrev main_call8_v11 : Ref sig .tc := ⟨.hbm, 251, rfl⟩
abbrev main_call8_c_3 : Ref sig .tc := ⟨.hbm, 252, rfl⟩
abbrev main_call8_v12 : Ref sig .tc := ⟨.hbm, 253, rfl⟩
abbrev main_call8_v13 : Ref sig .tc := ⟨.hbm, 254, rfl⟩
abbrev main_call8_cst : Ref sig .tc := ⟨.hbm, 255, rfl⟩
abbrev main_call8_v14 : Ref sig .tc := ⟨.hbm, 256, rfl⟩
abbrev main_v166 : Ref sig .tc := ⟨.hbm, 257, rfl⟩
abbrev main_call9_c : Ref sig .tc := ⟨.hbm, 258, rfl⟩
abbrev main_call9_v0 : Ref sig .tc := ⟨.hbm, 259, rfl⟩
abbrev main_call9_v1 : Ref sig .tc := ⟨.hbm, 260, rfl⟩
abbrev main_call9_c_0 : Ref sig .tc := ⟨.hbm, 261, rfl⟩
abbrev main_call9_v2 : Ref sig .tc := ⟨.hbm, 262, rfl⟩
abbrev main_call9_v3 : Ref sig .tc := ⟨.hbm, 263, rfl⟩
abbrev main_call9_v4 : Ref sig .tc := ⟨.hbm, 264, rfl⟩
abbrev main_call9_v5 : Ref sig .tc := ⟨.hbm, 265, rfl⟩
abbrev main_call9_c_1 : Ref sig .tc := ⟨.hbm, 266, rfl⟩
abbrev main_call9_c_2 : Ref sig .tc := ⟨.hbm, 267, rfl⟩
abbrev main_call9_v6 : Ref sig .tc := ⟨.hbm, 268, rfl⟩
abbrev main_call9_v7 : Ref sig .tc := ⟨.hbm, 269, rfl⟩
abbrev main_call9_v8 : Ref sig .tc := ⟨.hbm, 270, rfl⟩
abbrev main_call9_v9 : Ref sig .tc := ⟨.hbm, 271, rfl⟩
abbrev main_call9_v10 : Ref sig .tc := ⟨.hbm, 272, rfl⟩
abbrev main_call9_v11 : Ref sig .tc := ⟨.hbm, 273, rfl⟩
abbrev main_call9_c_3 : Ref sig .tc := ⟨.hbm, 274, rfl⟩
abbrev main_call9_v12 : Ref sig .tc := ⟨.hbm, 275, rfl⟩
abbrev main_call9_v13 : Ref sig .tc := ⟨.hbm, 276, rfl⟩
abbrev main_call9_c_4 : Ref sig .tc := ⟨.hbm, 277, rfl⟩
abbrev main_call9_v14 : Ref sig .tc := ⟨.hbm, 278, rfl⟩
abbrev main_v167 : Ref sig .tc := ⟨.hbm, 279, rfl⟩
abbrev main_call10_c : Ref sig .tc := ⟨.hbm, 280, rfl⟩
abbrev main_call10_v0 : Ref sig .tc := ⟨.hbm, 281, rfl⟩
abbrev main_call10_v1 : Ref sig .tc := ⟨.hbm, 282, rfl⟩
abbrev main_call10_c_0 : Ref sig .tc := ⟨.hbm, 283, rfl⟩
abbrev main_call10_v2 : Ref sig .tc := ⟨.hbm, 284, rfl⟩
abbrev main_call10_v3 : Ref sig .tc := ⟨.hbm, 285, rfl⟩
abbrev main_call10_v4 : Ref sig .tc := ⟨.hbm, 286, rfl⟩
abbrev main_call10_v5 : Ref sig .tc := ⟨.hbm, 287, rfl⟩
abbrev main_call10_c_1 : Ref sig .tc := ⟨.hbm, 288, rfl⟩
abbrev main_call10_c_2 : Ref sig .tc := ⟨.hbm, 289, rfl⟩
abbrev main_call10_v6 : Ref sig .tc := ⟨.hbm, 290, rfl⟩
abbrev main_call10_v7 : Ref sig .tc := ⟨.hbm, 291, rfl⟩
abbrev main_call10_v8 : Ref sig .tc := ⟨.hbm, 292, rfl⟩
abbrev main_call10_v9 : Ref sig .tc := ⟨.hbm, 293, rfl⟩
abbrev main_call10_v10 : Ref sig .tc := ⟨.hbm, 294, rfl⟩
abbrev main_call10_v11 : Ref sig .tc := ⟨.hbm, 295, rfl⟩
abbrev main_call10_c_3 : Ref sig .tc := ⟨.hbm, 296, rfl⟩
abbrev main_call10_v12 : Ref sig .tc := ⟨.hbm, 297, rfl⟩
abbrev main_call10_v13 : Ref sig .tc := ⟨.hbm, 298, rfl⟩
abbrev main_call10_cst : Ref sig .tc := ⟨.hbm, 299, rfl⟩
abbrev main_call10_v14 : Ref sig .tc := ⟨.hbm, 300, rfl⟩
abbrev main_v168 : Ref sig .tc := ⟨.hbm, 301, rfl⟩
abbrev main_call11_c : Ref sig .tc := ⟨.hbm, 302, rfl⟩
abbrev main_call11_v0 : Ref sig .tc := ⟨.hbm, 303, rfl⟩
abbrev main_call11_v1 : Ref sig .tc := ⟨.hbm, 304, rfl⟩
abbrev main_call11_c_0 : Ref sig .tc := ⟨.hbm, 305, rfl⟩
abbrev main_call11_v2 : Ref sig .tc := ⟨.hbm, 306, rfl⟩
abbrev main_call11_v3 : Ref sig .tc := ⟨.hbm, 307, rfl⟩
abbrev main_call11_v4 : Ref sig .tc := ⟨.hbm, 308, rfl⟩
abbrev main_call11_v5 : Ref sig .tc := ⟨.hbm, 309, rfl⟩
abbrev main_call11_c_1 : Ref sig .tc := ⟨.hbm, 310, rfl⟩
abbrev main_call11_c_2 : Ref sig .tc := ⟨.hbm, 311, rfl⟩
abbrev main_call11_v6 : Ref sig .tc := ⟨.hbm, 312, rfl⟩
abbrev main_call11_v7 : Ref sig .tc := ⟨.hbm, 313, rfl⟩
abbrev main_call11_v8 : Ref sig .tc := ⟨.hbm, 314, rfl⟩
abbrev main_call11_v9 : Ref sig .tc := ⟨.hbm, 315, rfl⟩
abbrev main_call11_v10 : Ref sig .tc := ⟨.hbm, 316, rfl⟩
abbrev main_call11_v11 : Ref sig .tc := ⟨.hbm, 317, rfl⟩
abbrev main_call11_c_3 : Ref sig .tc := ⟨.hbm, 318, rfl⟩
abbrev main_call11_v12 : Ref sig .tc := ⟨.hbm, 319, rfl⟩
abbrev main_call11_v13 : Ref sig .tc := ⟨.hbm, 320, rfl⟩
abbrev main_call11_cst : Ref sig .tc := ⟨.hbm, 321, rfl⟩
abbrev main_call11_v14 : Ref sig .tc := ⟨.hbm, 322, rfl⟩
abbrev main_v169 : Ref sig .tc := ⟨.hbm, 323, rfl⟩
abbrev main_call12_c : Ref sig .tc := ⟨.hbm, 324, rfl⟩
abbrev main_call12_v0 : Ref sig .tc := ⟨.hbm, 325, rfl⟩
abbrev main_call12_v1 : Ref sig .tc := ⟨.hbm, 326, rfl⟩
abbrev main_call12_c_0 : Ref sig .tc := ⟨.hbm, 327, rfl⟩
abbrev main_call12_v2 : Ref sig .tc := ⟨.hbm, 328, rfl⟩
abbrev main_call12_v3 : Ref sig .tc := ⟨.hbm, 329, rfl⟩
abbrev main_call12_v4 : Ref sig .tc := ⟨.hbm, 330, rfl⟩
abbrev main_call12_v5 : Ref sig .tc := ⟨.hbm, 331, rfl⟩
abbrev main_call12_c_1 : Ref sig .tc := ⟨.hbm, 332, rfl⟩
abbrev main_call12_c_2 : Ref sig .tc := ⟨.hbm, 333, rfl⟩
abbrev main_call12_v6 : Ref sig .tc := ⟨.hbm, 334, rfl⟩
abbrev main_call12_v7 : Ref sig .tc := ⟨.hbm, 335, rfl⟩
abbrev main_call12_v8 : Ref sig .tc := ⟨.hbm, 336, rfl⟩
abbrev main_call12_v9 : Ref sig .tc := ⟨.hbm, 337, rfl⟩
abbrev main_call12_v10 : Ref sig .tc := ⟨.hbm, 338, rfl⟩
abbrev main_call12_v11 : Ref sig .tc := ⟨.hbm, 339, rfl⟩
abbrev main_call12_c_3 : Ref sig .tc := ⟨.hbm, 340, rfl⟩
abbrev main_call12_v12 : Ref sig .tc := ⟨.hbm, 341, rfl⟩
abbrev main_call12_v13 : Ref sig .tc := ⟨.hbm, 342, rfl⟩
abbrev main_call12_cst : Ref sig .tc := ⟨.hbm, 343, rfl⟩
abbrev main_call12_v14 : Ref sig .tc := ⟨.hbm, 344, rfl⟩
abbrev main_v170 : Ref sig .tc := ⟨.hbm, 345, rfl⟩
abbrev main_call13_c : Ref sig .tc := ⟨.hbm, 346, rfl⟩
abbrev main_call13_v0 : Ref sig .tc := ⟨.hbm, 347, rfl⟩
abbrev main_call13_v1 : Ref sig .tc := ⟨.hbm, 348, rfl⟩
abbrev main_call13_c_0 : Ref sig .tc := ⟨.hbm, 349, rfl⟩
abbrev main_call13_v2 : Ref sig .tc := ⟨.hbm, 350, rfl⟩
abbrev main_call13_v3 : Ref sig .tc := ⟨.hbm, 351, rfl⟩
abbrev main_call13_v4 : Ref sig .tc := ⟨.hbm, 352, rfl⟩
abbrev main_call13_v5 : Ref sig .tc := ⟨.hbm, 353, rfl⟩
abbrev main_call13_c_1 : Ref sig .tc := ⟨.hbm, 354, rfl⟩
abbrev main_call13_c_2 : Ref sig .tc := ⟨.hbm, 355, rfl⟩
abbrev main_call13_v6 : Ref sig .tc := ⟨.hbm, 356, rfl⟩
abbrev main_call13_v7 : Ref sig .tc := ⟨.hbm, 357, rfl⟩
abbrev main_call13_v8 : Ref sig .tc := ⟨.hbm, 358, rfl⟩
abbrev main_call13_v9 : Ref sig .tc := ⟨.hbm, 359, rfl⟩
abbrev main_call13_v10 : Ref sig .tc := ⟨.hbm, 360, rfl⟩
abbrev main_call13_v11 : Ref sig .tc := ⟨.hbm, 361, rfl⟩
abbrev main_call13_c_3 : Ref sig .tc := ⟨.hbm, 362, rfl⟩
abbrev main_call13_v12 : Ref sig .tc := ⟨.hbm, 363, rfl⟩
abbrev main_call13_v13 : Ref sig .tc := ⟨.hbm, 364, rfl⟩
abbrev main_call13_cst : Ref sig .tc := ⟨.hbm, 365, rfl⟩
abbrev main_call13_v14 : Ref sig .tc := ⟨.hbm, 366, rfl⟩
abbrev main_v171 : Ref sig .tc := ⟨.hbm, 367, rfl⟩
abbrev main_v172 : Ref sig .tc := ⟨.hbm, 368, rfl⟩
abbrev main_cst_24 : Ref sig .tc := ⟨.hbm, 369, rfl⟩
abbrev main_v173 : Ref sig .tc := ⟨.hbm, 370, rfl⟩
abbrev main_v174 : Ref sig .tc := ⟨.hbm, 371, rfl⟩
abbrev main_v175 : Ref sig .tc := ⟨.hbm, 372, rfl⟩
abbrev main_v176 : Ref sig .tc := ⟨.hbm, 373, rfl⟩
abbrev main_v177 : Ref sig .tc := ⟨.hbm, 374, rfl⟩
abbrev main_v178 : Ref sig .tc := ⟨.hbm, 375, rfl⟩
abbrev main_v179 : Ref sig .tc := ⟨.hbm, 376, rfl⟩
abbrev main_c_25 : Ref sig .tc := ⟨.hbm, 377, rfl⟩
abbrev main_v180 : Ref sig .tc := ⟨.hbm, 378, rfl⟩
abbrev main_v181 : Ref sig .tc := ⟨.hbm, 379, rfl⟩
abbrev main_v182 : Ref sig .tc := ⟨.hbm, 380, rfl⟩
abbrev main_cst_26 : Ref sig .tc := ⟨.hbm, 381, rfl⟩
abbrev main_cst_27 : Ref sig .tc := ⟨.hbm, 382, rfl⟩
abbrev main_call14_v0 : Ref sig .tc := ⟨.hbm, 383, rfl⟩
abbrev main_call14_v1 : Ref sig .tc := ⟨.hbm, 384, rfl⟩
abbrev main_call14_v2 : Ref sig .tc := ⟨.hbm, 385, rfl⟩
abbrev main_call14_v3 : Ref sig .tc := ⟨.hbm, 386, rfl⟩
abbrev main_call14_v4 : Ref sig .tc := ⟨.hbm, 387, rfl⟩
abbrev main_v183 : Ref sig .tc := ⟨.hbm, 388, rfl⟩
abbrev main_cst_28 : Ref sig .tc := ⟨.hbm, 389, rfl⟩
abbrev main_cst_29 : Ref sig .tc := ⟨.hbm, 390, rfl⟩
abbrev main_call15_v0 : Ref sig .tc := ⟨.hbm, 391, rfl⟩
abbrev main_call15_v1 : Ref sig .tc := ⟨.hbm, 392, rfl⟩
abbrev main_call15_v2 : Ref sig .tc := ⟨.hbm, 393, rfl⟩
abbrev main_call15_v3 : Ref sig .tc := ⟨.hbm, 394, rfl⟩
abbrev main_call15_v4 : Ref sig .tc := ⟨.hbm, 395, rfl⟩
abbrev main_v184 : Ref sig .tc := ⟨.hbm, 396, rfl⟩
abbrev main_cst_30 : Ref sig .tc := ⟨.hbm, 397, rfl⟩
abbrev main_cst_31 : Ref sig .tc := ⟨.hbm, 398, rfl⟩
abbrev main_call16_v0 : Ref sig .tc := ⟨.hbm, 399, rfl⟩
abbrev main_call16_v1 : Ref sig .tc := ⟨.hbm, 400, rfl⟩
abbrev main_call16_v2 : Ref sig .tc := ⟨.hbm, 401, rfl⟩
abbrev main_call16_v3 : Ref sig .tc := ⟨.hbm, 402, rfl⟩
abbrev main_call16_v4 : Ref sig .tc := ⟨.hbm, 403, rfl⟩
abbrev main_v185 : Ref sig .tc := ⟨.hbm, 404, rfl⟩
abbrev main_cst_32 : Ref sig .tc := ⟨.hbm, 405, rfl⟩
abbrev main_cst_33 : Ref sig .tc := ⟨.hbm, 406, rfl⟩
abbrev main_call17_v0 : Ref sig .tc := ⟨.hbm, 407, rfl⟩
abbrev main_call17_v1 : Ref sig .tc := ⟨.hbm, 408, rfl⟩
abbrev main_call17_v2 : Ref sig .tc := ⟨.hbm, 409, rfl⟩
abbrev main_call17_v3 : Ref sig .tc := ⟨.hbm, 410, rfl⟩
abbrev main_call17_v4 : Ref sig .tc := ⟨.hbm, 411, rfl⟩
abbrev main_v186 : Ref sig .tc := ⟨.hbm, 412, rfl⟩
abbrev main_v187 : Ref sig .tc := ⟨.hbm, 413, rfl⟩
abbrev main_v188 : Ref sig .tc := ⟨.hbm, 414, rfl⟩
abbrev main_v189 : Ref sig .tc := ⟨.hbm, 415, rfl⟩
abbrev main_v190 : Ref sig .tc := ⟨.hbm, 416, rfl⟩
abbrev main_v191 : Ref sig .tc := ⟨.hbm, 417, rfl⟩
abbrev main_v192 : Ref sig .tc := ⟨.hbm, 418, rfl⟩
abbrev main_v193 : Ref sig .tc := ⟨.hbm, 419, rfl⟩
abbrev main_v194 : Ref sig .tc := ⟨.hbm, 420, rfl⟩
abbrev main_v195 : Ref sig .tc := ⟨.hbm, 421, rfl⟩
abbrev main_v196 : Ref sig .tc := ⟨.hbm, 422, rfl⟩
abbrev main_v197 : Ref sig .tc := ⟨.hbm, 423, rfl⟩
abbrev main_c_34 : Ref sig .tc := ⟨.hbm, 424, rfl⟩
abbrev main_call18_v0 : Ref sig .tc := ⟨.hbm, 425, rfl⟩
abbrev main_call18_v1 : Ref sig .tc := ⟨.hbm, 426, rfl⟩
abbrev main_v198 : Ref sig .tc := ⟨.hbm, 427, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg8_0 : Ref sig .tc := ⟨.vmem, 28, rfl⟩
abbrev cc4_stg4_0 : Ref sig .tc := ⟨.smem, 0, rfl⟩
abbrev cc4_stg5_0 : Ref sig .tc := ⟨.smem, 1, rfl⟩
abbrev cc4_stg6_0 : Ref sig .tc := ⟨.smem, 2, rfl⟩
abbrev cc4_stg7_0 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30
abbrev cc4_sem7_0 : DmaSem sig := 31
abbrev cc4_sem8_0 : DmaSem sig := 32

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x27 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S27x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x576 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2304x1152 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1152x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2304x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2304x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x255 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x255 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2304x255 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

@[reducible] def k4_t1_loop : Scf.Loop 32 :=
  let c0_i32 : BitVec 32 := 0#32
  let c1024_i32 : BitVec 32 := 1024#32
  let v14 : BitVec 32 := Scalar.addi c0_i32 c1024_i32
  let c1_i32_9 : BitVec 32 := 1#32
  ⟨c0_i32, v14, c1_i32_9⟩
def k4_off1 (k4_t1 : Fin k4_t1_loop.trips) : Fin 2 → Nat :=
  let c0_14 : Index := 0#32
  let c0_i32 : BitVec 32 := 0#32
  let c1_i32_9 : BitVec 32 := 1#32
  let arg9 : BitVec 32 := Scf.iv c0_i32 c1_i32_9 k4_t1
  let v23 : Index := Scalar.indexCast arg9
  ![0, v23.toNat]
def k4_off2 (k4_t1 : Fin k4_t1_loop.trips) : Fin 2 → Nat :=
  let c1 : Index := 1#32
  let c0_i32 : BitVec 32 := 0#32
  let c1_i32_9 : BitVec 32 := 1#32
  let arg9 : BitVec 32 := Scf.iv c0_i32 c1_i32_9 k4_t1
  let v26 : Index := Scalar.indexCast arg9
  ![1, v26.toNat]
abbrev stage4_0 : Fin 1 → Memref sig .tc .vmem S2x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S2x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S2x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S2x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .smem S2x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .smem S2x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .smem S2x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .smem S2x1024 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S2x1024 .i32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
-- ==== ReferenceIdeal.lean ====
abbrev S2x3x384x384 : Shape := ⟨4, ![2, 3, 384, 384]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S256x128x3x3 : Shape := ⟨4, ![256, 128, 3, 3]⟩
abbrev S256 : Shape := ⟨1, ![256]⟩
abbrev S255x256x1x1 : Shape := ⟨4, ![255, 256, 1, 1]⟩
abbrev S255 : Shape := ⟨1, ![255]⟩
abbrev S3 : Shape := ⟨1, ![3]⟩
abbrev S4 : Shape := ⟨1, ![4]⟩
abbrev S3x1x1 : Shape := ⟨3, ![3, 1, 1]⟩
abbrev S1x3x1x1 : Shape := ⟨4, ![1, 3, 1, 1]⟩
abbrev S_ : Shape := ⟨0, ![]⟩
abbrev S2x3x385x385 : Shape := ⟨4, ![2, 3, 385, 385]⟩
abbrev S2x3x192x192 : Shape := ⟨4, ![2, 3, 192, 192]⟩
abbrev S64x3x1x1 : Shape := ⟨4, ![64, 3, 1, 1]⟩
abbrev S64x3 : Shape := ⟨2, ![64, 3]⟩
abbrev S64x2x192x192 : Shape := ⟨4, ![64, 2, 192, 192]⟩
abbrev S2x64x192x192 : Shape := ⟨4, ![2, 64, 192, 192]⟩
abbrev S1x64x1x1 : Shape := ⟨4, ![1, 64, 1, 1]⟩
abbrev S2x64x193x193 : Shape := ⟨4, ![2, 64, 193, 193]⟩
abbrev S2x64x96x96 : Shape := ⟨4, ![2, 64, 96, 96]⟩
abbrev S128x64x1x1 : Shape := ⟨4, ![128, 64, 1, 1]⟩
abbrev S128x64 : Shape := ⟨2, ![128, 64]⟩
abbrev S128x2x96x96 : Shape := ⟨4, ![128, 2, 96, 96]⟩
abbrev S2x128x96x96 : Shape := ⟨4, ![2, 128, 96, 96]⟩
abbrev S1x128x1x1 : Shape := ⟨4, ![1, 128, 1, 1]⟩
abbrev S2x128x97x97 : Shape := ⟨4, ![2, 128, 97, 97]⟩
abbrev S2x128x48x48 : Shape := ⟨4, ![2, 128, 48, 48]⟩
abbrev S256x128x1x1 : Shape := ⟨4, ![256, 128, 1, 1]⟩
abbrev S256x128 : Shape := ⟨2, ![256, 128]⟩
abbrev S256x2x48x48 : Shape := ⟨4, ![256, 2, 48, 48]⟩
abbrev S2x256x48x48 : Shape := ⟨4, ![2, 256, 48, 48]⟩
abbrev S1x256x1x1 : Shape := ⟨4, ![1, 256, 1, 1]⟩
abbrev S255x256 : Shape := ⟨2, ![255, 256]⟩
abbrev S255x2x48x48 : Shape := ⟨4, ![255, 2, 48, 48]⟩
abbrev S2x255x48x48 : Shape := ⟨4, ![2, 255, 48, 48]⟩
abbrev S1x255x1x1 : Shape := ⟨4, ![1, 255, 1, 1]⟩
abbrev S2x3x85x48x48 : Shape := ⟨5, ![2, 3, 85, 48, 48]⟩
abbrev S2x3x48x48x85 : Shape := ⟨5, ![2, 3, 48, 48, 85]⟩
abbrev S2x6912x85 : Shape := ⟨3, ![2, 6912, 85]⟩
abbrev S2x6912x1 : Shape := ⟨3, ![2, 6912, 1]⟩
abbrev S2x6912 : Shape := ⟨2, ![2, 6912]⟩
abbrev S2x6912x80 : Shape := ⟨3, ![2, 6912, 80]⟩
abbrev S2x6912x4 : Shape := ⟨3, ![2, 6912, 4]⟩
abbrev S2x1024 : Shape := ⟨2, ![2, 1024]⟩
abbrev S2x1024x1 : Shape := ⟨3, ![2, 1024, 1]⟩
abbrev S1 : Shape := ⟨1, ![1]⟩
abbrev S1x1x1 : Shape := ⟨3, ![1, 1, 1]⟩
abbrev S2x1024x4 : Shape := ⟨3, ![2, 1024, 4]⟩
abbrev S2x1024x2 : Shape := ⟨3, ![2, 1024, 2]⟩
abbrev S2x1024x1x2 : Shape := ⟨4, ![2, 1024, 1, 2]⟩
abbrev S2x1x1024x2 : Shape := ⟨4, ![2, 1, 1024, 2]⟩
abbrev S2x1024x1024x2 : Shape := ⟨4, ![2, 1024, 1024, 2]⟩
abbrev S2x1024x1024x1 : Shape := ⟨4, ![2, 1024, 1024, 1]⟩
abbrev S2x1024x1024 : Shape := ⟨3, ![2, 1024, 1024]⟩
abbrev S2x1x1024 : Shape := ⟨3, ![2, 1, 1024]⟩
abbrev S1024 : Shape := ⟨1, ![1024]⟩
abbrev S2x1 : Shape := ⟨2, ![2, 1]⟩
abbrev S1x1024 : Shape := ⟨2, ![1, 1024]⟩
abbrev S1x1x4 : Shape := ⟨3, ![1, 1, 4]⟩
abbrev S2x1024x5 : Shape := ⟨3, ![2, 1024, 5]⟩

abbrev nBuf : Space → Nat
  | .hbm => 527
  | .vmem => 0
  | .smem => 0
  | _ => 0

abbrev hbmTy0_0 (i : Nat) : BufTy := match i % 128 with
  | 0 => ⟨S2x3x384x384, .f32⟩
  | 1 => ⟨S64x3x3x3, .f32⟩
  | 2 => ⟨S64, .f32⟩
  | 3 => ⟨S128x64x3x3, .f32⟩
  | 4 => ⟨S128, .f32⟩
  | 5 => ⟨S256x128x3x3, .f32⟩
  | 6 => ⟨S256, .f32⟩
  | 7 => ⟨S255x256x1x1, .f32⟩
  | 8 => ⟨S255, .f32⟩
  | 9 => ⟨S3, .f32⟩
  | 10 => ⟨S4, .f32⟩
  | 11 => ⟨S4, .f32⟩
  | 12 => ⟨S3x1x1, .f32⟩
  | 13 => ⟨S1x3x1x1, .f32⟩
  | 14 => ⟨S2x3x384x384, .f32⟩
  | 15 => ⟨S2x3x384x384, .f32⟩
  | 16 => ⟨S_, .i32⟩
  | 17 => ⟨S_, .f32⟩
  | 18 => ⟨S2x3x385x385, .f32⟩
  | 19 => ⟨S2x3x192x192, .f32⟩
  | 20 => ⟨S64x3x1x1, .f32⟩
  | 21 => ⟨S64x3, .f32⟩
  | 22 => ⟨S64x2x192x192, .f32⟩
  | 23 => ⟨S2x64x192x192, .f32⟩
  | 24 => ⟨S2x3x192x192, .f32⟩
  | 25 => ⟨S64x3x1x1, .f32⟩
  | 26 => ⟨S64x3, .f32⟩
  | 27 => ⟨S64x2x192x192, .f32⟩
  | 28 => ⟨S2x64x192x192, .f32⟩
  | 29 => ⟨S2x64x192x192, .f32⟩
  | 30 => ⟨S2x3x192x192, .f32⟩
  | 31 => ⟨S64x3x1x1, .f32⟩
  | 32 => ⟨S64x3, .f32⟩
  | 33 => ⟨S64x2x192x192, .f32⟩
  | 34 => ⟨S2x64x192x192, .f32⟩
  | 35 => ⟨S2x64x192x192, .f32⟩
  | 36 => ⟨S2x3x192x192, .f32⟩
  | 37 => ⟨S64x3x1x1, .f32⟩
  | 38 => ⟨S64x3, .f32⟩
  | 39 => ⟨S64x2x192x192, .f32⟩
  | 40 => ⟨S2x64x192x192, .f32⟩
  | 41 => ⟨S2x64x192x192, .f32⟩
  | 42 => ⟨S2x3x192x192, .f32⟩
  | 43 => ⟨S64x3x1x1, .f32⟩
  | 44 => ⟨S64x3, .f32⟩
  | 45 => ⟨S64x2x192x192, .f32⟩
  | 46 => ⟨S2x64x192x192, .f32⟩
  | 47 => ⟨S2x64x192x192, .f32⟩
  | 48 => ⟨S2x3x192x192, .f32⟩
  | 49 => ⟨S64x3x1x1, .f32⟩
  | 50 => ⟨S64x3, .f32⟩
  | 51 => ⟨S64x2x192x192, .f32⟩
  | 52 => ⟨S2x64x192x192, .f32⟩
  | 53 => ⟨S2x64x192x192, .f32⟩
  | 54 => ⟨S2x3x192x192, .f32⟩
  | 55 => ⟨S64x3x1x1, .f32⟩
  | 56 => ⟨S64x3, .f32⟩
  | 57 => ⟨S64x2x192x192, .f32⟩
  | 58 => ⟨S2x64x192x192, .f32⟩
  | 59 => ⟨S2x64x192x192, .f32⟩
  | 60 => ⟨S2x3x192x192, .f32⟩
  | 61 => ⟨S64x3x1x1, .f32⟩
  | 62 => ⟨S64x3, .f32⟩
  | 63 => ⟨S64x2x192x192, .f32⟩
  | 64 => ⟨S2x64x192x192, .f32⟩
  | 65 => ⟨S2x64x192x192, .f32⟩
  | 66 => ⟨S2x3x192x192, .f32⟩
  | 67 => ⟨S64x3x1x1, .f32⟩
  | 68 => ⟨S64x3, .f32⟩
  | 69 => ⟨S64x2x192x192, .f32⟩
  | 70 => ⟨S2x64x192x192, .f32⟩
  | 71 => ⟨S2x64x192x192, .f32⟩
  | 72 => ⟨S1x64x1x1, .f32⟩
  | 73 => ⟨S2x64x192x192, .f32⟩
  | 74 => ⟨S2x64x192x192, .f32⟩
  | 75 => ⟨S2x64x192x192, .f32⟩
  | 76 => ⟨S2x64x192x192, .f32⟩
  | 77 => ⟨S_, .f32⟩
  | 78 => ⟨S2x64x192x192, .f32⟩
  | 79 => ⟨S2x64x192x192, .f32⟩
  | 80 => ⟨S_, .f32⟩
  | 81 => ⟨S2x64x192x192, .f32⟩
  | 82 => ⟨S2x64x192x192, .f32⟩
  | 83 => ⟨S2x64x192x192, .f32⟩
  | 84 => ⟨S_, .i32⟩
  | 85 => ⟨S_, .f32⟩
  | 86 => ⟨S2x64x193x193, .f32⟩
  | 87 => ⟨S2x64x96x96, .f32⟩
  | 88 => ⟨S128x64x1x1, .f32⟩
  | 89 => ⟨S128x64, .f32⟩
  | 90 => ⟨S128x2x96x96, .f32⟩
  | 91 => ⟨S2x128x96x96, .f32⟩
  | 92 => ⟨S2x64x96x96, .f32⟩
  | 93 => ⟨S128x64x1x1, .f32⟩
  | 94 => ⟨S128x64, .f32⟩
  | 95 => ⟨S128x2x96x96, .f32⟩
  | 96 => ⟨S2x128x96x96, .f32⟩
  | 97 => ⟨S2x128x96x96, .f32⟩
  | 98 => ⟨S2x64x96x96, .f32⟩
  | 99 => ⟨S128x64x1x1, .f32⟩
  | 100 => ⟨S128x64, .f32⟩
  | 101 => ⟨S128x2x96x96, .f32⟩
  | 102 => ⟨S2x128x96x96, .f32⟩
  | 103 => ⟨S2x128x96x96, .f32⟩
  | 104 => ⟨S2x64x96x96, .f32⟩
  | 105 => ⟨S128x64x1x1, .f32⟩
  | 106 => ⟨S128x64, .f32⟩
  | 107 => ⟨S128x2x96x96, .f32⟩
  | 108 => ⟨S2x128x96x96, .f32⟩
  | 109 => ⟨S2x128x96x96, .f32⟩
  | 110 => ⟨S2x64x96x96, .f32⟩
  | 111 => ⟨S128x64x1x1, .f32⟩
  | 112 => ⟨S128x64, .f32⟩
  | 113 => ⟨S128x2x96x96, .f32⟩
  | 114 => ⟨S2x128x96x96, .f32⟩
  | 115 => ⟨S2x128x96x96, .f32⟩
  | 116 => ⟨S2x64x96x96, .f32⟩
  | 117 => ⟨S128x64x1x1, .f32⟩
  | 118 => ⟨S128x64, .f32⟩
  | 119 => ⟨S128x2x96x96, .f32⟩
  | 120 => ⟨S2x128x96x96, .f32⟩
  | 121 => ⟨S2x128x96x96, .f32⟩
  | 122 => ⟨S2x64x96x96, .f32⟩
  | 123 => ⟨S128x64x1x1, .f32⟩
  | 124 => ⟨S128x64, .f32⟩
  | 125 => ⟨S128x2x96x96, .f32⟩
  | 126 => ⟨S2x128x96x96, .f32⟩
  | 127 => ⟨S2x128x96x96, .f32⟩
  | _ => ⟨S2x3x384x384, .f32⟩

abbrev hbmTy0_1 (i : Nat) : BufTy := match i % 128 with
  | 0 => ⟨S2x64x96x96, .f32⟩
  | 1 => ⟨S128x64x1x1, .f32⟩
  | 2 => ⟨S128x64, .f32⟩
  | 3 => ⟨S128x2x96x96, .f32⟩
  | 4 => ⟨S2x128x96x96, .f32⟩
  | 5 => ⟨S2x128x96x96, .f32⟩
  | 6 => ⟨S2x64x96x96, .f32⟩
  | 7 => ⟨S128x64x1x1, .f32⟩
  | 8 => ⟨S128x64, .f32⟩
  | 9 => ⟨S128x2x96x96, .f32⟩
  | 10 => ⟨S2x128x96x96, .f32⟩
  | 11 => ⟨S2x128x96x96, .f32⟩
  | 12 => ⟨S1x128x1x1, .f32⟩
  | 13 => ⟨S2x128x96x96, .f32⟩
  | 14 => ⟨S2x128x96x96, .f32⟩
  | 15 => ⟨S2x128x96x96, .f32⟩
  | 16 => ⟨S2x128x96x96, .f32⟩
  | 17 => ⟨S_, .f32⟩
  | 18 => ⟨S2x128x96x96, .f32⟩
  | 19 => ⟨S2x128x96x96, .f32⟩
  | 20 => ⟨S_, .f32⟩
  | 21 => ⟨S2x128x96x96, .f32⟩
  | 22 => ⟨S2x128x96x96, .f32⟩
  | 23 => ⟨S2x128x96x96, .f32⟩
  | 24 => ⟨S_, .i32⟩
  | 25 => ⟨S_, .f32⟩
  | 26 => ⟨S2x128x97x97, .f32⟩
  | 27 => ⟨S2x128x48x48, .f32⟩
  | 28 => ⟨S256x128x1x1, .f32⟩
  | 29 => ⟨S256x128, .f32⟩
  | 30 => ⟨S256x2x48x48, .f32⟩
  | 31 => ⟨S2x256x48x48, .f32⟩
  | 32 => ⟨S2x128x48x48, .f32⟩
  | 33 => ⟨S256x128x1x1, .f32⟩
  | 34 => ⟨S256x128, .f32⟩
  | 35 => ⟨S256x2x48x48, .f32⟩
  | 36 => ⟨S2x256x48x48, .f32⟩
  | 37 => ⟨S2x256x48x48, .f32⟩
  | 38 => ⟨S2x128x48x48, .f32⟩
  | 39 => ⟨S256x128x1x1, .f32⟩
  | 40 => ⟨S256x128, .f32⟩
  | 41 => ⟨S256x2x48x48, .f32⟩
  | 42 => ⟨S2x256x48x48, .f32⟩
  | 43 => ⟨S2x256x48x48, .f32⟩
  | 44 => ⟨S2x128x48x48, .f32⟩
  | 45 => ⟨S256x128x1x1, .f32⟩
  | 46 => ⟨S256x128, .f32⟩
  | 47 => ⟨S256x2x48x48, .f32⟩
  | 48 => ⟨S2x256x48x48, .f32⟩
  | 49 => ⟨S2x256x48x48, .f32⟩
  | 50 => ⟨S2x128x48x48, .f32⟩
  | 51 => ⟨S256x128x1x1, .f32⟩
  | 52 => ⟨S256x128, .f32⟩
  | 53 => ⟨S256x2x48x48, .f32⟩
  | 54 => ⟨S2x256x48x48, .f32⟩
  | 55 => ⟨S2x256x48x48, .f32⟩
  | 56 => ⟨S2x128x48x48, .f32⟩
  | 57 => ⟨S256x128x1x1, .f32⟩
  | 58 => ⟨S256x128, .f32⟩
  | 59 => ⟨S256x2x48x48, .f32⟩
  | 60 => ⟨S2x256x48x48, .f32⟩
  | 61 => ⟨S2x256x48x48, .f32⟩
  | 62 => ⟨S2x128x48x48, .f32⟩
  | 63 => ⟨S256x128x1x1, .f32⟩
  | 64 => ⟨S256x128, .f32⟩
  | 65 => ⟨S256x2x48x48, .f32⟩
  | 66 => ⟨S2x256x48x48, .f32⟩
  | 67 => ⟨S2x256x48x48, .f32⟩
  | 68 => ⟨S2x128x48x48, .f32⟩
  | 69 => ⟨S256x128x1x1, .f32⟩
  | 70 => ⟨S256x128, .f32⟩
  | 71 => ⟨S256x2x48x48, .f32⟩
  | 72 => ⟨S2x256x48x48, .f32⟩
  | 73 => ⟨S2x256x48x48, .f32⟩
  | 74 => ⟨S2x128x48x48, .f32⟩
  | 75 => ⟨S256x128x1x1, .f32⟩
  | 76 => ⟨S256x128, .f32⟩
  | 77 => ⟨S256x2x48x48, .f32⟩
  | 78 => ⟨S2x256x48x48, .f32⟩
  | 79 => ⟨S2x256x48x48, .f32⟩
  | 80 => ⟨S1x256x1x1, .f32⟩
  | 81 => ⟨S2x256x48x48, .f32⟩
  | 82 => ⟨S2x256x48x48, .f32⟩
  | 83 => ⟨S2x256x48x48, .f32⟩
  | 84 => ⟨S2x256x48x48, .f32⟩
  | 85 => ⟨S_, .f32⟩
  | 86 => ⟨S2x256x48x48, .f32⟩
  | 87 => ⟨S2x256x48x48, .f32⟩
  | 88 => ⟨S_, .f32⟩
  | 89 => ⟨S2x256x48x48, .f32⟩
  | 90 => ⟨S2x256x48x48, .f32⟩
  | 91 => ⟨S2x256x48x48, .f32⟩
  | 92 => ⟨S255x256, .f32⟩
  | 93 => ⟨S255x2x48x48, .f32⟩
  | 94 => ⟨S2x255x48x48, .f32⟩
  | 95 => ⟨S1x255x1x1, .f32⟩
  | 96 => ⟨S2x255x48x48, .f32⟩
  | 97 => ⟨S2x255x48x48, .f32⟩
  | 98 => ⟨S2x3x85x48x48, .f32⟩
  | 99 => ⟨S2x3x48x48x85, .f32⟩
  | 100 => ⟨S2x6912x85, .f32⟩
  | 101 => ⟨S2x6912x1, .f32⟩
  | 102 => ⟨S2x6912, .f32⟩
  | 103 => ⟨S2x6912, .f32⟩
  | 104 => ⟨S2x6912, .f32⟩
  | 105 => ⟨S_, .f32⟩
  | 106 => ⟨S2x6912, .f32⟩
  | 107 => ⟨S2x6912, .f32⟩
  | 108 => ⟨S_, .f32⟩
  | 109 => ⟨S2x6912, .f32⟩
  | 110 => ⟨S2x6912, .f32⟩
  | 111 => ⟨S_, .f32⟩
  | 112 => ⟨S2x6912, .f32⟩
  | 113 => ⟨S2x6912, .f32⟩
  | 114 => ⟨S2x6912x1, .f32⟩
  | 115 => ⟨S2x6912, .f32⟩
  | 116 => ⟨S2x6912, .f32⟩
  | 117 => ⟨S2x6912, .f32⟩
  | 118 => ⟨S_, .f32⟩
  | 119 => ⟨S2x6912, .f32⟩
  | 120 => ⟨S2x6912, .f32⟩
  | 121 => ⟨S_, .f32⟩
  | 122 => ⟨S2x6912, .f32⟩
  | 123 => ⟨S2x6912, .f32⟩
  | 124 => ⟨S_, .f32⟩
  | 125 => ⟨S2x6912, .f32⟩
  | 126 => ⟨S2x6912, .f32⟩
  | 127 => ⟨S2x6912x1, .f32⟩
  | _ => ⟨S2x3x384x384, .f32⟩

abbrev hbmTy0_2 (i : Nat) : BufTy := match i % 128 with
  | 0 => ⟨S2x6912, .f32⟩
  | 1 => ⟨S2x6912, .f32⟩
  | 2 => ⟨S2x6912, .f32⟩
  | 3 => ⟨S_, .f32⟩
  | 4 => ⟨S2x6912, .f32⟩
  | 5 => ⟨S2x6912, .f32⟩
  | 6 => ⟨S_, .f32⟩
  | 7 => ⟨S2x6912, .f32⟩
  | 8 => ⟨S2x6912, .f32⟩
  | 9 => ⟨S_, .f32⟩
  | 10 => ⟨S2x6912, .f32⟩
  | 11 => ⟨S2x6912, .f32⟩
  | 12 => ⟨S2x6912x1, .f32⟩
  | 13 => ⟨S2x6912, .f32⟩
  | 14 => ⟨S2x6912, .f32⟩
  | 15 => ⟨S2x6912, .f32⟩
  | 16 => ⟨S_, .f32⟩
  | 17 => ⟨S2x6912, .f32⟩
  | 18 => ⟨S2x6912, .f32⟩
  | 19 => ⟨S_, .f32⟩
  | 20 => ⟨S2x6912, .f32⟩
  | 21 => ⟨S2x6912, .f32⟩
  | 22 => ⟨S_, .f32⟩
  | 23 => ⟨S2x6912, .f32⟩
  | 24 => ⟨S2x6912, .f32⟩
  | 25 => ⟨S2x6912x1, .f32⟩
  | 26 => ⟨S2x6912, .f32⟩
  | 27 => ⟨S2x6912, .f32⟩
  | 28 => ⟨S2x6912, .f32⟩
  | 29 => ⟨S_, .f32⟩
  | 30 => ⟨S2x6912, .f32⟩
  | 31 => ⟨S2x6912, .f32⟩
  | 32 => ⟨S_, .f32⟩
  | 33 => ⟨S2x6912, .f32⟩
  | 34 => ⟨S2x6912, .f32⟩
  | 35 => ⟨S2x6912x80, .f32⟩
  | 36 => ⟨S2x6912x80, .f32⟩
  | 37 => ⟨S2x6912x80, .f32⟩
  | 38 => ⟨S_, .f32⟩
  | 39 => ⟨S2x6912x80, .f32⟩
  | 40 => ⟨S2x6912x80, .f32⟩
  | 41 => ⟨S_, .f32⟩
  | 42 => ⟨S2x6912x80, .f32⟩
  | 43 => ⟨S2x6912x80, .f32⟩
  | 44 => ⟨S_, .f32⟩
  | 45 => ⟨S2x6912, .f32⟩
  | 46 => ⟨S2x6912, .f32⟩
  | 47 => ⟨S2x6912x80, .i32⟩
  | 48 => ⟨S_, .f32⟩
  | 49 => ⟨S_, .i32⟩
  | 50 => ⟨S2x6912, .f32⟩
  | 51 => ⟨S2x6912, .i32⟩
  | 52 => ⟨S_, .f32⟩
  | 53 => ⟨S2x6912, .f32⟩
  | 54 => ⟨S2x6912, .i1⟩
  | 55 => ⟨S_, .f32⟩
  | 56 => ⟨S_, .f32⟩
  | 57 => ⟨S2x6912, .f32⟩
  | 58 => ⟨S2x6912, .f32⟩
  | 59 => ⟨S_, .f32⟩
  | 60 => ⟨S2x6912, .f32⟩
  | 61 => ⟨S2x6912, .f32⟩
  | 62 => ⟨S2x6912, .f32⟩
  | 63 => ⟨S_, .f32⟩
  | 64 => ⟨S2x6912, .f32⟩
  | 65 => ⟨S2x6912, .f32⟩
  | 66 => ⟨S2x6912, .f32⟩
  | 67 => ⟨S_, .f32⟩
  | 68 => ⟨S2x6912, .f32⟩
  | 69 => ⟨S2x6912, .f32⟩
  | 70 => ⟨S2x6912, .f32⟩
  | 71 => ⟨S_, .f32⟩
  | 72 => ⟨S2x6912, .f32⟩
  | 73 => ⟨S2x6912, .f32⟩
  | 74 => ⟨S2x6912, .f32⟩
  | 75 => ⟨S2x6912x1, .f32⟩
  | 76 => ⟨S2x6912x1, .f32⟩
  | 77 => ⟨S2x6912x1, .f32⟩
  | 78 => ⟨S2x6912x1, .f32⟩
  | 79 => ⟨S2x6912x4, .f32⟩
  | 80 => ⟨S2x1024, .f32⟩
  | 81 => ⟨S2x1024, .i32⟩
  | 82 => ⟨S2x1024x1, .i32⟩
  | 83 => ⟨S_, .i32⟩
  | 84 => ⟨S2x1024x1, .i32⟩
  | 85 => ⟨S2x1024x1, .i1⟩
  | 86 => ⟨S_, .i32⟩
  | 87 => ⟨S2x1024x1, .i32⟩
  | 88 => ⟨S2x1024x1, .i32⟩
  | 89 => ⟨S2x1024x1, .i32⟩
  | 90 => ⟨S1, .i32⟩
  | 91 => ⟨S_, .i32⟩
  | 92 => ⟨S2x1024x1, .i32⟩
  | 93 => ⟨S2x1024x1, .i1⟩
  | 94 => ⟨S1x1x1, .i32⟩
  | 95 => ⟨S2x1024x1, .i32⟩
  | 96 => ⟨S2x1024x1, .i1⟩
  | 97 => ⟨S2x1024x1, .i1⟩
  | 98 => ⟨S_, .i1⟩
  | 99 => ⟨S2x1024, .i1⟩
  | 100 => ⟨S2x1024x4, .f32⟩
  | 101 => ⟨S2x1024x4, .i1⟩
  | 102 => ⟨S_, .f32⟩
  | 103 => ⟨S2x1024x4, .f32⟩
  | 104 => ⟨S2x1024x4, .f32⟩
  | 105 => ⟨S_, .i32⟩
  | 106 => ⟨S2x1024, .i32⟩
  | 107 => ⟨S2x1024, .i1⟩
  | 108 => ⟨S_, .i32⟩
  | 109 => ⟨S2x1024, .i32⟩
  | 110 => ⟨S2x1024, .i32⟩
  | 111 => ⟨S2x1024, .i32⟩
  | 112 => ⟨S2x1024x1, .i32⟩
  | 113 => ⟨S1, .i32⟩
  | 114 => ⟨S_, .i32⟩
  | 115 => ⟨S2x1024x1, .i32⟩
  | 116 => ⟨S2x1024x1, .i1⟩
  | 117 => ⟨S1x1x1, .i32⟩
  | 118 => ⟨S2x1024x1, .i32⟩
  | 119 => ⟨S2x1024x1, .i1⟩
  | 120 => ⟨S2x1024x1, .i1⟩
  | 121 => ⟨S_, .i1⟩
  | 122 => ⟨S2x1024, .i1⟩
  | 123 => ⟨S2x1024, .f32⟩
  | 124 => ⟨S_, .f32⟩
  | 125 => ⟨S2x1024, .f32⟩
  | 126 => ⟨S2x1024, .f32⟩
  | 127 => ⟨S_, .i32⟩
  | _ => ⟨S2x3x384x384, .f32⟩

abbrev hbmTy0_3 (i : Nat) : BufTy := match i % 128 with
  | 0 => ⟨S2x1024, .i32⟩
  | 1 => ⟨S2x1024, .i1⟩
  | 2 => ⟨S_, .i32⟩
  | 3 => ⟨S2x1024, .i32⟩
  | 4 => ⟨S2x1024, .i32⟩
  | 5 => ⟨S2x1024, .i32⟩
  | 6 => ⟨S2x1024x1, .i32⟩
  | 7 => ⟨S1, .i32⟩
  | 8 => ⟨S_, .i32⟩
  | 9 => ⟨S2x1024x1, .i32⟩
  | 10 => ⟨S2x1024x1, .i1⟩
  | 11 => ⟨S1x1x1, .i32⟩
  | 12 => ⟨S2x1024x1, .i32⟩
  | 13 => ⟨S2x1024x1, .i1⟩
  | 14 => ⟨S2x1024x1, .i1⟩
  | 15 => ⟨S_, .i1⟩
  | 16 => ⟨S2x1024, .i1⟩
  | 17 => ⟨S2x1024, .i32⟩
  | 18 => ⟨S_, .i32⟩
  | 19 => ⟨S2x1024, .i32⟩
  | 20 => ⟨S2x1024, .i32⟩
  | 21 => ⟨S2x1024, .f32⟩
  | 22 => ⟨S_, .f32⟩
  | 23 => ⟨S2x1024, .f32⟩
  | 24 => ⟨S2x1024, .f32⟩
  | 25 => ⟨S2x1024x1, .f32⟩
  | 26 => ⟨S2x1024x4, .f32⟩
  | 27 => ⟨S2x1024x4, .f32⟩
  | 28 => ⟨S2x1024x1, .f32⟩
  | 29 => ⟨S2x1024, .f32⟩
  | 30 => ⟨S2x1024x1, .f32⟩
  | 31 => ⟨S2x1024, .f32⟩
  | 32 => ⟨S2x1024, .f32⟩
  | 33 => ⟨S2x1024x1, .f32⟩
  | 34 => ⟨S2x1024, .f32⟩
  | 35 => ⟨S2x1024x1, .f32⟩
  | 36 => ⟨S2x1024, .f32⟩
  | 37 => ⟨S2x1024, .f32⟩
  | 38 => ⟨S2x1024, .f32⟩
  | 39 => ⟨S2x1024x2, .f32⟩
  | 40 => ⟨S2x1024x1x2, .f32⟩
  | 41 => ⟨S2x1024x2, .f32⟩
  | 42 => ⟨S2x1x1024x2, .f32⟩
  | 43 => ⟨S2x1024x1024x2, .f32⟩
  | 44 => ⟨S2x1024x1024x2, .f32⟩
  | 45 => ⟨S2x1024x1024x2, .f32⟩
  | 46 => ⟨S2x1024x2, .f32⟩
  | 47 => ⟨S2x1024x1x2, .f32⟩
  | 48 => ⟨S2x1024x2, .f32⟩
  | 49 => ⟨S2x1x1024x2, .f32⟩
  | 50 => ⟨S2x1024x1024x2, .f32⟩
  | 51 => ⟨S2x1024x1024x2, .f32⟩
  | 52 => ⟨S2x1024x1024x2, .f32⟩
  | 53 => ⟨S2x1024x1024x2, .f32⟩
  | 54 => ⟨S_, .f32⟩
  | 55 => ⟨S2x1024x1024x2, .f32⟩
  | 56 => ⟨S2x1024x1024x2, .f32⟩
  | 57 => ⟨S2x1024x1024x1, .f32⟩
  | 58 => ⟨S2x1024x1024, .f32⟩
  | 59 => ⟨S2x1024x1024x1, .f32⟩
  | 60 => ⟨S2x1024x1024, .f32⟩
  | 61 => ⟨S2x1024x1024, .f32⟩
  | 62 => ⟨S2x1024x1, .f32⟩
  | 63 => ⟨S2x1x1024, .f32⟩
  | 64 => ⟨S2x1024x1024, .f32⟩
  | 65 => ⟨S2x1024x1024, .f32⟩
  | 66 => ⟨S2x1024x1024, .f32⟩
  | 67 => ⟨S2x1024x1024, .f32⟩
  | 68 => ⟨S_, .f32⟩
  | 69 => ⟨S2x1024x1024, .f32⟩
  | 70 => ⟨S2x1024x1024, .f32⟩
  | 71 => ⟨S2x1024x1024, .f32⟩
  | 72 => ⟨S1024, .i32⟩
  | 73 => ⟨S_, .i1⟩
  | 74 => ⟨S2x1024, .i1⟩
  | 75 => ⟨S_, .i32⟩
  | 76 => ⟨S_, .i32⟩
  | 77 => ⟨S2x1024x1024, .f32⟩
  | 78 => ⟨S1024, .i32⟩
  | 79 => ⟨S_, .i32⟩
  | 80 => ⟨S_, .i32⟩
  | 81 => ⟨S2x1024, .i1⟩
  | 82 => ⟨S_, .i32⟩
  | 83 => ⟨S_, .i1⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S2x1x1024, .f32⟩
  | 95 => ⟨S2x1024, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S2x1, .i1⟩
  | 104 => ⟨S_, .f32⟩
  | 105 => ⟨S2x1024, .f32⟩
  | 106 => ⟨S2x1024, .i1⟩
  | 107 => ⟨S_, .i32⟩
  | 108 => ⟨S1024, .i32⟩
  | 109 => ⟨S1024, .i1⟩
  | 110 => ⟨S1x1024, .i1⟩
  | 111 => ⟨S2x1024, .i1⟩
  | 112 => ⟨S2x1024, .i1⟩
  | 113 => ⟨S2x1024, .i1⟩
  | 114 => ⟨S2x1024, .i1⟩
  | 115 => ⟨S2x1024, .i1⟩
  | 116 => ⟨S2x1024, .i1⟩
  | 117 => ⟨S_, .i32⟩
  | 118 => ⟨S_, .i32⟩
  | 119 => ⟨S1x1x4, .f32⟩
  | 120 => ⟨S2x1024x4, .f32⟩
  | 121 => ⟨S2x1024x4, .f32⟩
  | 122 => ⟨S_, .f32⟩
  | 123 => ⟨S2x1024x4, .f32⟩
  | 124 => ⟨S2x1024x4, .f32⟩
  | 125 => ⟨S_, .f32⟩
  | 126 => ⟨S_, .f32⟩
  | 127 => ⟨S2x1024x4, .f32⟩
  | _ => ⟨S2x3x384x384, .f32⟩

abbrev hbmTy0_4 (i : Nat) : BufTy := match i % 128 with
  | 0 => ⟨S2x1024x4, .f32⟩
  | 1 => ⟨S1x1x4, .f32⟩
  | 2 => ⟨S2x1024x4, .f32⟩
  | 3 => ⟨S2x1024x4, .f32⟩
  | 4 => ⟨S2x1024, .f32⟩
  | 5 => ⟨S2x1024x1, .f32⟩
  | 6 => ⟨S2x1024x4, .f32⟩
  | 7 => ⟨S2x1024x4, .f32⟩
  | 8 => ⟨S2x1024, .f32⟩
  | 9 => ⟨S2x1024x1, .f32⟩
  | 10 => ⟨S2x1024x5, .f32⟩
  | 11 => ⟨S_, .i32⟩
  | 12 => ⟨S_, .i32⟩
  | 13 => ⟨S2x1024, .i32⟩
  | 14 => ⟨S2x1024, .i32⟩
  | _ => ⟨S2x3x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x3x384x384, .f32⟩

abbrev bufTy : (tb : Table) → Fin (tcTables nBuf tb) → BufTy
  | .hbm, ⟨i, _⟩ => hbmTy i
  | _, _ => ⟨S2x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v61 : Ref sig .tc := ⟨.hbm, 83, rfl⟩
abbrev main_c_2 : Ref sig .tc := ⟨.hbm, 84, rfl⟩
abbrev main_call2_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_call3_v0 : Ref sig .tc := ⟨.hbm, 143, rfl⟩
abbrev main_call3_v1 : Ref sig .tc := ⟨.hbm, 144, rfl⟩
abbrev main_call3_cst : Ref sig .tc := ⟨.hbm, 145, rfl⟩
abbrev main_call3_v2 : Ref sig .tc := ⟨.hbm, 146, rfl⟩
abbrev main_call3_v3 : Ref sig .tc := ⟨.hbm, 147, rfl⟩
abbrev main_call3_cst_0 : Ref sig .tc := ⟨.hbm, 148, rfl⟩
abbrev main_call3_v4 : Ref sig .tc := ⟨.hbm, 149, rfl⟩
abbrev main_call3_v5 : Ref sig .tc := ⟨.hbm, 150, rfl⟩
abbrev main_v119 : Ref sig .tc := ⟨.hbm, 151, rfl⟩
abbrev main_c_3 : Ref sig .tc := ⟨.hbm, 152, rfl⟩
abbrev main_call4_v0 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_call5_v0 : Ref sig .tc := ⟨.hbm, 211, rfl⟩
abbrev main_call5_v1 : Ref sig .tc := ⟨.hbm, 212, rfl⟩
abbrev main_call5_cst : Ref sig .tc := ⟨.hbm, 213, rfl⟩
abbrev main_call5_v2 : Ref sig .tc := ⟨.hbm, 214, rfl⟩
abbrev main_call5_v3 : Ref sig .tc := ⟨.hbm, 215, rfl⟩
abbrev main_call5_cst_0 : Ref sig .tc := ⟨.hbm, 216, rfl⟩
abbrev main_call5_v4 : Ref sig .tc := ⟨.hbm, 217, rfl⟩
abbrev main_call5_v5 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_4 : Ref sig .tc := ⟨.hbm, 233, rfl⟩
abbrev main_v191 : Ref sig .tc := ⟨.hbm, 234, rfl⟩
abbrev main_v192 : Ref sig .tc := ⟨.hbm, 235, rfl⟩
abbrev main_cst_5 : Ref sig .tc := ⟨.hbm, 236, rfl⟩
abbrev main_v193 : Ref sig .tc := ⟨.hbm, 237, rfl⟩
abbrev main_v194 : Ref sig .tc := ⟨.hbm, 238, rfl⟩
abbrev main_cst_6 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_cst_7 : Ref sig .tc := ⟨.hbm, 246, rfl⟩
abbrev main_v201 : Ref sig .tc := ⟨.hbm, 247, rfl⟩
abbrev main_v202 : Ref sig .tc := ⟨.hbm, 248, rfl⟩
abbrev main_cst_8 : Ref sig .tc := ⟨.hbm, 249, rfl⟩
abbrev main_v203 : Ref sig .tc := ⟨.hbm, 250, rfl⟩
abbrev main_v204 : Ref sig .tc := ⟨.hbm, 251, rfl⟩
abbrev main_cst_9 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_10 : Ref sig .tc := ⟨.hbm, 259, rfl⟩
abbrev main_v211 : Ref sig .tc := ⟨.hbm, 260, rfl⟩
abbrev main_v212 : Ref sig .tc := ⟨.hbm, 261, rfl⟩
abbrev main_cst_11 : Ref sig .tc := ⟨.hbm, 262, rfl⟩
abbrev main_v213 : Ref sig .tc := ⟨.hbm, 263, rfl⟩
abbrev main_v214 : Ref sig .tc := ⟨.hbm, 264, rfl⟩
abbrev main_cst_12 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_cst_13 : Ref sig .tc := ⟨.hbm, 272, rfl⟩
abbrev main_v221 : Ref sig .tc := ⟨.hbm, 273, rfl⟩
abbrev main_v222 : Ref sig .tc := ⟨.hbm, 274, rfl⟩
abbrev main_cst_14 : Ref sig .tc := ⟨.hbm, 275, rfl⟩
abbrev main_v223 : Ref sig .tc := ⟨.hbm, 276, rfl⟩
abbrev main_v224 : Ref sig .tc := ⟨.hbm, 277, rfl⟩
abbrev main_cst_15 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_cst_16 : Ref sig .tc := ⟨.hbm, 285, rfl⟩
abbrev main_v231 : Ref sig .tc := ⟨.hbm, 286, rfl⟩
abbrev main_v232 : Ref sig .tc := ⟨.hbm, 287, rfl⟩
abbrev main_cst_17 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_v236 : Ref sig .tc := ⟨.hbm, 292, rfl⟩
abbrev main_v237 : Ref sig .tc := ⟨.hbm, 293, rfl⟩
abbrev main_cst_18 : Ref sig .tc := ⟨.hbm, 294, rfl⟩
abbrev main_v238 : Ref sig .tc := ⟨.hbm, 295, rfl⟩
abbrev main_v239 : Ref sig .tc := ⟨.hbm, 296, rfl⟩
abbrev main_cst_19 : Ref sig .tc := ⟨.hbm, 297, rfl⟩
abbrev main_v240 : Ref sig .tc := ⟨.hbm, 298, rfl⟩
abbrev main_v241 : Ref sig .tc := ⟨.hbm, 299, rfl⟩
abbrev main_cst_20 : Ref sig .tc := ⟨.hbm, 300, rfl⟩
abbrev main_v242 : Ref sig .tc := ⟨.hbm, 301, rfl⟩
abbrev main_v243 : Ref sig .tc := ⟨.hbm, 302, rfl⟩
abbrev main_call6_v0 : Ref sig .tc := ⟨.hbm, 303, rfl⟩
abbrev main_call6_cst : Ref sig .tc := ⟨.hbm, 304, rfl⟩
abbrev main_call6_c : Ref sig .tc := ⟨.hbm, 305, rfl⟩
abbrev main_call6_v1_0 : Ref sig .tc := ⟨.hbm, 306, rfl⟩
abbrev main_v244 : Ref sig .tc := ⟨.hbm, 307, rfl⟩
abbrev main_cst_21 : Ref sig .tc := ⟨.hbm, 308, rfl⟩
abbrev main_v245 : Ref sig .tc := ⟨.hbm, 309, rfl⟩
abbrev main_v246 : Ref sig .tc := ⟨.hbm, 310, rfl⟩
abbrev main_cst_22 : Ref sig .tc := ⟨.hbm, 311, rfl⟩
abbrev main_call7_v0 : Ref sig .tc := ⟨.hbm, 312, rfl⟩
abbrev main_call7_v1 : Ref sig .tc := ⟨.hbm, 313, rfl⟩
abbrev main_v247 : Ref sig .tc := ⟨.hbm, 314, rfl⟩
abbrev main_cst_23 : Ref sig .tc := ⟨.hbm, 315, rfl⟩
abbrev main_v248 : Ref sig .tc := ⟨.hbm, 316, rfl⟩
abbrev main_v249 : Ref sig .tc := ⟨.hbm, 317, rfl⟩
abbrev main_v250 : Ref sig .tc := ⟨.hbm, 318, rfl⟩
abbrev main_cst_24 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_cst_25 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_cst_26 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_v262 : Ref sig .tc := ⟨.hbm, 333, rfl⟩
abbrev main_v263 : Ref sig .tc := ⟨.hbm, 334, rfl⟩
abbrev main_v264 : Ref sig .tc := ⟨.hbm, 335, rfl⟩
abbrev main_values : Ref sig .tc := ⟨.hbm, 336, rfl⟩
abbrev main_indices : Ref sig .tc := ⟨.hbm, 337, rfl⟩
abbrev main_v265 : Ref sig .tc := ⟨.hbm, 338, rfl⟩
abbrev main_call8_c : Ref sig .tc := ⟨.hbm, 339, rfl⟩
abbrev main_call8_v0 : Ref sig .tc := ⟨.hbm, 340, rfl⟩
abbrev main_call8_v1 : Ref sig .tc := ⟨.hbm, 341, rfl⟩
abbrev main_call8_c_0 : Ref sig .tc := ⟨.hbm, 342, rfl⟩
abbrev main_call8_v2 : Ref sig .tc := ⟨.hbm, 343, rfl⟩
abbrev main_call8_v3 : Ref sig .tc := ⟨.hbm, 344, rfl⟩
abbrev main_call8_v4 : Ref sig .tc := ⟨.hbm, 345, rfl⟩
abbrev main_call8_c_1 : Ref sig .tc := ⟨.hbm, 346, rfl⟩
abbrev main_call8_c_2 : Ref sig .tc := ⟨.hbm, 347, rfl⟩
abbrev main_call8_v5 : Ref sig .tc := ⟨.hbm, 348, rfl⟩
abbrev main_call8_v6 : Ref sig .tc := ⟨.hbm, 349, rfl⟩
abbrev main_call8_v7 : Ref sig .tc := ⟨.hbm, 350, rfl⟩
abbrev main_call8_v8 : Ref sig .tc := ⟨.hbm, 351, rfl⟩
abbrev main_call8_v9 : Ref sig .tc := ⟨.hbm, 352, rfl⟩
abbrev main_call8_v10 : Ref sig .tc := ⟨.hbm, 353, rfl⟩
abbrev main_call8_c_3 : Ref sig .tc := ⟨.hbm, 354, rfl⟩
abbrev main_call8_v11 : Ref sig .tc := ⟨.hbm, 355, rfl⟩
abbrev main_call8_v12 : Ref sig .tc := ⟨.hbm, 356, rfl⟩
abbrev main_call8_v13 : Ref sig .tc := ⟨.hbm, 357, rfl⟩
abbrev main_call8_cst : Ref sig .tc := ⟨.hbm, 358, rfl⟩
abbrev main_call8_v14 : Ref sig .tc := ⟨.hbm, 359, rfl⟩
abbrev main_v266 : Ref sig .tc := ⟨.hbm, 360, rfl⟩
abbrev main_call9_c : Ref sig .tc := ⟨.hbm, 361, rfl⟩
abbrev main_call9_v0 : Ref sig .tc := ⟨.hbm, 362, rfl⟩
abbrev main_call9_v1 : Ref sig .tc := ⟨.hbm, 363, rfl⟩
abbrev main_call9_c_0 : Ref sig .tc := ⟨.hbm, 364, rfl⟩
abbrev main_call9_v2 : Ref sig .tc := ⟨.hbm, 365, rfl⟩
abbrev main_call9_v3 : Ref sig .tc := ⟨.hbm, 366, rfl⟩
abbrev main_call9_v4 : Ref sig .tc := ⟨.hbm, 367, rfl⟩
abbrev main_call9_v5 : Ref sig .tc := ⟨.hbm, 368, rfl⟩
abbrev main_call9_c_1 : Ref sig .tc := ⟨.hbm, 369, rfl⟩
abbrev main_call9_c_2 : Ref sig .tc := ⟨.hbm, 370, rfl⟩
abbrev main_call9_v6 : Ref sig .tc := ⟨.hbm, 371, rfl⟩
abbrev main_call9_v7 : Ref sig .tc := ⟨.hbm, 372, rfl⟩
abbrev main_call9_v8 : Ref sig .tc := ⟨.hbm, 373, rfl⟩
abbrev main_call9_v9 : Ref sig .tc := ⟨.hbm, 374, rfl⟩
abbrev main_call9_v10 : Ref sig .tc := ⟨.hbm, 375, rfl⟩
abbrev main_call9_v11 : Ref sig .tc := ⟨.hbm, 376, rfl⟩
abbrev main_call9_c_3 : Ref sig .tc := ⟨.hbm, 377, rfl⟩
abbrev main_call9_v12 : Ref sig .tc := ⟨.hbm, 378, rfl⟩
abbrev main_call9_v13 : Ref sig .tc := ⟨.hbm, 379, rfl⟩
abbrev main_call9_cst : Ref sig .tc := ⟨.hbm, 380, rfl⟩
abbrev main_call9_v14 : Ref sig .tc := ⟨.hbm, 381, rfl⟩
abbrev main_v267 : Ref sig .tc := ⟨.hbm, 382, rfl⟩
abbrev main_call10_c : Ref sig .tc := ⟨.hbm, 383, rfl⟩
abbrev main_call10_v0 : Ref sig .tc := ⟨.hbm, 384, rfl⟩
abbrev main_call10_v1 : Ref sig .tc := ⟨.hbm, 385, rfl⟩
abbrev main_call10_c_0 : Ref sig .tc := ⟨.hbm, 386, rfl⟩
abbrev main_call10_v2 : Ref sig .tc := ⟨.hbm, 387, rfl⟩
abbrev main_call10_v3 : Ref sig .tc := ⟨.hbm, 388, rfl⟩
abbrev main_call10_v4 : Ref sig .tc := ⟨.hbm, 389, rfl⟩
abbrev main_call10_v5 : Ref sig .tc := ⟨.hbm, 390, rfl⟩
abbrev main_call10_c_1 : Ref sig .tc := ⟨.hbm, 391, rfl⟩
abbrev main_call10_c_2 : Ref sig .tc := ⟨.hbm, 392, rfl⟩
abbrev main_call10_v6 : Ref sig .tc := ⟨.hbm, 393, rfl⟩
abbrev main_call10_v7 : Ref sig .tc := ⟨.hbm, 394, rfl⟩
abbrev main_call10_v8 : Ref sig .tc := ⟨.hbm, 395, rfl⟩
abbrev main_call10_v9 : Ref sig .tc := ⟨.hbm, 396, rfl⟩
abbrev main_call10_v10 : Ref sig .tc := ⟨.hbm, 397, rfl⟩
abbrev main_call10_v11 : Ref sig .tc := ⟨.hbm, 398, rfl⟩
abbrev main_call10_c_3 : Ref sig .tc := ⟨.hbm, 399, rfl⟩
abbrev main_call10_v12 : Ref sig .tc := ⟨.hbm, 400, rfl⟩
abbrev main_call10_v13 : Ref sig .tc := ⟨.hbm, 401, rfl⟩
abbrev main_call10_c_4 : Ref sig .tc := ⟨.hbm, 402, rfl⟩
abbrev main_call10_v14 : Ref sig .tc := ⟨.hbm, 403, rfl⟩
abbrev main_v268 : Ref sig .tc := ⟨.hbm, 404, rfl⟩
abbrev main_v269 : Ref sig .tc := ⟨.hbm, 405, rfl⟩
abbrev main_cst_27 : Ref sig .tc := ⟨.hbm, 406, rfl⟩
abbrev main_v270 : Ref sig .tc := ⟨.hbm, 407, rfl⟩
abbrev main_v271 : Ref sig .tc := ⟨.hbm, 408, rfl⟩
abbrev main_v272 : Ref sig .tc := ⟨.hbm, 409, rfl⟩
abbrev main_v273 : Ref sig .tc := ⟨.hbm, 410, rfl⟩
abbrev main_v274 : Ref sig .tc := ⟨.hbm, 411, rfl⟩
abbrev main_v275 : Ref sig .tc := ⟨.hbm, 412, rfl⟩
abbrev main_v276 : Ref sig .tc := ⟨.hbm, 413, rfl⟩
abbrev main_v277 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_v287 : Ref sig .tc := ⟨.hbm, 424, rfl⟩
abbrev main_v288 : Ref sig .tc := ⟨.hbm, 425, rfl⟩
abbrev main_v289 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_v299 : Ref sig .tc := ⟨.hbm, 436, rfl⟩
abbrev main_v300 : Ref sig .tc := ⟨.hbm, 437, rfl⟩
abbrev main_cst_28 : Ref sig .tc := ⟨.hbm, 438, rfl⟩
abbrev main_v301 : Ref sig .tc := ⟨.hbm, 439, rfl⟩
abbrev main_v302 : Ref sig .tc := ⟨.hbm, 440, rfl⟩
abbrev main_v303 : Ref sig .tc := ⟨.hbm, 441, rfl⟩
abbrev main_v304 : Ref sig .tc := ⟨.hbm, 442, rfl⟩
abbrev main_v305 : Ref sig .tc := ⟨.hbm, 443, rfl⟩
abbrev main_v306 : Ref sig .tc := ⟨.hbm, 444, rfl⟩
abbrev main_v307 : Ref sig .tc := ⟨.hbm, 445, rfl⟩
abbrev main_v308 : Ref sig .tc := ⟨.hbm, 446, rfl⟩
abbrev main_v309 : Ref sig .tc := ⟨.hbm, 447, rfl⟩
abbrev main_v310 : Ref sig .tc := ⟨.hbm, 448, rfl⟩
abbrev main_v311 : Ref sig .tc := ⟨.hbm, 449, rfl⟩
abbrev main_v312 : Ref sig .tc := ⟨.hbm, 450, rfl⟩
abbrev main_v313 : Ref sig .tc := ⟨.hbm, 451, rfl⟩
abbrev main_cst_29 : Ref sig .tc := ⟨.hbm, 452, rfl⟩
abbrev main_v314 : Ref sig .tc := ⟨.hbm, 453, rfl⟩
abbrev main_v315 : Ref sig .tc := ⟨.hbm, 454, rfl⟩
abbrev main_v316 : Ref sig .tc := ⟨.hbm, 455, rfl⟩
abbrev main_v317 : Ref sig .tc := ⟨.hbm, 456, rfl⟩
abbrev main_c_30 : Ref sig .tc := ⟨.hbm, 457, rfl⟩
abbrev main_v318 : Ref sig .tc := ⟨.hbm, 458, rfl⟩
abbrev main_c_31 : Ref sig .tc := ⟨.hbm, 459, rfl⟩
abbrev main_c_32 : Ref sig .tc := ⟨.hbm, 460, rfl⟩
abbrev main_v319_0 : Ref sig .tc := ⟨.hbm, 461, rfl⟩
abbrev main_v319_1 : Ref sig .tc := ⟨.hbm, 462, rfl⟩
abbrev main_v319_2 : Ref sig .tc := ⟨.hbm, 463, rfl⟩
abbrev main_v319_3 : Ref sig .tc := ⟨.hbm, 464, rfl⟩
abbrev main_v319_4 : Ref sig .tc := ⟨.hbm, 465, rfl⟩
abbrev main_while0c_c_40 : Ref sig .tc := ⟨.hbm, 466, rfl⟩
abbrev main_while0c_v334 : Ref sig .tc := ⟨.hbm, 467, rfl⟩
abbrev main_while0b_c_40 : Ref sig .tc := ⟨.hbm, 468, rfl⟩
abbrev main_while0b_v334 : Ref sig .tc := ⟨.hbm, 469, rfl⟩
abbrev main_while0b_call11_c : Ref sig .tc := ⟨.hbm, 470, rfl⟩
abbrev main_while0b_call11_v0 : Ref sig .tc := ⟨.hbm, 471, rfl⟩
abbrev main_while0b_call11_v1 : Ref sig .tc := ⟨.hbm, 472, rfl⟩
abbrev main_while0b_call11_c_0 : Ref sig .tc := ⟨.hbm, 473, rfl⟩
abbrev main_while0b_call11_v2 : Ref sig .tc := ⟨.hbm, 474, rfl⟩
abbrev main_while0b_call11_v3 : Ref sig .tc := ⟨.hbm, 475, rfl⟩
abbrev main_while0b_call11_c_1 : Ref sig .tc := ⟨.hbm, 476, rfl⟩
abbrev main_while0b_call11_c_2 : Ref sig .tc := ⟨.hbm, 477, rfl⟩
abbrev main_while0b_call11_v4 : Ref sig .tc := ⟨.hbm, 478, rfl⟩
abbrev main_while0b_v335 : Ref sig .tc := ⟨.hbm, 479, rfl⟩
abbrev main_while0b_call12_c : Ref sig .tc := ⟨.hbm, 480, rfl⟩
abbrev main_while0b_call12_v0 : Ref sig .tc := ⟨.hbm, 481, rfl⟩
abbrev main_while0b_call12_v1 : Ref sig .tc := ⟨.hbm, 482, rfl⟩
abbrev main_while0b_call12_c_0 : Ref sig .tc := ⟨.hbm, 483, rfl⟩
abbrev main_while0b_call12_v2 : Ref sig .tc := ⟨.hbm, 484, rfl⟩
abbrev main_while0b_call12_v3 : Ref sig .tc := ⟨.hbm, 485, rfl⟩
abbrev main_while0b_call12_c_1 : Ref sig .tc := ⟨.hbm, 486, rfl⟩
abbrev main_while0b_v336 : Ref sig .tc := ⟨.hbm, 487, rfl⟩
abbrev main_while0b_cst_41 : Ref sig .tc := ⟨.hbm, 488, rfl⟩
abbrev main_while0b_v337 : Ref sig .tc := ⟨.hbm, 489, rfl⟩
abbrev main_while0b_v338 : Ref sig .tc := ⟨.hbm, 490, rfl⟩
abbrev main_while0b_v339 : Ref sig .tc := ⟨.hbm, 491, rfl⟩
abbrev main_while0b_v340 : Ref sig .tc := ⟨.hbm, 492, rfl⟩
abbrev main_while0b_v341 : Ref sig .tc := ⟨.hbm, 493, rfl⟩
abbrev main_while0b_v342 : Ref sig .tc := ⟨.hbm, 494, rfl⟩
abbrev main_while0b_v343 : Ref sig .tc := ⟨.hbm, 495, rfl⟩
abbrev main_while0b_v344 : Ref sig .tc := ⟨.hbm, 496, rfl⟩
abbrev main_while0b_v345 : Ref sig .tc := ⟨.hbm, 497, rfl⟩
abbrev main_while0b_v346 : Ref sig .tc := ⟨.hbm, 498, rfl⟩
abbrev main_while0b_v347 : Ref sig .tc := ⟨.hbm, 499, rfl⟩
abbrev main_while0b_v348 : Ref sig .tc := ⟨.hbm, 500, rfl⟩
abbrev main_while0b_c_42 : Ref sig .tc := ⟨.hbm, 501, rfl⟩
abbrev main_while0b_v349 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩
abbrev main_cst_33 : Ref sig .tc := ⟨.hbm, 506, rfl⟩
abbrev main_v323 : Ref sig .tc := ⟨.hbm, 507, rfl⟩
abbrev main_v324 : Ref sig .tc := ⟨.hbm, 508, rfl⟩
abbrev main_cst_34 : Ref sig .tc := ⟨.hbm, 509, rfl⟩
abbrev main_call13_v0 : Ref sig .tc := ⟨.hbm, 510, rfl⟩
abbrev main_call13_v1 : Ref sig .tc := ⟨.hbm, 511, rfl⟩
abbrev main_call13_v2 : Ref sig .tc := ⟨.hbm, 512, rfl⟩
abbrev main_call13_v3 : Ref sig .tc := ⟨.hbm, 513, rfl⟩
abbrev main_call13_v4 : Ref sig .tc := ⟨.hbm, 514, rfl⟩
abbrev main_v325 : Ref sig .tc := ⟨.hbm, 515, rfl⟩
abbrev main_v326 : Ref sig .tc := ⟨.hbm, 516, rfl⟩
abbrev main_v327 : Ref sig .tc := ⟨.hbm, 517, rfl⟩
abbrev main_v328 : Ref sig .tc := ⟨.hbm, 518, rfl⟩
abbrev main_v329 : Ref sig .tc := ⟨.hbm, 519, rfl⟩
abbrev main_v330 : Ref sig .tc := ⟨.hbm, 520, rfl⟩
abbrev main_v331 : Ref sig .tc := ⟨.hbm, 521, rfl⟩
abbrev main_v332 : Ref sig .tc := ⟨.hbm, 522, rfl⟩
abbrev main_c_35 : Ref sig .tc := ⟨.hbm, 523, rfl⟩
abbrev main_call14_v0 : Ref sig .tc := ⟨.hbm, 524, rfl⟩
abbrev main_call14_v1 : Ref sig .tc := ⟨.hbm, 525, rfl⟩
abbrev main_v333 : Ref sig .tc := ⟨.hbm, 526, rfl⟩

abbrev nD : Nat := 1
abbrev τ : Topo := Topo.v7x

variable {F : FTy → Type} [FloatOps F]

abbrev main_while0_count : Scf.Loop 32 := ⟨0#32, 1024#32, 1#32⟩
-- ==== Proof.KernelRun.lean ====
/-
  The kernel's run with its results: every run ends with each result at the last boundary's contents and the
  arguments unchanged. The launch is set up as for the frame; only the final reading is stronger.
-/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with each result at the last boundary's contents, and the arguments unchanged. -/
theorem run_results : θ_run defs (onTc (τ := τ) (main (F := F))) ⟨m, fun _ => 0, ρ⟩ (fun r => ∀ c : Dev nD,
      r.2.mem ((c.tc : Thread nD τ).loc main_v197) = W40 m ρ c (Proc.devRef .tc main_v197)
      ∧ r.2.mem ((c.tc : Thread nD τ).loc main_v198) = W40 m ρ c (Proc.devRef .tc main_v198)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W40 m ρ c b)
    (hfin := fun c s' => by
      iintro ⟨⟨Hh, -⟩, HSI⟩
      unfold StableHlo.held
      imodintro
      iapply (pointsTo_read_all (Pipeline.ucRefs τ sig) (fun b => (((c : Thread nD τ)).1, b)) (W40 m ρ c) s')
      isplitl [Hh] <;> iassumption)
    (hQ := fun s h hz => fun c =>
      ⟨h c _ (mem_uc main_v197 (by decide)), h c _ (mem_uc main_v198 (by decide)),
       (h c _ (mem_uc main_arg0 (by decide))).trans (W40_main_arg0 m ρ c),
       (h c _ (mem_uc main_arg1 (by decide))).trans (W40_main_arg1 m ρ c),
       (h c _ (mem_uc main_arg2 (by decide))).trans (W40_main_arg2 m ρ c),
       (h c _ (mem_uc main_arg3 (by decide))).trans (W40_main_arg3 m ρ c),
       (h c _ (mem_uc main_arg4 (by decide))).trans (W40_main_arg4 m ρ c),
       (h c _ (mem_uc main_arg5 (by decide))).trans (W40_main_arg5 m ρ c),
       (h c _ (mem_uc main_arg6 (by decide))).trans (W40_main_arg6 m ρ c),
       (h c _ (mem_uc main_arg7 (by decide))).trans (W40_main_arg7 m ρ c),
       (h c _ (mem_uc main_arg8 (by decide))).trans (W40_main_arg8 m ρ c)⟩)

end Cert.KernelIdeal.Hand

end
-- ==== Proof.RefRun.lean ====
/-
  The reference's run: every argument array ends unchanged, every semaphore reads zero, and each result
  ends at the fold of the program's stretches and loop over the launch contents.
-/
module

public import proofs.«01_k».proof.Proof.Gen.ReferenceIdeal.Run
public import Idealize.ShloMosaic.Lib.Quiescent

@[expose] public section

set_option maxRecDepth 8000

noncomputable section

namespace Cert.ReferenceIdeal.Hand

open Idealize.ShloMosaic Idealize.ShloMosaic.StableHlo Idealize.ShloMosaic.TcCoe Idealize.SL.Sem
open Cert.ReferenceIdeal Cert.ReferenceIdeal.Gen Cert.ReferenceIdeal.Value

variable {F : FTy → Type} [FloatOps F]

/-! ## The contents after each stretch before the loop -/

/-- The contents before the first stretch. -/
def X0 (V : Valuation τ sig (Elt F)) : Valuation τ sig (Elt F) := V
/-- The contents after `hostOps0`. -/
def X1 (V : Valuation τ sig (Elt F)) : Valuation τ sig (Elt F) := after hostOps0 (X0 V)
/-- `hostOps0` leaves what it does not write. -/
theorem X1_of (V : Valuation τ sig (Elt F)) (r : Ref sig .tc) (h : r ∉ hostOps0_W) :
    X1 V (Proc.devRef .tc r) = X0 V (Proc.devRef .tc r) :=
  after_of_writes_sub hostOps0 (X0 V) hostOps0_writes h
/-- The contents after `hostOps0_1`. -/
def X2 (V : Valuation τ sig (Elt F)) : Valuation τ sig (Elt F) := after hostOps0_1 (X1 V)
/-- `hostOps0_1` leaves what it does not write. -/
theorem X2_of (V : Valuation τ sig (Elt F)) (r : Ref sig .tc) (h : r ∉ hostOps0_1_W) :
    X2 V (Proc.devRef .tc r) = X1 V (Proc.devRef .tc r) :=
  after_of_writes_sub hostOps0_1 (X1 V) hostOps0_1_writes h
/-- The contents after `hostOps0_2`. -/
def X3 (V : Valuation τ sig (Elt F)) : Valuation τ sig (Elt F) := after hostOps0_2 (X2 V)
/-- `hostOps0_2` leaves what it does not write. -/
theorem X3_of (V : Valuation τ sig (Elt F)) (r : Ref sig .tc) (h : r ∉ hostOps0_2_W) :
    X3 V (Proc.devRef .tc r) = X2 V (Proc.devRef .tc r) :=
  after_of_writes_sub hostOps0_2 (X2 V) hostOps0_2_writes h
/-- The contents after `hostOps0_3`. -/
def X4 (V : Valuation τ sig (Elt F)) : Valuation τ sig (Elt F) := after hostOps0_3 (X3 V)
/-- `hostOps0_3` leaves what it does not write. -/
theorem X4_of (V : Valuation τ sig (Elt F)) (r : Ref sig .tc) (h : r ∉ hostOps0_3_W) :
    X4 V (Proc.devRef .tc r) = X3 V (Proc.devRef .tc r) :=
  after_of_writes_sub hostOps0_3 (X3 V) hostOps0_3_writes h
/-- The contents after `hostOps0_4`. -/
def X5 (V : Valuation τ sig (Elt F)) : Valuation τ sig (Elt F) := after hostOps0_4 (X4 V)
/-- `hostOps0_4` leaves what it does not write. -/
theorem X5_of (V : Valuation τ sig (Elt F)) (r : Ref sig .tc) (h : r ∉ hostOps0_4_W) :
    X5 V (Proc.devRef .tc r) = X4 V (Proc.devRef .tc r) :=
  after_of_writes_sub hostOps0_4 (X4 V) hostOps0_4_writes h
/-- The contents after `hostOps0_5`. -/
def X6 (V : Valuation τ sig (Elt F)) : Valuation τ sig (Elt F) := after hostOps0_5 (X5 V)
/-- `hostOps0_5` leaves what it does not write. -/
theorem X6_of (V : Valuation τ sig (Elt F)) (r : Ref sig .tc) (h : r ∉ hostOps0_5_W) :
    X6 V (Proc.devRef .tc r) = X5 V (Proc.devRef .tc r) :=
  after_of_writes_sub hostOps0_5 (X5 V) hostOps0_5_writes h
/-- The contents after `hostOps0_6`. -/
def X7 (V : Valuation τ sig (Elt F)) : Valuation τ sig (Elt F) := after hostOps0_6 (X6 V)
/-- `hostOps0_6` leaves what it does not write. -/
theorem X7_of (V : Valuation τ sig (Elt F)) (r : Ref sig .tc) (h : r ∉ hostOps0_6_W) :
    X7 V (Proc.devRef .tc r) = X6 V (Proc.devRef .tc r) :=
  after_of_writes_sub hostOps0_6 (X6 V) hostOps0_6_writes h
/-- The contents after `hostOps0_7`. -/
def X8 (V : Valuation τ sig (Elt F)) : Valuation τ sig (Elt F) := after hostOps0_7 (X7 V)
/-- `hostOps0_7` leaves what it does not write. -/
theorem X8_of (V : Valuation τ sig (Elt F)) (r : Ref sig .tc) (h : r ∉ hostOps0_7_W) :
    X8 V (Proc.devRef .tc r) = X7 V (Proc.devRef .tc r) :=
  after_of_writes_sub hostOps0_7 (X7 V) hostOps0_7_writes h
/-- The contents after `hostOps0_8`. -/
def X9 (V : Valuation τ sig (Elt F)) : Valuation τ sig (Elt F) := after hostOps0_8 (X8 V)
/-- `hostOps0_8` leaves what it does not write. -/
theorem X9_of (V : Valuation τ sig (Elt F)) (r : Ref sig .tc) (h : r ∉ hostOps0_8_W) :
    X9 V (Proc.devRef .tc r) = X8 V (Proc.devRef .tc r) :=
  after_of_writes_sub hostOps0_8 (X8 V) hostOps0_8_writes h
/-- The contents after `hostOps0_9`. -/
def X10 (V : Valuation τ sig (Elt F)) : Valuation τ sig (Elt F) := after hostOps0_9 (X9 V)
/-- `hostOps0_9` leaves what it does not write. -/
theorem X10_of (V : Valuation τ sig (Elt F)) (r : Ref sig .tc) (h : r ∉ hostOps0_9_W) :
    X10 V (Proc.devRef .tc r) = X9 V (Proc.devRef .tc r) :=
  after_of_writes_sub hostOps0_9 (X9 V) hostOps0_9_writes h
/-- The contents after `hostOps0_10`. -/
def X11 (V : Valuation τ sig (Elt F)) : Valuation τ sig (Elt F) := after hostOps0_10 (X10 V)
/-- `hostOps0_10` leaves what it does not write. -/
theorem X11_of (V : Valuation τ sig (Elt F)) (r : Ref sig .tc) (h : r ∉ hostOps0_10_W) :
    X11 V (Proc.devRef .tc r) = X10 V (Proc.devRef .tc r) :=
  after_of_writes_sub hostOps0_10 (X10 V) hostOps0_10_writes h
/-- The contents after `hostOps0_11`. -/
def X12 (V : Valuation τ sig (Elt F)) : Valuation τ sig (Elt F) := after hostOps0_11 (X11 V)
/-- `hostOps0_11` leaves what it does not write. -/
theorem X12_of (V : Valuation τ sig (Elt F)) (r : Ref sig .tc) (h : r ∉ hostOps0_11_W) :
    X12 V (Proc.devRef .tc r) = X11 V (Proc.devRef .tc r) :=
  after_of_writes_sub hostOps0_11 (X11 V) hostOps0_11_writes h
/-- The contents after `hostOps0_12`. -/
def X13 (V : Valuation τ sig (Elt F)) : Valuation τ sig (Elt F) := after hostOps0_12 (X12 V)
/-- `hostOps0_12` leaves what it does not write. -/
theorem X13_of (V : Valuation τ sig (Elt F)) (r : Ref sig .tc) (h : r ∉ hostOps0_12_W) :
    X13 V (Proc.devRef .tc r) = X12 V (Proc.devRef .tc r) :=
  after_of_writes_sub hostOps0_12 (X12 V) hostOps0_12_writes h
/-- The contents after `hostOps0_13`. -/
def X14 (V : Valuation τ sig (Elt F)) : Valuation τ sig (Elt F) := after hostOps0_13 (X13 V)
/-- `hostOps0_13` leaves what it does not write. -/
theorem X14_of (V : Valuation τ sig (Elt F)) (r : Ref sig .tc) (h : r ∉ hostOps0_13_W) :
    X14 V (Proc.devRef .tc r) = X13 V (Proc.devRef .tc r) :=
  after_of_writes_sub hostOps0_13 (X13 V) hostOps0_13_writes h
/-- The contents after `hostOps0_14`. -/
def X15 (V : Valuation τ sig (Elt F)) : Valuation τ sig (Elt F) := after hostOps0_14 (X14 V)
/-- `hostOps0_14` leaves what it does not write. -/
theorem X15_of (V : Valuation τ sig (Elt F)) (r : Ref sig .tc) (h : r ∉ hostOps0_14_W) :
    X15 V (Proc.devRef .tc r) = X14 V (Proc.devRef .tc r) :=
  after_of_writes_sub hostOps0_14 (X14 V) hostOps0_14_writes h
/-- The contents after `hostOps0_15`. -/
def X16 (V : Valuation τ sig (Elt F)) : Valuation τ sig (Elt F) := after hostOps0_15 (X15 V)
/-- `hostOps0_15` leaves what it does not write. -/
theorem X16_of (V : Valuation τ sig (Elt F)) (r : Ref sig .tc) (h : r ∉ hostOps0_15_W) :
    X16 V (Proc.devRef .tc r) = X15 V (Proc.devRef .tc r) :=
  after_of_writes_sub hostOps0_15 (X15 V) hostOps0_15_writes h
/-- The contents after `hostOps0_16`. -/
def X17 (V : Valuation τ sig (Elt F)) : Valuation τ sig (Elt F) := after hostOps0_16 (X16 V)
/-- `hostOps0_16` leaves what it does not write. -/
theorem X17_of (V : Valuation τ sig (Elt F)) (r : Ref sig .tc) (h : r ∉ hostOps0_16_W) :
    X17 V (Proc.devRef .tc r) = X16 V (Proc.devRef .tc r) :=
  after_of_writes_sub hostOps0_16 (X16 V) hostOps0_16_writes h
/-- The contents after `hostOps0_17`. -/
def X18 (V : Valuation τ sig (Elt F)) : Valuation τ sig (Elt F) := after hostOps0_17 (X17 V)
/-- `hostOps0_17` leaves what it does not write. -/
theorem X18_of (V : Valuation τ sig (Elt F)) (r : Ref sig .tc) (h : r ∉ hostOps0_17_W) :
    X18 V (Proc.devRef .tc r) = X17 V (Proc.devRef .tc r) :=
  after_of_writes_sub hostOps0_17 (X17 V) hostOps0_17_writes h
/-- The contents after `hostOps0_18`. -/
def X19 (V : Valuation τ sig (Elt F)) : Valuation τ sig (Elt F) := after hostOps0_18 (X18 V)
/-- `hostOps0_18` leaves what it does not write. -/
theorem X19_of (V : Valuation τ sig (Elt F)) (r : Ref sig .tc) (h : r ∉ hostOps0_18_W) :
    X19 V (Proc.devRef .tc r) = X18 V (Proc.devRef .tc r) :=
  after_of_writes_sub hostOps0_18 (X18 V) hostOps0_18_writes h
/-- The contents after `hostOps0_19`. -/
def X20 (V : Valuation τ sig (Elt F)) : Valuation τ sig (Elt F) := after hostOps0_19 (X19 V)
/-- `hostOps0_19` leaves what it does not write. -/
theorem X20_of (V : Valuation τ sig (Elt F)) (r : Ref sig .tc) (h : r ∉ hostOps0_19_W) :
    X20 V (Proc.devRef .tc r) = X19 V (Proc.devRef .tc r) :=
  after_of_writes_sub hostOps0_19 (X19 V) hostOps0_19_writes h
/-- The contents after `hostOps0_20`. -/
def X21 (V : Valuation τ sig (Elt F)) : Valuation τ sig (Elt F) := after hostOps0_20 (X20 V)
/-- `hostOps0_20` leaves what it does not write. -/
theorem X21_of (V : Valuation τ sig (Elt F)) (r : Ref sig .tc) (h : r ∉ hostOps0_20_W) :
    X21 V (Proc.devRef .tc r) = X20 V (Proc.devRef .tc r) :=
  after_of_writes_sub hostOps0_20 (X20 V) hostOps0_20_writes h

/-- The stretches before the loop, in order, end at the last of these. -/
theorem pre_eq (V : Valuation τ sig (Elt F)) : afterL preI V = X21 V := rfl

/-! ## The contents after each stretch after the loop -/

/-- The contents at the loop's end. -/
def Y0 (V : Valuation τ sig (Elt F)) : Valuation τ sig (Elt F) := after condOps V
/-- The condition leaves what it does not write. -/
theorem Y0_of (V : Valuation τ sig (Elt F)) (r : Ref sig .tc) (h : r ∉ condOps_W) :
    Y0 V (Proc.devRef .tc r) = V (Proc.devRef .tc r) :=
  after_of_writes_sub condOps V condOps_writes h
/-- The reference each operation of `hostOps0_21` writes, in order. -/
abbrev hostOps0_21_W : List (Ref sig .tc) := [main_v320, main_v321, main_v322, main_cst_33, main_v323, main_v324, main_cst_34]
/-- `hostOps0_21` writes those references only. -/
theorem hostOps0_21_writes : (hostOps0_21 : List (HloOp τ sig (Elt F))).Forall fun op => op.writes ⊆ (hostOps0_21_W.map (Proc.devRef (τ := τ) .tc)).toFinset :=
  StableHlo.forall_writes_sub_of_map rfl
/-- The contents after `hostOps0_21`. -/
def Y1 (V : Valuation τ sig (Elt F)) : Valuation τ sig (Elt F) := after hostOps0_21 (Y0 V)
/-- `hostOps0_21` leaves what it does not write. -/
theorem Y1_of (V : Valuation τ sig (Elt F)) (r : Ref sig .tc) (h : r ∉ hostOps0_21_W) :
    Y1 V (Proc.devRef .tc r) = Y0 V (Proc.devRef .tc r) :=
  after_of_writes_sub hostOps0_21 (Y0 V) hostOps0_21_writes h
/-- The reference each operation of `hostOps0_22` writes, in order. -/
abbrev hostOps0_22_W : List (Ref sig .tc) := [main_call13_v0, main_call13_v1, main_call13_v2, main_call13_v3, main_call13_v4, main_v325]
/-- `hostOps0_22` writes those references only. -/
theorem hostOps0_22_writes : (hostOps0_22 : List (HloOp τ sig (Elt F))).Forall fun op => op.writes ⊆ (hostOps0_22_W.map (Proc.devRef (τ := τ) .tc)).toFinset :=
  StableHlo.forall_writes_sub_of_map rfl
/-- The contents after `hostOps0_22`. -/
def Y2 (V : Valuation τ sig (Elt F)) : Valuation τ sig (Elt F) := after hostOps0_22 (Y1 V)
/-- `hostOps0_22` leaves what it does not write. -/
theorem Y2_of (V : Valuation τ sig (Elt F)) (r : Ref sig .tc) (h : r ∉ hostOps0_22_W) :
    Y2 V (Proc.devRef .tc r) = Y1 V (Proc.devRef .tc r) :=
  after_of_writes_sub hostOps0_22 (Y1 V) hostOps0_22_writes h
/-- The reference each operation of `hostOps0_23` writes, in order. -/
abbrev hostOps0_23_W : List (Ref sig .tc) := [main_v326, main_v327, main_v328, main_v329, main_v330, main_v331, main_v332, main_c_35]
/-- `hostOps0_23` writes those references only. -/
theorem hostOps0_23_writes : (hostOps0_23 : List (HloOp τ sig (Elt F))).Forall fun op => op.writes ⊆ (hostOps0_23_W.map (Proc.devRef (τ := τ) .tc)).toFinset :=
  StableHlo.forall_writes_sub_of_map rfl
/-- The contents after `hostOps0_23`. -/
def Y3 (V : Valuation τ sig (Elt F)) : Valuation τ sig (Elt F) := after hostOps0_23 (Y2 V)
/-- `hostOps0_23` leaves what it does not write. -/
theorem Y3_of (V : Valuation τ sig (Elt F)) (r : Ref sig .tc) (h : r ∉ hostOps0_23_W) :
    Y3 V (Proc.devRef .tc r) = Y2 V (Proc.devRef .tc r) :=
  after_of_writes_sub hostOps0_23 (Y2 V) hostOps0_23_writes h
/-- The reference each operation of `hostOps0_24` writes, in order. -/
abbrev hostOps0_24_W : List (Ref sig .tc) := [main_call14_v0, main_call14_v1, main_v333]
/-- `hostOps0_24` writes those references only. -/
theorem hostOps0_24_writes : (hostOps0_24 : List (HloOp τ sig (Elt F))).Forall fun op => op.writes ⊆ (hostOps0_24_W.map (Proc.devRef (τ := τ) .tc)).toFinset :=
  StableHlo.forall_writes_sub_of_map rfl
/-- The contents after `hostOps0_24`. -/
def Y4 (V : Valuation τ sig (Elt F)) : Valuation τ sig (Elt F) := after hostOps0_24 (Y3 V)
/-- `hostOps0_24` leaves what it does not write. -/
theorem Y4_of (V : Valuation τ sig (Elt F)) (r : Ref sig .tc) (h : r ∉ hostOps0_24_W) :
    Y4 V (Proc.devRef .tc r) = Y3 V (Proc.devRef .tc r) :=
  after_of_writes_sub hostOps0_24 (Y3 V) hostOps0_24_writes h

/-- One trip of the body leaves what it does not write. -/
theorem trip_of (V : Valuation τ sig (Elt F)) (r : Ref sig .tc) (hc : r ∉ condOps_W) (h0 : r ∉ while0Ops0_W) (h1 : r ∉ while0Ops0_1_W)
    (h2 : r ∉ while0Ops0_2_W) (h3 : r ∉ while0Ops0_3_W) :
    afterL bodyI (after condOps V) (Proc.devRef .tc r) = V (Proc.devRef .tc r) := by
  show after while0Ops0_3 (after while0Ops0_2 (after while0Ops0_1 (after while0Ops0 (after condOps V)))) (Proc.devRef .tc r) = _
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

variable (m : (ℓ : Loc nD τ sig) → Buf (Elt F) ℓ) (ρ : Dev nD → PrngReg)

/-- Every number of trips leaves what a trip does not write. -/
theorem atK_of (c : Dev nD) (r : Ref sig .tc) (hc : r ∉ condOps_W) (h0 : r ∉ while0Ops0_W) (h1 : r ∉ while0Ops0_1_W)
    (h2 : r ∉ while0Ops0_2_W) (h3 : r ∉ while0Ops0_3_W) (k : ℕ) :
    atK m k c (Proc.devRef .tc r) = X21 (launchContents m c) (Proc.devRef .tc r) := by
  induction k with
  | zero => rfl
  | succ k ih => exact (trip_of _ r hc h0 h1 h2 h3).trans ih

/-- Argument 0 is as launched before the loop. -/
theorem X_arg0 (V : Valuation τ sig (Elt F)) : X21 V (Proc.devRef .tc main_arg0) = V (Proc.devRef .tc main_arg0) := by
  rw [X21_of V main_arg0 (by decide), X20_of V main_arg0 (by decide), X19_of V main_arg0 (by decide), X18_of V main_arg0 (by decide), X17_of V main_arg0 (by decide), X16_of V main_arg0 (by decide), X15_of V main_arg0 (by decide), X14_of V main_arg0 (by decide), X13_of V main_arg0 (by decide), X12_of V main_arg0 (by decide), X11_of V main_arg0 (by decide), X10_of V main_arg0 (by decide), X9_of V main_arg0 (by decide), X8_of V main_arg0 (by decide), X7_of V main_arg0 (by decide), X6_of V main_arg0 (by decide), X5_of V main_arg0 (by decide), X4_of V main_arg0 (by decide), X3_of V main_arg0 (by decide), X2_of V main_arg0 (by decide), X1_of V main_arg0 (by decide)]; rfl
/-- Argument 0 ends as launched. -/
theorem final_arg0 (c : Dev nD) : finalContents condOps preI bodyI postI 1024 m c (Proc.devRef .tc main_arg0) = m ((c.tc : Thread nD τ).loc main_arg0) := by
  show Y4 (atK m 1024 c) (Proc.devRef .tc main_arg0) = _
  rw [Y4_of _ main_arg0 (by decide), Y3_of _ main_arg0 (by decide), Y2_of _ main_arg0 (by decide), Y1_of _ main_arg0 (by decide), Y0_of _ main_arg0 (by decide),
    atK_of m c main_arg0 (by decide) (by decide) (by decide) (by decide) (by decide), X_arg0]
/-- Argument 1 is as launched before the loop. -/
theorem X_arg1 (V : Valuation τ sig (Elt F)) : X21 V (Proc.devRef .tc main_arg1) = V (Proc.devRef .tc main_arg1) := by
  rw [X21_of V main_arg1 (by decide), X20_of V main_arg1 (by decide), X19_of V main_arg1 (by decide), X18_of V main_arg1 (by decide), X17_of V main_arg1 (by decide), X16_of V main_arg1 (by decide), X15_of V main_arg1 (by decide), X14_of V main_arg1 (by decide), X13_of V main_arg1 (by decide), X12_of V main_arg1 (by decide), X11_of V main_arg1 (by decide), X10_of V main_arg1 (by decide), X9_of V main_arg1 (by decide), X8_of V main_arg1 (by decide), X7_of V main_arg1 (by decide), X6_of V main_arg1 (by decide), X5_of V main_arg1 (by decide), X4_of V main_arg1 (by decide), X3_of V main_arg1 (by decide), X2_of V main_arg1 (by decide), X1_of V main_arg1 (by decide)]; rfl
/-- Argument 1 ends as launched. -/
theorem final_arg1 (c : Dev nD) : finalContents condOps preI bodyI postI 1024 m c (Proc.devRef .tc main_arg1) = m ((c.tc : Thread nD τ).loc main_arg1) := by
  show Y4 (atK m 1024 c) (Proc.devRef .tc main_arg1) = _
  rw [Y4_of _ main_arg1 (by decide), Y3_of _ main_arg1 (by decide), Y2_of _ main_arg1 (by decide), Y1_of _ main_arg1 (by decide), Y0_of _ main_arg1 (by decide),
    atK_of m c main_arg1 (by decide) (by decide) (by decide) (by decide) (by decide), X_arg1]
/-- Argument 2 is as launched before the loop. -/
theorem X_arg2 (V : Valuation τ sig (Elt F)) : X21 V (Proc.devRef .tc main_arg2) = V (Proc.devRef .tc main_arg2) := by
  rw [X21_of V main_arg2 (by decide), X20_of V main_arg2 (by decide), X19_of V main_arg2 (by decide), X18_of V main_arg2 (by decide), X17_of V main_arg2 (by decide), X16_of V main_arg2 (by decide), X15_of V main_arg2 (by decide), X14_of V main_arg2 (by decide), X13_of V main_arg2 (by decide), X12_of V main_arg2 (by decide), X11_of V main_arg2 (by decide), X10_of V main_arg2 (by decide), X9_of V main_arg2 (by decide), X8_of V main_arg2 (by decide), X7_of V main_arg2 (by decide), X6_of V main_arg2 (by decide), X5_of V main_arg2 (by decide), X4_of V main_arg2 (by decide), X3_of V main_arg2 (by decide), X2_of V main_arg2 (by decide), X1_of V main_arg2 (by decide)]; rfl
/-- Argument 2 ends as launched. -/
theorem final_arg2 (c : Dev nD) : finalContents condOps preI bodyI postI 1024 m c (Proc.devRef .tc main_arg2) = m ((c.tc : Thread nD τ).loc main_arg2) := by
  show Y4 (atK m 1024 c) (Proc.devRef .tc main_arg2) = _
  rw [Y4_of _ main_arg2 (by decide), Y3_of _ main_arg2 (by decide), Y2_of _ main_arg2 (by decide), Y1_of _ main_arg2 (by decide), Y0_of _ main_arg2 (by decide),
    atK_of m c main_arg2 (by decide) (by decide) (by decide) (by decide) (by decide), X_arg2]
/-- Argument 3 is as launched before the loop. -/
theorem X_arg3 (V : Valuation τ sig (Elt F)) : X21 V (Proc.devRef .tc main_arg3) = V (Proc.devRef .tc main_arg3) := by
  rw [X21_of V main_arg3 (by decide), X20_of V main_arg3 (by decide), X19_of V main_arg3 (by decide), X18_of V main_arg3 (by decide), X17_of V main_arg3 (by decide), X16_of V main_arg3 (by decide), X15_of V main_arg3 (by decide), X14_of V main_arg3 (by decide), X13_of V main_arg3 (by decide), X12_of V main_arg3 (by decide), X11_of V main_arg3 (by decide), X10_of V main_arg3 (by decide), X9_of V main_arg3 (by decide), X8_of V main_arg3 (by decide), X7_of V main_arg3 (by decide), X6_of V main_arg3 (by decide), X5_of V main_arg3 (by decide), X4_of V main_arg3 (by decide), X3_of V main_arg3 (by decide), X2_of V main_arg3 (by decide), X1_of V main_arg3 (by decide)]; rfl
/-- Argument 3 ends as launched. -/
theorem final_arg3 (c : Dev nD) : finalContents condOps preI bodyI postI 1024 m c (Proc.devRef .tc main_arg3) = m ((c.tc : Thread nD τ).loc main_arg3) := by
  show Y4 (atK m 1024 c) (Proc.devRef .tc main_arg3) = _
  rw [Y4_of _ main_arg3 (by decide), Y3_of _ main_arg3 (by decide), Y2_of _ main_arg3 (by decide), Y1_of _ main_arg3 (by decide), Y0_of _ main_arg3 (by decide),
    atK_of m c main_arg3 (by decide) (by decide) (by decide) (by decide) (by decide), X_arg3]
/-- Argument 4 is as launched before the loop. -/
theorem X_arg4 (V : Valuation τ sig (Elt F)) : X21 V (Proc.devRef .tc main_arg4) = V (Proc.devRef .tc main_arg4) := by
  rw [X21_of V main_arg4 (by decide), X20_of V main_arg4 (by decide), X19_of V main_arg4 (by decide), X18_of V main_arg4 (by decide), X17_of V main_arg4 (by decide), X16_of V main_arg4 (by decide), X15_of V main_arg4 (by decide), X14_of V main_arg4 (by decide), X13_of V main_arg4 (by decide), X12_of V main_arg4 (by decide), X11_of V main_arg4 (by decide), X10_of V main_arg4 (by decide), X9_of V main_arg4 (by decide), X8_of V main_arg4 (by decide), X7_of V main_arg4 (by decide), X6_of V main_arg4 (by decide), X5_of V main_arg4 (by decide), X4_of V main_arg4 (by decide), X3_of V main_arg4 (by decide), X2_of V main_arg4 (by decide), X1_of V main_arg4 (by decide)]; rfl
/-- Argument 4 ends as launched. -/
theorem final_arg4 (c : Dev nD) : finalContents condOps preI bodyI postI 1024 m c (Proc.devRef .tc main_arg4) = m ((c.tc : Thread nD τ).loc main_arg4) := by
  show Y4 (atK m 1024 c) (Proc.devRef .tc main_arg4) = _
  rw [Y4_of _ main_arg4 (by decide), Y3_of _ main_arg4 (by decide), Y2_of _ main_arg4 (by decide), Y1_of _ main_arg4 (by decide), Y0_of _ main_arg4 (by decide),
    atK_of m c main_arg4 (by decide) (by decide) (by decide) (by decide) (by decide), X_arg4]
/-- Argument 5 is as launched before the loop. -/
theorem X_arg5 (V : Valuation τ sig (Elt F)) : X21 V (Proc.devRef .tc main_arg5) = V (Proc.devRef .tc main_arg5) := by
  rw [X21_of V main_arg5 (by decide), X20_of V main_arg5 (by decide), X19_of V main_arg5 (by decide), X18_of V main_arg5 (by decide), X17_of V main_arg5 (by decide), X16_of V main_arg5 (by decide), X15_of V main_arg5 (by decide), X14_of V main_arg5 (by decide), X13_of V main_arg5 (by decide), X12_of V main_arg5 (by decide), X11_of V main_arg5 (by decide), X10_of V main_arg5 (by decide), X9_of V main_arg5 (by decide), X8_of V main_arg5 (by decide), X7_of V main_arg5 (by decide), X6_of V main_arg5 (by decide), X5_of V main_arg5 (by decide), X4_of V main_arg5 (by decide), X3_of V main_arg5 (by decide), X2_of V main_arg5 (by decide), X1_of V main_arg5 (by decide)]; rfl
/-- Argument 5 ends as launched. -/
theorem final_arg5 (c : Dev nD) : finalContents condOps preI bodyI postI 1024 m c (Proc.devRef .tc main_arg5) = m ((c.tc : Thread nD τ).loc main_arg5) := by
  show Y4 (atK m 1024 c) (Proc.devRef .tc main_arg5) = _
  rw [Y4_of _ main_arg5 (by decide), Y3_of _ main_arg5 (by decide), Y2_of _ main_arg5 (by decide), Y1_of _ main_arg5 (by decide), Y0_of _ main_arg5 (by decide),
    atK_of m c main_arg5 (by decide) (by decide) (by decide) (by decide) (by decide), X_arg5]
/-- Argument 6 is as launched before the loop. -/
theorem X_arg6 (V : Valuation τ sig (Elt F)) : X21 V (Proc.devRef .tc main_arg6) = V (Proc.devRef .tc main_arg6) := by
  rw [X21_of V main_arg6 (by decide), X20_of V main_arg6 (by decide), X19_of V main_arg6 (by decide), X18_of V main_arg6 (by decide), X17_of V main_arg6 (by decide), X16_of V main_arg6 (by decide), X15_of V main_arg6 (by decide), X14_of V main_arg6 (by decide), X13_of V main_arg6 (by decide), X12_of V main_arg6 (by decide), X11_of V main_arg6 (by decide), X10_of V main_arg6 (by decide), X9_of V main_arg6 (by decide), X8_of V main_arg6 (by decide), X7_of V main_arg6 (by decide), X6_of V main_arg6 (by decide), X5_of V main_arg6 (by decide), X4_of V main_arg6 (by decide), X3_of V main_arg6 (by decide), X2_of V main_arg6 (by decide), X1_of V main_arg6 (by decide)]; rfl
/-- Argument 6 ends as launched. -/
theorem final_arg6 (c : Dev nD) : finalContents condOps preI bodyI postI 1024 m c (Proc.devRef .tc main_arg6) = m ((c.tc : Thread nD τ).loc main_arg6) := by
  show Y4 (atK m 1024 c) (Proc.devRef .tc main_arg6) = _
  rw [Y4_of _ main_arg6 (by decide), Y3_of _ main_arg6 (by decide), Y2_of _ main_arg6 (by decide), Y1_of _ main_arg6 (by decide), Y0_of _ main_arg6 (by decide),
    atK_of m c main_arg6 (by decide) (by decide) (by decide) (by decide) (by decide), X_arg6]
/-- Argument 7 is as launched before the loop. -/
theorem X_arg7 (V : Valuation τ sig (Elt F)) : X21 V (Proc.devRef .tc main_arg7) = V (Proc.devRef .tc main_arg7) := by
  rw [X21_of V main_arg7 (by decide), X20_of V main_arg7 (by decide), X19_of V main_arg7 (by decide), X18_of V main_arg7 (by decide), X17_of V main_arg7 (by decide), X16_of V main_arg7 (by decide), X15_of V main_arg7 (by decide), X14_of V main_arg7 (by decide), X13_of V main_arg7 (by decide), X12_of V main_arg7 (by decide), X11_of V main_arg7 (by decide), X10_of V main_arg7 (by decide), X9_of V main_arg7 (by decide), X8_of V main_arg7 (by decide), X7_of V main_arg7 (by decide), X6_of V main_arg7 (by decide), X5_of V main_arg7 (by decide), X4_of V main_arg7 (by decide), X3_of V main_arg7 (by decide), X2_of V main_arg7 (by decide), X1_of V main_arg7 (by decide)]; rfl
/-- Argument 7 ends as launched. -/
theorem final_arg7 (c : Dev nD) : finalContents condOps preI bodyI postI 1024 m c (Proc.devRef .tc main_arg7) = m ((c.tc : Thread nD τ).loc main_arg7) := by
  show Y4 (atK m 1024 c) (Proc.devRef .tc main_arg7) = _
  rw [Y4_of _ main_arg7 (by decide), Y3_of _ main_arg7 (by decide), Y2_of _ main_arg7 (by decide), Y1_of _ main_arg7 (by decide), Y0_of _ main_arg7 (by decide),
    atK_of m c main_arg7 (by decide) (by decide) (by decide) (by decide) (by decide), X_arg7]
/-- Argument 8 is as launched before the loop. -/
theorem X_arg8 (V : Valuation τ sig (Elt F)) : X21 V (Proc.devRef .tc main_arg8) = V (Proc.devRef .tc main_arg8) := by
  rw [X21_of V main_arg8 (by decide), X20_of V main_arg8 (by decide), X19_of V main_arg8 (by decide), X18_of V main_arg8 (by decide), X17_of V main_arg8 (by decide), X16_of V main_arg8 (by decide), X15_of V main_arg8 (by decide), X14_of V main_arg8 (by decide), X13_of V main_arg8 (by decide), X12_of V main_arg8 (by decide), X11_of V main_arg8 (by decide), X10_of V main_arg8 (by decide), X9_of V main_arg8 (by decide), X8_of V main_arg8 (by decide), X7_of V main_arg8 (by decide), X6_of V main_arg8 (by decide), X5_of V main_arg8 (by decide), X4_of V main_arg8 (by decide), X3_of V main_arg8 (by decide), X2_of V main_arg8 (by decide), X1_of V main_arg8 (by decide)]; rfl
/-- Argument 8 ends as launched. -/
theorem final_arg8 (c : Dev nD) : finalContents condOps preI bodyI postI 1024 m c (Proc.devRef .tc main_arg8) = m ((c.tc : Thread nD τ).loc main_arg8) := by
  show Y4 (atK m 1024 c) (Proc.devRef .tc main_arg8) = _
  rw [Y4_of _ main_arg8 (by decide), Y3_of _ main_arg8 (by decide), Y2_of _ main_arg8 (by decide), Y1_of _ main_arg8 (by decide), Y0_of _ main_arg8 (by decide),
    atK_of m c main_arg8 (by decide) (by decide) (by decide) (by decide) (by decide), X_arg8]

/-- Every run ends with each result at the fold's contents, and the arguments unchanged. -/
theorem run_results : θ_run (defs (F := F)) (onTc (τ := τ) (main (F := F))) ⟨m, fun _ => 0, ρ⟩ (fun r => ∀ c : Dev nD,
      r.2.mem ((c.tc : Thread nD τ).loc main_v332) = Y4 (atK m 1024 c) (Proc.devRef .tc main_v332)
      ∧ r.2.mem ((c.tc : Thread nD τ).loc main_v333) = Y4 (atK m 1024 c) (Proc.devRef .tc main_v333)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c main_v332 rfl, h c main_v333 rfl, (h c main_arg0 rfl).trans (final_arg0 m c), (h c main_arg1 rfl).trans (final_arg1 m c), (h c main_arg2 rfl).trans (final_arg2 m c), (h c main_arg3 rfl).trans (final_arg3 m c), (h c main_arg4 rfl).trans (final_arg4 m c), (h c main_arg5 rfl).trans (final_arg5 m c), (h c main_arg6 rfl).trans (final_arg6 m c), (h c main_arg7 rfl).trans (final_arg7 m c), (h c main_arg8 rfl).trans (final_arg8 m c)⟩) (run_fold m ρ)

/-- Every run leaves the arguments unchanged and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => ⟨(h c main_arg0 rfl).trans (final_arg0 m c), (h c main_arg1 rfl).trans (final_arg1 m c), (h c main_arg2 rfl).trans (final_arg2 m c), (h c main_arg3 rfl).trans (final_arg3 m c), (h c main_arg4 rfl).trans (final_arg4 m c), (h c main_arg5 rfl).trans (final_arg5 m c), (h c main_arg6 rfl).trans (final_arg6 m c), (h c main_arg7 rfl).trans (final_arg7 m c), (h c main_arg8 rfl).trans (final_arg8 m c)⟩,
    Idealize.ShloMosaic.sem_eq_zero_of_no_sems (by decide) r.2⟩) (run_fold m ρ)

end Cert.ReferenceIdeal.Hand

end
-- ==== Proof.Regions.lean ====
/-
  The four matrix-multiplication launches: what each leaves in its result array is the product of the two operand
  arrays plus the bias row, read at an index.
-/
module

public import proofs.«01_k».proof.Proof.Gen.KernelIdeal.Frame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The matrix product plus bias of launch 0, as a whole array. -/
def mm0 (A : FVec Ideal S73728x27 .bf16) (B : FVec Ideal S27x64 .bf16) (b : FVec Ideal S1x64 .f32) : FVec Ideal S73728x64 .f32 :=
  fun y => (∑ t : Fin 27, A (ix2 (y 0) t) * B (ix2 t (y 1))) + b (ix2 0 (y 1))

theorem idx0 : ∀ t : Fin cfg0.N, win0_0.index t = ![t.val, 0] ∧ win0_1.index t = ![0, 0] ∧ win0_2.index t = ![0, 0]
    ∧ win0_3.index t = ![t.val, 0] := (by decide +kernel : ∀ t : Fin grid0.N, _)

/-- What launch 0's body stores at an index of a point's block is the whole product at the index where the block lies. -/
theorem point0 (c : Dev nD) (t : Fin cfg0.N) (y) : k0_pay1 (iblk0 (V3 m ρ) c 0 t) (iblk0 (V3 m ρ) c 1 t) (iblk0 (V3 m ρ) c 2 t) y
    = mm0 (W3 m ρ c (Proc.devRef .tc main_v21)) (W3 m ρ c (Proc.devRef .tc main_v24)) (W3 m ρ c (Proc.devRef .tc main_v25))
        (((cfg0.win 3).blk t).view.emb y) := by
  pointwise [k0_pay1, mm0]
  blk_point [iblk0, idx0 t]

/-- Launch 0's result array after the run. -/
theorem final0 (c : Dev nD) : (dat0 (V3 m ρ) c).arrAt 3 cfg0.N
    = mm0 (W3 m ρ c (Proc.devRef .tc main_v21)) (W3 m ρ c (Proc.devRef .tc main_v24)) (W3 m ρ c (Proc.devRef .tc main_v25)) := by
  refine (dat0 (V3 m ρ) c).arrAt_eq_of_covers 3 _ (by decide +kernel) fun t _ y => ?_
  blk_simp
  rw [after0_3]; frame_out
  exact point0 m ρ c t y

/-- The contents of the result array of launch 0 at the boundary behind it. -/
theorem W4_v26 (c : Dev nD) : W4 m ρ c (Proc.devRef .tc main_v26)
    = mm0 (W3 m ρ c (Proc.devRef .tc main_v21)) (W3 m ρ c (Proc.devRef .tc main_v24)) (W3 m ρ c (Proc.devRef .tc main_v25)) :=
  (W4_arr m ρ c 3).trans (final0 m ρ c)

/-- The matrix product plus bias of launch 1, as a whole array. -/
def mm1 (A : FVec Ideal S18432x576 .bf16) (B : FVec Ideal S576x128 .bf16) (b : FVec Ideal S1x128 .f32) : FVec Ideal S18432x128 .f32 :=
  fun y => (∑ t : Fin 576, A (ix2 (y 0) t) * B (ix2 t (y 1))) + b (ix2 0 (y 1))

theorem idx1 : ∀ t : Fin cfg1.N, win1_0.index t = ![t.val, 0] ∧ win1_1.index t = ![0, 0] ∧ win1_2.index t = ![0, 0]
    ∧ win1_3.index t = ![t.val, 0] := (by decide +kernel : ∀ t : Fin grid1.N, _)

/-- What launch 1's body stores at an index of a point's block is the whole product at the index where the block lies. -/
theorem point1 (c : Dev nD) (t : Fin cfg1.N) (y) : k1_pay1 (iblk1 (V8 m ρ) c 0 t) (iblk1 (V8 m ρ) c 1 t) (iblk1 (V8 m ρ) c 2 t) y
    = mm1 (W8 m ρ c (Proc.devRef .tc main_v49)) (W8 m ρ c (Proc.devRef .tc main_v52)) (W8 m ρ c (Proc.devRef .tc main_v53))
        (((cfg1.win 3).blk t).view.emb y) := by
  pointwise [k1_pay1, mm1]
  blk_point [iblk1, idx1 t]

/-- Launch 1's result array after the run. -/
theorem final1 (c : Dev nD) : (dat1 (V8 m ρ) c).arrAt 3 cfg1.N
    = mm1 (W8 m ρ c (Proc.devRef .tc main_v49)) (W8 m ρ c (Proc.devRef .tc main_v52)) (W8 m ρ c (Proc.devRef .tc main_v53)) := by
  refine (dat1 (V8 m ρ) c).arrAt_eq_of_covers 3 _ (by decide +kernel) fun t _ y => ?_
  blk_simp
  rw [after1_3]; frame_out
  exact point1 m ρ c t y

/-- The contents of the result array of launch 1 at the boundary behind it. -/
theorem W9_v54 (c : Dev nD) : W9 m ρ c (Proc.devRef .tc main_v54)
    = mm1 (W8 m ρ c (Proc.devRef .tc main_v49)) (W8 m ρ c (Proc.devRef .tc main_v52)) (W8 m ρ c (Proc.devRef .tc main_v53)) :=
  (W9_arr m ρ c 3).trans (final1 m ρ c)

/-- The matrix product plus bias of launch 2, as a whole array. -/
def mm2 (A : FVec Ideal S4608x1152 .bf16) (B : FVec Ideal S1152x256 .bf16) (b : FVec Ideal S1x256 .f32) : FVec Ideal S4608x256 .f32 :=
  fun y => (∑ t : Fin 1152, A (ix2 (y 0) t) * B (ix2 t (y 1))) + b (ix2 0 (y 1))

theorem idx2 : ∀ t : Fin cfg2.N, win2_0.index t = ![t.val, 0] ∧ win2_1.index t = ![0, 0] ∧ win2_2.index t = ![0, 0]
    ∧ win2_3.index t = ![t.val, 0] := (by decide +kernel : ∀ t : Fin grid2.N, _)

/-- What launch 2's body stores at an index of a point's block is the whole product at the index where the block lies. -/
theorem point2 (c : Dev nD) (t : Fin cfg2.N) (y) : k2_pay1 (iblk2 (V13 m ρ) c 0 t) (iblk2 (V13 m ρ) c 1 t) (iblk2 (V13 m ρ) c 2 t) y
    = mm2 (W13 m ρ c (Proc.devRef .tc main_v77)) (W13 m ρ c (Proc.devRef .tc main_v80)) (W13 m ρ c (Proc.devRef .tc main_v81))
        (((cfg2.win 3).blk t).view.emb y) := by
  pointwise [k2_pay1, mm2]
  blk_point [iblk2, idx2 t]

/-- Launch 2's result array after the run. -/
theorem final2 (c : Dev nD) : (dat2 (V13 m ρ) c).arrAt 3 cfg2.N
    = mm2 (W13 m ρ c (Proc.devRef .tc main_v77)) (W13 m ρ c (Proc.devRef .tc main_v80)) (W13 m ρ c (Proc.devRef .tc main_v81)) := by
  refine (dat2 (V13 m ρ) c).arrAt_eq_of_covers 3 _ (by decide +kernel) fun t _ y => ?_
  blk_simp
  rw [after2_3]; frame_out
  exact point2 m ρ c t y

/-- The contents of the result array of launch 2 at the boundary behind it. -/
theorem W14_v82 (c : Dev nD) : W14 m ρ c (Proc.devRef .tc main_v82)
    = mm2 (W13 m ρ c (Proc.devRef .tc main_v77)) (W13 m ρ c (Proc.devRef .tc main_v80)) (W13 m ρ c (Proc.devRef .tc main_v81)) :=
  (W14_arr m ρ c 3).trans (final2 m ρ c)

/-- The matrix product plus bias of launch 3, as a whole array. -/
def mm3 (A : FVec Ideal S4608x256 .bf16) (B : FVec Ideal S256x255 .bf16) (b : FVec Ideal S1x255 .f32) : FVec Ideal S4608x255 .f32 :=
  fun y => (∑ t : Fin 256, A (ix2 (y 0) t) * B (ix2 t (y 1))) + b (ix2 0 (y 1))

theorem idx3 : ∀ t : Fin cfg3.N, win3_0.index t = ![t.val, 0] ∧ win3_1.index t = ![0, 0] ∧ win3_2.index t = ![0, 0]
    ∧ win3_3.index t = ![t.val, 0] := (by decide +kernel : ∀ t : Fin grid3.N, _)

/-- What launch 3's body stores at an index of a point's block is the whole product at the index where the block lies. -/
theorem point3 (c : Dev nD) (t : Fin cfg3.N) (y) : k3_pay1 (iblk3 (V16 m ρ) c 0 t) (iblk3 (V16 m ρ) c 1 t) (iblk3 (V16 m ρ) c 2 t) y
    = mm3 (W16 m ρ c (Proc.devRef .tc main_v87)) (W16 m ρ c (Proc.devRef .tc main_v86)) (W16 m ρ c (Proc.devRef .tc main_v88))
        (((cfg3.win 3).blk t).view.emb y) := by
  pointwise [k3_pay1, mm3]
  blk_point [iblk3, idx3 t]

/-- Launch 3's result array after the run. -/
theorem final3 (c : Dev nD) : (dat3 (V16 m ρ) c).arrAt 3 cfg3.N
    = mm3 (W16 m ρ c (Proc.devRef .tc main_v87)) (W16 m ρ c (Proc.devRef .tc main_v86)) (W16 m ρ c (Proc.devRef .tc main_v88)) := by
  refine (dat3 (V16 m ρ) c).arrAt_eq_of_covers 3 _ (by decide +kernel) fun t _ y => ?_
  blk_simp
  rw [after3_3]; frame_out
  exact point3 m ρ c t y

/-- The contents of the result array of launch 3 at the boundary behind it. -/
theorem W17_v89 (c : Dev nD) : W17 m ρ c (Proc.devRef .tc main_v89)
    = mm3 (W16 m ρ c (Proc.devRef .tc main_v87)) (W16 m ρ c (Proc.devRef .tc main_v86)) (W16 m ρ c (Proc.devRef .tc main_v88)) :=
  (W17_arr m ρ c 3).trans (final3 m ρ c)

end Cert.KernelIdeal.Hand

end
-- ==== Proof.Taps.lean ====
/-
  The scalar formulas of the network: a sum over the nine taps of a three-by-three window, the sum over a row of nine
  pieces split into its pieces, and the activation.
-/
module

public import Idealize.ShloMosaic.Lib.Pointwise

@[expose] public section

noncomputable section

namespace Cert.Hand

open Idealize.ShloMosaic

/-- An array read at an index, as an extended real. -/
abbrev rd (s : Shape) (φ : FTy) (x : FVec Ideal s φ) (i : s.Idx) : EReal := x i

/-- Two arrays that are read alike are equal. -/
theorem rd_inj {s : Shape} {φ : FTy} {x y : FVec Ideal s φ} (h : rd s φ x = rd s φ y) : x = y := h

/-- An array of words read at an index. -/
abbrev rdI (s : Shape) (n : ℕ) (x : IVec s n) (i : s.Idx) : BitVec n := x i

/-- Two arrays of words that are read alike are equal. -/
theorem rdI_inj {s : Shape} {n : ℕ} {x y : IVec s n} (h : rdI s n x = rdI s n y) : x = y := h

/-- The sum over the nine taps of a window, in row order, of the sums over the channels. -/
def taps {n : ℕ} (f : Fin 3 → Fin 3 → Fin n → EReal) : EReal :=
  ∑ c, f 0 0 c + ∑ c, f 0 1 c + ∑ c, f 0 2 c + ∑ c, f 1 0 c + ∑ c, f 1 1 c + ∑ c, f 1 2 c + ∑ c, f 2 0 c
    + ∑ c, f 2 1 c + ∑ c, f 2 2 c

/-- The activation: the argument times its logistic. -/
def silu (x : EReal) : EReal := x * Ideal.div 1 (1 + Ideal.exp (-x))

/-- A sum over nine pieces of `n` places each, piece by piece, as the sum over the taps. -/
theorem sum_taps (N n : ℕ) (h : N = 9 * n) (f : Fin N → EReal) :
    ∑ t, f t = taps (fun (dh dw : Fin 3) (c : Fin n) => f ⟨(3 * dh + dw) * n + c, by
      subst h
      have h1 : 3 * dh.val + dw.val + 1 ≤ 9 := by omega
      have h2 := Nat.mul_le_mul_right n h1
      have h3 := c.isLt
      rw [Nat.add_mul] at h2
      omega⟩) := by
  subst h
  rw [← finProdFinEquiv.sum_comp, Fintype.sum_prod_type]
  unfold taps
  rw [Fin.sum_univ_castSucc, Fin.sum_univ_eight]
  refine congrArg₂ _ (congrArg₂ _ (congrArg₂ _ (congrArg₂ _ (congrArg₂ _ (congrArg₂ _ (congrArg₂ _ (congrArg₂ _ ?_ ?_) ?_) ?_) ?_) ?_) ?_) ?_) ?_
  all_goals
    refine Finset.sum_congr rfl fun c _ => congrArg f (Fin.ext ?_)
    simp only [finProdFinEquiv, Equiv.coe_fn_mk]
    rw [Nat.add_comm, Nat.mul_comm]
    rfl

/-- Dividing by one changes nothing. -/
theorem div_one (x : EReal) : Ideal.div x 1 = x := by
  unfold Ideal.div
  rw [if_neg one_ne_zero, inv_one, mul_one]

end Cert.Hand

end
-- ==== Proof.KConv.lean ====
/-
  The kernel's three convolutions read at an index: the padded image, the rows of patches, the weight matrix, the
  product of launch and bias, and the activation, as a sum over the nine taps.
-/
module

public import proofs.«01_k».proof.Proof.Regions
public import proofs.«01_k».proof.Proof.Taps
public import Idealize.ShloMosaic.Lib.StableHlo.RunRead
public import Idealize.ShloMosaic.Lib.Pointwise
public import Idealize.ShloMosaic.Lib.Tactic.CleanTypes

@[expose] public section

set_option maxRecDepth 16384

noncomputable section

namespace Cert.KernelIdeal.Hand

open Cert.KernelIdeal Cert.KernelIdeal.Gen Cert.Hand
open Idealize.ShloMosaic Idealize.ShloMosaic.StableHlo Idealize.ShloMosaic.TcCoe Idealize.SL.Sem

variable (m : (ℓ : Loc nD τ sig) → Buf (Elt Ideal) ℓ) (ρ : Dev nD → PrngReg)

set_option maxHeartbeats 2000000 in
/-- Row `r` of the patches of convolution 0, at tap `(dh, dw)` and channel `c`: the padded image at the tap's place. -/
theorem patch0 (V : Valuation τ sig (Elt Ideal)) (r : Fin 73728) (dh dw : Fin 3) (c : Fin 3) :
    (after hostOps0_2 V (Proc.devRef .tc main_v21) : FVec Ideal S73728x27 .bf16) (ix2 r ⟨(3 * dh + dw) * 3 + c, by omega⟩)
      = (V (Proc.devRef .tc main_v1) : FVec Ideal S2x385x385x3 .f32)
          (ix4 ⟨r / 36864, by omega⟩ ⟨dh + 2 * (r / 192 % 192), by omega⟩ ⟨dw + 2 * (r % 192), by omega⟩ c) := by
  after_reads_simp
  generalize hP : V (Proc.devRef .tc main_v1) = P
  obtain ⟨dh, hdh⟩ := dh
  obtain ⟨dw, hdw⟩ := dw
  interval_cases dh <;> interval_cases dw <;> pointwise []
  all_goals repeat rw [dif_neg (by omega)]
  all_goals try rw [dif_pos (by omega)]
  all_goals after_reads_simp
  all_goals rw [hP]
  all_goals pointwise []
  all_goals (refine congrArg P ?_; idx_ext)

/-- The weight matrix of convolution 0 at tap `(dh, dw)`, channel `c` and output channel `o`: the weight there. -/
theorem weight0 (V : Valuation τ sig (Elt Ideal)) (dh dw : Fin 3) (c : Fin 3) (o : Fin 64) :
    (after hostOps0_2 V (Proc.devRef .tc main_v24) : FVec Ideal S27x64 .bf16) (ix2 ⟨(3 * dh + dw) * 3 + c, by omega⟩ o)
      = (V (Proc.devRef .tc main_arg1) : FVec Ideal S64x3x3x3 .f32) (ix4 o c dh dw) := by
  after_reads_simp
  generalize V (Proc.devRef .tc main_arg1) = W
  pointwise []
  refine congrArg W ?_
  have h1 := dh.isLt
  have h2 := dw.isLt
  have h3 := c.isLt
  have e1 : ((3 * dh.val + dw.val) * 3 + c.val) % 3 = c.val := by omega
  have e2 : ((3 * dh.val + dw.val) * 3 + c.val) / (3 * 3) = dh.val := by omega
  have e3 : ((3 * dh.val + dw.val) * 3 + c.val) / 3 % 3 = dw.val := by omega
  have e4 : ((3 * dh.val + dw.val) * 3 + c.val) / 9 = dh.val := by omega
  simp only [e1, e2, e3, e4]

/-- The bias row of convolution 0. -/
theorem bias0 (V : Valuation τ sig (Elt Ideal)) (z : Fin 1) (o : Fin 64) :
    (after hostOps0_2 V (Proc.devRef .tc main_v25) : FVec Ideal S1x64 .f32) (ix2 z o)
      = (V (Proc.devRef .tc main_arg2) : FVec Ideal S64 .f32) (ix1 o) := by
  after_reads_simp
  pointwise []

/-- Convolution 0 with its bias, over the contents before the patches are taken, at row `r` and output channel `o`. -/
theorem mmconv0 (V : Valuation τ sig (Elt Ideal)) (r : Fin 73728) (o : Fin 64) :
    mm0 (after hostOps0_2 V (Proc.devRef .tc main_v21)) (after hostOps0_2 V (Proc.devRef .tc main_v24)) (after hostOps0_2 V (Proc.devRef .tc main_v25)) (ix2 r o)
      = taps (fun (dh dw : Fin 3) (k : Fin 3) =>
          rd S64x3x3x3 .f32 (V (Proc.devRef .tc main_arg1)) (ix4 o k dh dw)
          * rd S2x385x385x3 .f32 (V (Proc.devRef .tc main_v1))
              (ix4 ⟨r / 36864, by omega⟩ ⟨dh + 2 * (r / 192 % 192), by omega⟩ ⟨dw + 2 * (r % 192), by omega⟩ k))
        + rd S64 .f32 (V (Proc.devRef .tc main_arg2)) (ix1 o) := by
  refine congrArg₂ (fun a b : EReal => a + b) ?_ (bias0 V 0 o)
  refine (sum_taps 27 3 (by norm_num) _).trans ?_
  refine congrArg taps ?_
  funext dh dw k
  refine (mul_comm _ _).trans ?_
  exact congrArg₂ (fun a b : EReal => a * b) (weight0 V dh dw k o) (patch0 V r dh dw k)

/-- Convolution 0 with its bias in the run, at row `r` and output channel `o`. -/
theorem conv0 (c : Dev nD) (r : Fin 73728) (o : Fin 64) :
    (W4 m ρ c (Proc.devRef .tc main_v26) : FVec Ideal S73728x64 .f32) (ix2 r o)
      = taps (fun (dh dw : Fin 3) (k : Fin 3) =>
          rd S64x3x3x3 .f32 (m ((c : Thread nD τ).loc main_arg1)) (ix4 o k dh dw)
          * rd S2x385x385x3 .f32 (W2 m ρ c (Proc.devRef .tc main_v1))
              (ix4 ⟨r / 36864, by omega⟩ ⟨dh + 2 * (r / 192 % 192), by omega⟩ ⟨dw + 2 * (r % 192), by omega⟩ k))
        + rd S64 .f32 (m ((c : Thread nD τ).loc main_arg2)) (ix1 o) := by
  refine (congrFun (W4_v26 m ρ c) (ix2 r o)).trans ?_
  refine (mmconv0 (W2 m ρ c) r o).trans ?_
  rw [W2_args m ρ c main_arg1 (by decide), W2_args m ρ c main_arg2 (by decide)]

set_option maxHeartbeats 2000000 in
/-- Row `r` of the patches of convolution 1, at tap `(dh, dw)` and channel `c`: the padded image at the tap's place. -/
theorem patch1 (V : Valuation τ sig (Elt Ideal)) (r : Fin 18432) (dh dw : Fin 3) (c : Fin 64) :
    (after hostOps1_3 V (Proc.devRef .tc main_v49) : FVec Ideal S18432x576 .bf16) (ix2 r ⟨(3 * dh + dw) * 64 + c, by omega⟩)
      = (V (Proc.devRef .tc main_v29) : FVec Ideal S2x193x193x64 .f32)
          (ix4 ⟨r / 9216, by omega⟩ ⟨dh + 2 * (r / 96 % 96), by omega⟩ ⟨dw + 2 * (r % 96), by omega⟩ c) := by
  after_reads_simp
  generalize hP : V (Proc.devRef .tc main_v29) = P
  obtain ⟨dh, hdh⟩ := dh
  obtain ⟨dw, hdw⟩ := dw
  interval_cases dh <;> interval_cases dw <;> pointwise []
  all_goals repeat rw [dif_neg (by omega)]
  all_goals try rw [dif_pos (by omega)]
  all_goals after_reads_simp
  all_goals rw [hP]
  all_goals pointwise []
  all_goals (refine congrArg P ?_; idx_ext)

/-- The weight matrix of convolution 1 at tap `(dh, dw)`, channel `c` and output channel `o`: the weight there. -/
theorem weight1 (V : Valuation τ sig (Elt Ideal)) (dh dw : Fin 3) (c : Fin 64) (o : Fin 128) :
    (after hostOps1_3 V (Proc.devRef .tc main_v52) : FVec Ideal S576x128 .bf16) (ix2 ⟨(3 * dh + dw) * 64 + c, by omega⟩ o)
      = (V (Proc.devRef .tc main_arg3) : FVec Ideal S128x64x3x3 .f32) (ix4 o c dh dw) := by
  after_reads_simp
  generalize V (Proc.devRef .tc main_arg3) = W
  pointwise []
  refine congrArg W ?_
  have h1 := dh.isLt
  have h2 := dw.isLt
  have h3 := c.isLt
  have e1 : ((3 * dh.val + dw.val) * 64 + c.val) % 64 = c.val := by omega
  have e2 : ((3 * dh.val + dw.val) * 64 + c.val) / (64 * 3) = dh.val := by omega
  have e3 : ((3 * dh.val + dw.val) * 64 + c.val) / 64 % 3 = dw.val := by omega
  have e4 : ((3 * dh.val + dw.val) * 64 + c.val) / 192 = dh.val := by omega
  simp only [e1, e2, e3, e4]

/-- The bias row of convolution 1. -/
theorem bias1 (V : Valuation τ sig (Elt Ideal)) (z : Fin 1) (o : Fin 128) :
    (after hostOps1_3 V (Proc.devRef .tc main_v53) : FVec Ideal S1x128 .f32) (ix2 z o)
      = (V (Proc.devRef .tc main_arg4) : FVec Ideal S128 .f32) (ix1 o) := by
  after_reads_simp
  pointwise []

/-- Convolution 1 with its bias, over the contents before the patches are taken, at row `r` and output channel `o`. -/
theorem mmconv1 (V : Valuation τ sig (Elt Ideal)) (r : Fin 18432) (o : Fin 128) :
    mm1 (after hostOps1_3 V (Proc.devRef .tc main_v49)) (after hostOps1_3 V (Proc.devRef .tc main_v52)) (after hostOps1_3 V (Proc.devRef .tc main_v53)) (ix2 r o)
      = taps (fun (dh dw : Fin 3) (k : Fin 64) =>
          rd S128x64x3x3 .f32 (V (Proc.devRef .tc main_arg3)) (ix4 o k dh dw)
          * rd S2x193x193x64 .f32 (V (Proc.devRef .tc main_v29))
              (ix4 ⟨r / 9216, by omega⟩ ⟨dh + 2 * (r / 96 % 96), by omega⟩ ⟨dw + 2 * (r % 96), by omega⟩ k))
        + rd S128 .f32 (V (Proc.devRef .tc main_arg4)) (ix1 o) := by
  refine congrArg₂ (fun a b : EReal => a + b) ?_ (bias1 V 0 o)
  refine (sum_taps 576 64 (by norm_num) _).trans ?_
  refine congrArg taps ?_
  funext dh dw k
  refine (mul_comm _ _).trans ?_
  exact congrArg₂ (fun a b : EReal => a * b) (weight1 V dh dw k o) (patch1 V r dh dw k)

/-- Convolution 1 with its bias in the run, at row `r` and output channel `o`. -/
theorem conv1 (c : Dev nD) (r : Fin 18432) (o : Fin 128) :
    (W9 m ρ c (Proc.devRef .tc main_v54) : FVec Ideal S18432x128 .f32) (ix2 r o)
      = taps (fun (dh dw : Fin 3) (k : Fin 64) =>
          rd S128x64x3x3 .f32 (m ((c : Thread nD τ).loc main_arg3)) (ix4 o k dh dw)
          * rd S2x193x193x64 .f32 (W7 m ρ c (Proc.devRef .tc main_v29))
              (ix4 ⟨r / 9216, by omega⟩ ⟨dh + 2 * (r / 96 % 96), by omega⟩ ⟨dw + 2 * (r % 96), by omega⟩ k))
        + rd S128 .f32 (m ((c : Thread nD τ).loc main_arg4)) (ix1 o) := by
  refine (congrFun (W9_v54 m ρ c) (ix2 r o)).trans ?_
  refine (mmconv1 (W7 m ρ c) r o).trans ?_
  rw [W7_args m ρ c main_arg3 (by decide), W7_args m ρ c main_arg4 (by decide)]

set_option maxHeartbeats 2000000 in
/-- Row `r` of the patches of convolution 2, at tap `(dh, dw)` and channel `c`: the padded image at the tap's place. -/
theorem patch2 (V : Valuation τ sig (Elt Ideal)) (r : Fin 4608) (dh dw : Fin 3) (c : Fin 128) :
    (after hostOps2_3 V (Proc.devRef .tc main_v77) : FVec Ideal S4608x1152 .bf16) (ix2 r ⟨(3 * dh + dw) * 128 + c, by omega⟩)
      = (V (Proc.devRef .tc main_v57) : FVec Ideal S2x97x97x128 .f32)
          (ix4 ⟨r / 2304, by omega⟩ ⟨dh + 2 * (r / 48 % 48), by omega⟩ ⟨dw + 2 * (r % 48), by omega⟩ c) := by
  after_reads_simp
  generalize hP : V (Proc.devRef .tc main_v57) = P
  obtain ⟨dh, hdh⟩ := dh
  obtain ⟨dw, hdw⟩ := dw
  interval_cases dh <;> interval_cases dw <;> pointwise []
  all_goals repeat rw [dif_neg (by omega)]
  all_goals try rw [dif_pos (by omega)]
  all_goals after_reads_simp
  all_goals rw [hP]
  all_goals pointwise []
  all_goals (refine congrArg P ?_; idx_ext)

/-- The weight matrix of convolution 2 at tap `(dh, dw)`, channel `c` and output channel `o`: the weight there. -/
theorem weight2 (V : Valuation τ sig (Elt Ideal)) (dh dw : Fin 3) (c : Fin 128) (o : Fin 256) :
    (after hostOps2_3 V (Proc.devRef .tc main_v80) : FVec Ideal S1152x256 .bf16) (ix2 ⟨(3 * dh + dw) * 128 + c, by omega⟩ o)
      = (V (Proc.devRef .tc main_arg5) : FVec Ideal S256x128x3x3 .f32) (ix4 o c dh dw) := by
  after_reads_simp
  generalize V (Proc.devRef .tc main_arg5) = W
  pointwise []
  refine congrArg W ?_
  have h1 := dh.isLt
  have h2 := dw.isLt
  have h3 := c.isLt
  have e1 : ((3 * dh.val + dw.val) * 128 + c.val) % 128 = c.val := by omega
  have e2 : ((3 * dh.val + dw.val) * 128 + c.val) / (128 * 3) = dh.val := by omega
  have e3 : ((3 * dh.val + dw.val) * 128 + c.val) / 128 % 3 = dw.val := by omega
  have e4 : ((3 * dh.val + dw.val) * 128 + c.val) / 384 = dh.val := by omega
  simp only [e1, e2, e3, e4]

/-- The bias row of convolution 2. -/
theorem bias2 (V : Valuation τ sig (Elt Ideal)) (z : Fin 1) (o : Fin 256) :
    (after hostOps2_3 V (Proc.devRef .tc main_v81) : FVec Ideal S1x256 .f32) (ix2 z o)
      = (V (Proc.devRef .tc main_arg6) : FVec Ideal S256 .f32) (ix1 o) := by
  after_reads_simp
  pointwise []

/-- Convolution 2 with its bias, over the contents before the patches are taken, at row `r` and output channel `o`. -/
theorem mmconv2 (V : Valuation τ sig (Elt Ideal)) (r : Fin 4608) (o : Fin 256) :
    mm2 (after hostOps2_3 V (Proc.devRef .tc main_v77)) (after hostOps2_3 V (Proc.devRef .tc main_v80)) (after hostOps2_3 V (Proc.devRef .tc main_v81)) (ix2 r o)
      = taps (fun (dh dw : Fin 3) (k : Fin 128) =>
          rd S256x128x3x3 .f32 (V (Proc.devRef .tc main_arg5)) (ix4 o k dh dw)
          * rd S2x97x97x128 .f32 (V (Proc.devRef .tc main_v57))
              (ix4 ⟨r / 2304, by omega⟩ ⟨dh + 2 * (r / 48 % 48), by omega⟩ ⟨dw + 2 * (r % 48), by omega⟩ k))
        + rd S256 .f32 (V (Proc.devRef .tc main_arg6)) (ix1 o) := by
  refine congrArg₂ (fun a b : EReal => a + b) ?_ (bias2 V 0 o)
  refine (sum_taps 1152 128 (by norm_num) _).trans ?_
  refine congrArg taps ?_
  funext dh dw k
  refine (mul_comm _ _).trans ?_
  exact congrArg₂ (fun a b : EReal => a * b) (weight2 V dh dw k o) (patch2 V r dh dw k)

/-- Convolution 2 with its bias in the run, at row `r` and output channel `o`. -/
theorem conv2 (c : Dev nD) (r : Fin 4608) (o : Fin 256) :
    (W14 m ρ c (Proc.devRef .tc main_v82) : FVec Ideal S4608x256 .f32) (ix2 r o)
      = taps (fun (dh dw : Fin 3) (k : Fin 128) =>
          rd S256x128x3x3 .f32 (m ((c : Thread nD τ).loc main_arg5)) (ix4 o k dh dw)
          * rd S2x97x97x128 .f32 (W12 m ρ c (Proc.devRef .tc main_v57))
              (ix4 ⟨r / 2304, by omega⟩ ⟨dh + 2 * (r / 48 % 48), by omega⟩ ⟨dw + 2 * (r % 48), by omega⟩ k))
        + rd S256 .f32 (m ((c : Thread nD τ).loc main_arg6)) (ix1 o) := by
  refine (congrFun (W14_v82 m ρ c) (ix2 r o)).trans ?_
  refine (mmconv2 (W12 m ρ c) r o).trans ?_
  rw [W12_args m ρ c main_arg5 (by decide), W12_args m ρ c main_arg6 (by decide)]

/-- The padded image. -/
theorem pad0 (V : Valuation τ sig (Elt Ideal)) (n : Fin 2) (i j : Fin 385) (k : Fin 3) :
    (after hostOps0_1 (after hostOps0 V) (Proc.devRef .tc main_v1) : FVec Ideal S2x385x385x3 .f32) (ix4 n i j k)
      = if h : i.val < 384 ∧ j.val < 384 then
          rd S2x3x384x384 .f32 (V (Proc.devRef .tc main_arg0)) (ix4 n k ⟨i, h.1⟩ ⟨j, h.2⟩)
        else FloatOps.sitofp (F := Ideal) FTy.f32 0#32 := by
  after_reads_simp
  simp -implicitDefEqProofs only [StableHlo.TRef.toBuf, StableHlo.TRef.ofBuf, cast_cast, cast_eq]
  generalize V (Proc.devRef .tc main_arg0) = P
  pointwise []

set_option maxRecDepth 100000 in
set_option maxHeartbeats 2000000 in
/-- The activated first convolution, padded. -/
theorem pad1 (V : Valuation τ sig (Elt Ideal)) (n : Fin 2) (i j : Fin 193) (k : Fin 64) :
    (after hostOps1_2 (after hostOps1_1 (after hostOps1 V)) (Proc.devRef .tc main_v29) : FVec Ideal S2x193x193x64 .f32) (ix4 n i j k)
      = if h : i.val < 192 ∧ j.val < 192 then
          silu (rd S73728x64 .f32 (V (Proc.devRef .tc main_v26)) (ix2 ⟨n * 36864 + i * 192 + j, by omega⟩ k))
        else FloatOps.sitofp (F := Ideal) FTy.f32 0#32 := by
  unfold silu
  after_reads_simp
  simp -implicitDefEqProofs only [StableHlo.TRef.toBuf, StableHlo.TRef.ofBuf, cast_cast, cast_eq]
  generalize V (Proc.devRef .tc main_v26) = P
  pointwise []

set_option maxRecDepth 100000 in
set_option maxHeartbeats 2000000 in
/-- The activated second convolution, padded. -/
theorem pad2 (V : Valuation τ sig (Elt Ideal)) (n : Fin 2) (i j : Fin 97) (k : Fin 128) :
    (after hostOps2_2 (after hostOps2_1 (after hostOps2 V)) (Proc.devRef .tc main_v57) : FVec Ideal S2x97x97x128 .f32) (ix4 n i j k)
      = if h : i.val < 96 ∧ j.val < 96 then
          silu (rd S18432x128 .f32 (V (Proc.devRef .tc main_v54)) (ix2 ⟨n * 9216 + i * 96 + j, by omega⟩ k))
        else FloatOps.sitofp (F := Ideal) FTy.f32 0#32 := by
  unfold silu
  after_reads_simp
  simp -implicitDefEqProofs only [StableHlo.TRef.toBuf, StableHlo.TRef.ofBuf, cast_cast, cast_eq]
  generalize V (Proc.devRef .tc main_v54) = P
  pointwise []

theorem head_w (V : Valuation τ sig (Elt Ideal)) (k : Fin 256) (o : Fin 255) :
    (after hostOps3_1 V (Proc.devRef .tc main_v86) : FVec Ideal S256x255 .bf16) (ix2 k o)
      = rd S255x256x1x1 .f32 (V (Proc.devRef .tc main_arg7)) (ix4 o k 0 0) := by
  after_reads_simp
  generalize V (Proc.devRef .tc main_arg7) = P
  pointwise []

theorem head_x (V : Valuation τ sig (Elt Ideal)) (r : Fin 4608) (k : Fin 256) :
    (after hostOps3_1 (after hostOps3 V) (Proc.devRef .tc main_v87) : FVec Ideal S4608x256 .bf16) (ix2 r k)
      = silu (rd S4608x256 .f32 (V (Proc.devRef .tc main_v82)) (ix2 r k)) := by
  unfold silu
  after_reads_simp
  simp -implicitDefEqProofs only [StableHlo.TRef.toBuf, StableHlo.TRef.ofBuf, cast_cast, cast_eq]
  generalize V (Proc.devRef .tc main_v82) = P
  pointwise []

theorem head_b (V : Valuation τ sig (Elt Ideal)) (z : Fin 1) (o : Fin 255) :
    (after hostOps3_1 V (Proc.devRef .tc main_v88) : FVec Ideal S1x255 .f32) (ix2 z o)
      = rd S255 .f32 (V (Proc.devRef .tc main_arg8)) (ix1 o) := by
  after_reads_simp
  generalize V (Proc.devRef .tc main_arg8) = P
  pointwise []

/-- The head: the product of launch 3 over the activated third convolution. -/
theorem head (c : Dev nD) (r : Fin 4608) (o : Fin 255) :
    (W17 m ρ c (Proc.devRef .tc main_v89) : FVec Ideal S4608x255 .f32) (ix2 r o)
      = ∑ k : Fin 256, rd S255x256x1x1 .f32 (m ((c : Thread nD τ).loc main_arg7)) (ix4 o k 0 0)
            * silu (rd S4608x256 .f32 (W14 m ρ c (Proc.devRef .tc main_v82)) (ix2 r k))
        + rd S255 .f32 (m ((c : Thread nD τ).loc main_arg8)) (ix1 o) := by
  refine (congrFun (W17_v89 m ρ c) (ix2 r o)).trans ?_
  rw [← W15_args m ρ c main_arg7 (by decide), ← W15_args m ρ c main_arg8 (by decide)]
  refine congrArg₂ (fun a b : EReal => a + b) (Finset.sum_congr rfl fun k _ => ?_) (head_b _ 0 o)
  refine (mul_comm _ _).trans ?_
  exact congrArg₂ (fun a b : EReal => a * b) (head_w _ k o) (head_x _ r k)

/-- The predictions, cell by cell and anchor by anchor. -/
theorem preds (V : Valuation τ sig (Elt Ideal)) (n : Fin 2) (q : Fin 6912) (k : Fin 85) :
    (after hostOps4 V (Proc.devRef .tc main_v92) : FVec Ideal S2x6912x85 .f32) (ix3 n q k)
      = rd S4608x255 .f32 (V (Proc.devRef .tc main_v89))
          (ix2 ⟨n * 2304 + q % 2304, by omega⟩ ⟨q / 2304 * 85 + k, by omega⟩) := by
  after_reads_simp
  generalize V (Proc.devRef .tc main_v89) = P
  clean_types
  pointwise []

end Cert.KernelIdeal.Hand

end
-- ==== Proof.RConv.lean ====
/-
  The reference's three convolutions read at an index: the padded image, the nine products of a weight slice with an
  image slice, the bias and the activation, as a sum over the nine taps.
-/
module

public import proofs.«01_k».proof.Proof.RefRun
public import proofs.«01_k».proof.Proof.Taps
public import Idealize.ShloMosaic.Lib.StableHlo.RunRead
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Hand
open Idealize.ShloMosaic Idealize.ShloMosaic.StableHlo Idealize.ShloMosaic.TcCoe Idealize.SL.Sem

/-- The image over one, padded. -/
theorem pad0 (V : Valuation τ sig (Elt Ideal)) (n : Fin 2) (i j : Fin 385) (k : Fin 3) :
    (after hostOps0_1 (after hostOps0 V) (Proc.devRef .tc main_v4) : FVec Ideal S2x3x385x385 .f32) (ix4 n k i j)
      = if h : i.val < 384 ∧ j.val < 384 then
          rd S2x3x384x384 .f32 (V (Proc.devRef .tc main_arg0)) (ix4 n k ⟨i, h.1⟩ ⟨j, h.2⟩)
        else FloatOps.sitofp (F := Ideal) FTy.f32 0#32 := by
  after_reads_simp
  simp -implicitDefEqProofs only [StableHlo.TRef.toBuf, StableHlo.TRef.ofBuf, cast_cast, cast_eq]
  generalize V (Proc.devRef .tc main_arg0) = P
  pointwise []
  simp only [Cert.Hand.div_one]

set_option maxHeartbeats 2000000 in
/-- Convolution 0 with its bias, over the contents before it. -/
theorem conv0 (V : Valuation τ sig (Elt Ideal)) (n : Fin 2) (o : Fin 64) (i j : Fin 192) :
    (after hostOps0_2 V (Proc.devRef .tc main_v60) : FVec Ideal S2x64x192x192 .f32) (ix4 n o i j)
      = taps (fun (dh dw : Fin 3) (k : Fin 3) =>
          rd S64x3x3x3 .f32 (V (Proc.devRef .tc main_arg1)) (ix4 o k dh dw)
          * rd S2x3x385x385 .f32 (V (Proc.devRef .tc main_v4)) (ix4 n k ⟨dh + 2 * i, by omega⟩ ⟨dw + 2 * j, by omega⟩))
        + rd S64 .f32 (V (Proc.devRef .tc main_arg2)) (ix1 o) := by
  after_reads_simp
  generalize V (Proc.devRef .tc main_v4) = P
  generalize V (Proc.devRef .tc main_arg1) = W
  generalize V (Proc.devRef .tc main_arg2) = B
  pointwise [taps]

set_option maxHeartbeats 2000000 in
/-- Convolution 1 with its bias, over the contents before it. -/
theorem conv1 (V : Valuation τ sig (Elt Ideal)) (n : Fin 2) (o : Fin 128) (i j : Fin 96) :
    (after hostOps0_6 V (Proc.devRef .tc main_v118) : FVec Ideal S2x128x96x96 .f32) (ix4 n o i j)
      = taps (fun (dh dw : Fin 3) (k : Fin 64) =>
          rd S128x64x3x3 .f32 (V (Proc.devRef .tc main_arg3)) (ix4 o k dh dw)
          * rd S2x64x193x193 .f32 (V (Proc.devRef .tc main_v62)) (ix4 n k ⟨dh + 2 * i, by omega⟩ ⟨dw + 2 * j, by omega⟩))
        + rd S128 .f32 (V (Proc.devRef .tc main_arg4)) (ix1 o) := by
  after_reads_simp
  generalize V (Proc.devRef .tc main_v62) = P
  generalize V (Proc.devRef .tc main_arg3) = W
  generalize V (Proc.devRef .tc main_arg4) = B
  pointwise [taps]

set_option maxHeartbeats 2000000 in
/-- Convolution 2 with its bias, over the contents before it. -/
theorem conv2 (V : Valuation τ sig (Elt Ideal)) (n : Fin 2) (o : Fin 256) (i j : Fin 48) :
    (after hostOps0_10 V (Proc.devRef .tc main_v176) : FVec Ideal S2x256x48x48 .f32) (ix4 n o i j)
      = taps (fun (dh dw : Fin 3) (k : Fin 128) =>
          rd S256x128x3x3 .f32 (V (Proc.devRef .tc main_arg5)) (ix4 o k dh dw)
          * rd S2x128x97x97 .f32 (V (Proc.devRef .tc main_v120)) (ix4 n k ⟨dh + 2 * i, by omega⟩ ⟨dw + 2 * j, by omega⟩))
        + rd S256 .f32 (V (Proc.devRef .tc main_arg6)) (ix1 o) := by
  after_reads_simp
  generalize V (Proc.devRef .tc main_v120) = P
  generalize V (Proc.devRef .tc main_arg5) = W
  generalize V (Proc.devRef .tc main_arg6) = B
  pointwise [taps]

set_option maxRecDepth 100000 in
set_option maxHeartbeats 2000000 in
/-- The activated convolution, padded, in front of convolution 1. -/
theorem pad1 (V : Valuation τ sig (Elt Ideal)) (n : Fin 2) (i j : Fin 193) (k : Fin 64) :
    (after hostOps0_5 (after hostOps0_4 (after hostOps0_3 V)) (Proc.devRef .tc main_v62) : FVec Ideal S2x64x193x193 .f32) (ix4 n k i j)
      = if h : i.val < 192 ∧ j.val < 192 then
          silu (rd S2x64x192x192 .f32 (V (Proc.devRef .tc main_v60)) (ix4 n k ⟨i, h.1⟩ ⟨j, h.2⟩))
        else FloatOps.sitofp (F := Ideal) FTy.f32 0#32 := by
  unfold silu
  after_reads_simp
  simp -implicitDefEqProofs only [StableHlo.TRef.toBuf, StableHlo.TRef.ofBuf, cast_cast, cast_eq]
  generalize V (Proc.devRef .tc main_v60) = P
  pointwise []

set_option maxRecDepth 100000 in
set_option maxHeartbeats 2000000 in
/-- The activated convolution, padded, in front of convolution 2. -/
theorem pad2 (V : Valuation τ sig (Elt Ideal)) (n : Fin 2) (i j : Fin 97) (k : Fin 128) :
    (after hostOps0_9 (after hostOps0_8 (after hostOps0_7 V)) (Proc.devRef .tc main_v120) : FVec Ideal S2x128x97x97 .f32) (ix4 n k i j)
      = if h : i.val < 96 ∧ j.val < 96 then
          silu (rd S2x128x96x96 .f32 (V (Proc.devRef .tc main_v118)) (ix4 n k ⟨i, h.1⟩ ⟨j, h.2⟩))
        else FloatOps.sitofp (F := Ideal) FTy.f32 0#32 := by
  unfold silu
  after_reads_simp
  simp -implicitDefEqProofs only [StableHlo.TRef.toBuf, StableHlo.TRef.ofBuf, cast_cast, cast_eq]
  generalize V (Proc.devRef .tc main_v118) = P
  pointwise []

/-- The activated third convolution. -/
theorem act2 (V : Valuation τ sig (Elt Ideal)) (n : Fin 2) (k : Fin 256) (i j : Fin 48) :
    (after hostOps0_11 V (Proc.devRef .tc main_v177) : FVec Ideal S2x256x48x48 .f32) (ix4 n k i j)
      = silu (rd S2x256x48x48 .f32 (V (Proc.devRef .tc main_v176)) (ix4 n k i j)) := by
  unfold silu
  after_reads_simp
  simp -implicitDefEqProofs only [StableHlo.TRef.toBuf, StableHlo.TRef.ofBuf, cast_cast, cast_eq]
  generalize V (Proc.devRef .tc main_v176) = P
  pointwise []

set_option maxRecDepth 100000 in
set_option maxHeartbeats 2000000 in
/-- The predictions, cell by cell and anchor by anchor. -/
theorem preds (V : Valuation τ sig (Elt Ideal)) (n : Fin 2) (q : Fin 6912) (k : Fin 85) :
    (after hostOps0_12 V (Proc.devRef .tc main_v186) : FVec Ideal S2x6912x85 .f32) (ix3 n q k)
      = ∑ t : Fin 256, rd S255x256x1x1 .f32 (V (Proc.devRef .tc main_arg7)) (ix4 ⟨q / 2304 * 85 + k, by omega⟩ t 0 0)
            * rd S2x256x48x48 .f32 (V (Proc.devRef .tc main_v177)) (ix4 n t ⟨q / 48 % 48, by omega⟩ ⟨q % 48, by omega⟩)
        + rd S255 .f32 (V (Proc.devRef .tc main_arg8)) (ix1 ⟨q / 2304 * 85 + k, by omega⟩) := by
  after_reads_simp
  clean_types
  generalize V (Proc.devRef .tc main_v177) = P
  generalize V (Proc.devRef .tc main_arg7) = W
  generalize V (Proc.devRef .tc main_arg8) = B
  pointwise []

end Cert.ReferenceIdeal.Hand

end
-- ==== Proof.MatchConv.lean ====
/-
  The kernel's and the reference's convolutions agree: the kernel keeps the channels last and one row per cell, the
  reference keeps the channels second. Every array is compared at an index.
-/
module

public import proofs.«01_k».proof.Proof.KConv
public import proofs.«01_k».proof.Proof.RConv

@[expose] public section

set_option maxRecDepth 16384

noncomputable section

namespace Cert.Match

open Idealize.ShloMosaic Idealize.ShloMosaic.StableHlo Idealize.ShloMosaic.TcCoe Idealize.SL.Sem
open Cert.Hand

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V : Valuation Cert.ReferenceIdeal.τ Cert.ReferenceIdeal.sig (Elt Ideal))

/-- The reference's arguments are the kernel's. -/
structure Args : Prop where
  h0 : rd Cert.ReferenceIdeal.S2x3x384x384 .f32 (V (Proc.devRef .tc Cert.ReferenceIdeal.main_arg0))
    = rd Cert.KernelIdeal.S2x3x384x384 .f32 (m ((c.tc : Thread Cert.KernelIdeal.nD Cert.KernelIdeal.τ).loc Cert.KernelIdeal.main_arg0))
  h1 : rd Cert.ReferenceIdeal.S64x3x3x3 .f32 (V (Proc.devRef .tc Cert.ReferenceIdeal.main_arg1))
    = rd Cert.KernelIdeal.S64x3x3x3 .f32 (m ((c.tc : Thread Cert.KernelIdeal.nD Cert.KernelIdeal.τ).loc Cert.KernelIdeal.main_arg1))
  h2 : rd Cert.ReferenceIdeal.S64 .f32 (V (Proc.devRef .tc Cert.ReferenceIdeal.main_arg2))
    = rd Cert.KernelIdeal.S64 .f32 (m ((c.tc : Thread Cert.KernelIdeal.nD Cert.KernelIdeal.τ).loc Cert.KernelIdeal.main_arg2))
  h3 : rd Cert.ReferenceIdeal.S128x64x3x3 .f32 (V (Proc.devRef .tc Cert.ReferenceIdeal.main_arg3))
    = rd Cert.KernelIdeal.S128x64x3x3 .f32 (m ((c.tc : Thread Cert.KernelIdeal.nD Cert.KernelIdeal.τ).loc Cert.KernelIdeal.main_arg3))
  h4 : rd Cert.ReferenceIdeal.S128 .f32 (V (Proc.devRef .tc Cert.ReferenceIdeal.main_arg4))
    = rd Cert.KernelIdeal.S128 .f32 (m ((c.tc : Thread Cert.KernelIdeal.nD Cert.KernelIdeal.τ).loc Cert.KernelIdeal.main_arg4))
  h5 : rd Cert.ReferenceIdeal.S256x128x3x3 .f32 (V (Proc.devRef .tc Cert.ReferenceIdeal.main_arg5))
    = rd Cert.KernelIdeal.S256x128x3x3 .f32 (m ((c.tc : Thread Cert.KernelIdeal.nD Cert.KernelIdeal.τ).loc Cert.KernelIdeal.main_arg5))
  h6 : rd Cert.ReferenceIdeal.S256 .f32 (V (Proc.devRef .tc Cert.ReferenceIdeal.main_arg6))
    = rd Cert.KernelIdeal.S256 .f32 (m ((c.tc : Thread Cert.KernelIdeal.nD Cert.KernelIdeal.τ).loc Cert.KernelIdeal.main_arg6))
  h7 : rd Cert.ReferenceIdeal.S255x256x1x1 .f32 (V (Proc.devRef .tc Cert.ReferenceIdeal.main_arg7))
    = rd Cert.KernelIdeal.S255x256x1x1 .f32 (m ((c.tc : Thread Cert.KernelIdeal.nD Cert.KernelIdeal.τ).loc Cert.KernelIdeal.main_arg7))
  h8 : rd Cert.ReferenceIdeal.S255 .f32 (V (Proc.devRef .tc Cert.ReferenceIdeal.main_arg8))
    = rd Cert.KernelIdeal.S255 .f32 (m ((c.tc : Thread Cert.KernelIdeal.nD Cert.KernelIdeal.τ).loc Cert.KernelIdeal.main_arg8))

theorem X2_arg1 : Cert.ReferenceIdeal.Hand.X2 V (Proc.devRef .tc Cert.ReferenceIdeal.main_arg1) = V (Proc.devRef .tc Cert.ReferenceIdeal.main_arg1) := by
  rw [Cert.ReferenceIdeal.Hand.X2_of V Cert.ReferenceIdeal.main_arg1 (by decide), Cert.ReferenceIdeal.Hand.X1_of V Cert.ReferenceIdeal.main_arg1 (by decide)]
  rfl

theorem X2_arg2 : Cert.ReferenceIdeal.Hand.X2 V (Proc.devRef .tc Cert.ReferenceIdeal.main_arg2) = V (Proc.devRef .tc Cert.ReferenceIdeal.main_arg2) := by
  rw [Cert.ReferenceIdeal.Hand.X2_of V Cert.ReferenceIdeal.main_arg2 (by decide), Cert.ReferenceIdeal.Hand.X1_of V Cert.ReferenceIdeal.main_arg2 (by decide)]
  rfl

theorem X6_arg3 : Cert.ReferenceIdeal.Hand.X6 V (Proc.devRef .tc Cert.ReferenceIdeal.main_arg3) = V (Proc.devRef .tc Cert.ReferenceIdeal.main_arg3) := by
  rw [Cert.ReferenceIdeal.Hand.X6_of V Cert.ReferenceIdeal.main_arg3 (by decide), Cert.ReferenceIdeal.Hand.X5_of V Cert.ReferenceIdeal.main_arg3 (by decide), Cert.ReferenceIdeal.Hand.X4_of V Cert.ReferenceIdeal.main_arg3 (by decide), Cert.ReferenceIdeal.Hand.X3_of V Cert.ReferenceIdeal.main_arg3 (by decide), Cert.ReferenceIdeal.Hand.X2_of V Cert.ReferenceIdeal.main_arg3 (by decide), Cert.ReferenceIdeal.Hand.X1_of V Cert.ReferenceIdeal.main_arg3 (by decide)]
  rfl

theorem X6_arg4 : Cert.ReferenceIdeal.Hand.X6 V (Proc.devRef .tc Cert.ReferenceIdeal.main_arg4) = V (Proc.devRef .tc Cert.ReferenceIdeal.main_arg4) := by
  rw [Cert.ReferenceIdeal.Hand.X6_of V Cert.ReferenceIdeal.main_arg4 (by decide), Cert.ReferenceIdeal.Hand.X5_of V Cert.ReferenceIdeal.main_arg4 (by decide), Cert.ReferenceIdeal.Hand.X4_of V Cert.ReferenceIdeal.main_arg4 (by decide), Cert.ReferenceIdeal.Hand.X3_of V Cert.ReferenceIdeal.main_arg4 (by decide), Cert.ReferenceIdeal.Hand.X2_of V Cert.ReferenceIdeal.main_arg4 (by decide), Cert.ReferenceIdeal.Hand.X1_of V Cert.ReferenceIdeal.main_arg4 (by decide)]
  rfl

theorem X10_arg5 : Cert.ReferenceIdeal.Hand.X10 V (Proc.devRef .tc Cert.ReferenceIdeal.main_arg5) = V (Proc.devRef .tc Cert.ReferenceIdeal.main_arg5) := by
  rw [Cert.ReferenceIdeal.Hand.X10_of V Cert.ReferenceIdeal.main_arg5 (by decide), Cert.ReferenceIdeal.Hand.X9_of V Cert.ReferenceIdeal.main_arg5 (by decide), Cert.ReferenceIdeal.Hand.X8_of V Cert.ReferenceIdeal.main_arg5 (by decide), Cert.ReferenceIdeal.Hand.X7_of V Cert.ReferenceIdeal.main_arg5 (by decide), Cert.ReferenceIdeal.Hand.X6_of V Cert.ReferenceIdeal.main_arg5 (by decide), Cert.ReferenceIdeal.Hand.X5_of V Cert.ReferenceIdeal.main_arg5 (by decide), Cert.ReferenceIdeal.Hand.X4_of V Cert.ReferenceIdeal.main_arg5 (by decide), Cert.ReferenceIdeal.Hand.X3_of V Cert.ReferenceIdeal.main_arg5 (by decide), Cert.ReferenceIdeal.Hand.X2_of V Cert.ReferenceIdeal.main_arg5 (by decide), Cert.ReferenceIdeal.Hand.X1_of V Cert.ReferenceIdeal.main_arg5 (by decide)]
  rfl

theorem X10_arg6 : Cert.ReferenceIdeal.Hand.X10 V (Proc.devRef .tc Cert.ReferenceIdeal.main_arg6) = V (Proc.devRef .tc Cert.ReferenceIdeal.main_arg6) := by
  rw [Cert.ReferenceIdeal.Hand.X10_of V Cert.ReferenceIdeal.main_arg6 (by decide), Cert.ReferenceIdeal.Hand.X9_of V Cert.ReferenceIdeal.main_arg6 (by decide), Cert.ReferenceIdeal.Hand.X8_of V Cert.ReferenceIdeal.main_arg6 (by decide), Cert.ReferenceIdeal.Hand.X7_of V Cert.ReferenceIdeal.main_arg6 (by decide), Cert.ReferenceIdeal.Hand.X6_of V Cert.ReferenceIdeal.main_arg6 (by decide), Cert.ReferenceIdeal.Hand.X5_of V Cert.ReferenceIdeal.main_arg6 (by decide), Cert.ReferenceIdeal.Hand.X4_of V Cert.ReferenceIdeal.main_arg6 (by decide), Cert.ReferenceIdeal.Hand.X3_of V Cert.ReferenceIdeal.main_arg6 (by decide), Cert.ReferenceIdeal.Hand.X2_of V Cert.ReferenceIdeal.main_arg6 (by decide), Cert.ReferenceIdeal.Hand.X1_of V Cert.ReferenceIdeal.main_arg6 (by decide)]
  rfl

theorem X12_arg7 : Cert.ReferenceIdeal.Hand.X12 V (Proc.devRef .tc Cert.ReferenceIdeal.main_arg7) = V (Proc.devRef .tc Cert.ReferenceIdeal.main_arg7) := by
  rw [Cert.ReferenceIdeal.Hand.X12_of V Cert.ReferenceIdeal.main_arg7 (by decide), Cert.ReferenceIdeal.Hand.X11_of V Cert.ReferenceIdeal.main_arg7 (by decide), Cert.ReferenceIdeal.Hand.X10_of V Cert.ReferenceIdeal.main_arg7 (by decide), Cert.ReferenceIdeal.Hand.X9_of V Cert.ReferenceIdeal.main_arg7 (by decide), Cert.ReferenceIdeal.Hand.X8_of V Cert.ReferenceIdeal.main_arg7 (by decide), Cert.ReferenceIdeal.Hand.X7_of V Cert.ReferenceIdeal.main_arg7 (by decide), Cert.ReferenceIdeal.Hand.X6_of V Cert.ReferenceIdeal.main_arg7 (by decide), Cert.ReferenceIdeal.Hand.X5_of V Cert.ReferenceIdeal.main_arg7 (by decide), Cert.ReferenceIdeal.Hand.X4_of V Cert.ReferenceIdeal.main_arg7 (by decide), Cert.ReferenceIdeal.Hand.X3_of V Cert.ReferenceIdeal.main_arg7 (by decide), Cert.ReferenceIdeal.Hand.X2_of V Cert.ReferenceIdeal.main_arg7 (by decide), Cert.ReferenceIdeal.Hand.X1_of V Cert.ReferenceIdeal.main_arg7 (by decide)]
  rfl

theorem X12_arg8 : Cert.ReferenceIdeal.Hand.X12 V (Proc.devRef .tc Cert.ReferenceIdeal.main_arg8) = V (Proc.devRef .tc Cert.ReferenceIdeal.main_arg8) := by
  rw [Cert.ReferenceIdeal.Hand.X12_of V Cert.ReferenceIdeal.main_arg8 (by decide), Cert.ReferenceIdeal.Hand.X11_of V Cert.ReferenceIdeal.main_arg8 (by decide), Cert.ReferenceIdeal.Hand.X10_of V Cert.ReferenceIdeal.main_arg8 (by decide), Cert.ReferenceIdeal.Hand.X9_of V Cert.ReferenceIdeal.main_arg8 (by decide), Cert.ReferenceIdeal.Hand.X8_of V Cert.ReferenceIdeal.main_arg8 (by decide), Cert.ReferenceIdeal.Hand.X7_of V Cert.ReferenceIdeal.main_arg8 (by decide), Cert.ReferenceIdeal.Hand.X6_of V Cert.ReferenceIdeal.main_arg8 (by decide), Cert.ReferenceIdeal.Hand.X5_of V Cert.ReferenceIdeal.main_arg8 (by decide), Cert.ReferenceIdeal.Hand.X4_of V Cert.ReferenceIdeal.main_arg8 (by decide), Cert.ReferenceIdeal.Hand.X3_of V Cert.ReferenceIdeal.main_arg8 (by decide), Cert.ReferenceIdeal.Hand.X2_of V Cert.ReferenceIdeal.main_arg8 (by decide), Cert.ReferenceIdeal.Hand.X1_of V Cert.ReferenceIdeal.main_arg8 (by decide)]
  rfl

variable {m c V}

/-- The padded images agree. -/
theorem eP0 (h : Args m c V) (n : Fin 2) (i j : Fin 385) (k : Fin 3) :
    rd Cert.KernelIdeal.S2x385x385x3 .f32 (Cert.KernelIdeal.Gen.W2 m ρ c (Proc.devRef .tc Cert.KernelIdeal.main_v1)) (ix4 n i j k)
      = rd Cert.ReferenceIdeal.S2x3x385x385 .f32 (Cert.ReferenceIdeal.Hand.X2 V (Proc.devRef .tc Cert.ReferenceIdeal.main_v4)) (ix4 n k i j) := by
  refine (Cert.KernelIdeal.Hand.pad0 (Cert.KernelIdeal.Gen.W0 m ρ c) n i j k).trans ?_
  refine Eq.trans ?_ (Cert.ReferenceIdeal.Hand.pad0 V n i j k).symm
  rw [h.h0]

/-- The outputs of convolution 0 agree. -/
theorem eC0 (h : Args m c V) (r : Fin 73728) (o : Fin 64) :
    rd Cert.KernelIdeal.S73728x64 .f32 (Cert.KernelIdeal.Gen.W4 m ρ c (Proc.devRef .tc Cert.KernelIdeal.main_v26)) (ix2 r o)
      = rd Cert.ReferenceIdeal.S2x64x192x192 .f32 (Cert.ReferenceIdeal.Hand.X3 V (Proc.devRef .tc Cert.ReferenceIdeal.main_v60))
          (ix4 ⟨r / 36864, by omega⟩ o ⟨r / 192 % 192, by omega⟩ ⟨r % 192, by omega⟩) := by
  refine (Cert.KernelIdeal.Hand.conv0 m ρ c r o).trans ?_
  refine Eq.trans ?_ (Cert.ReferenceIdeal.Hand.conv0 (Cert.ReferenceIdeal.Hand.X2 V) _ o _ _).symm
  rw [X2_arg1 V, X2_arg2 V, h.h1, h.h2]
  refine congrArg₂ (fun a b : EReal => a + b) (congrArg taps ?_) rfl
  funext dh dw k
  exact congrArg₂ (fun a b : EReal => a * b) rfl (eP0 ρ h _ _ _ k)

/-- The padded inputs of convolution 1 agree. -/
theorem eP1 (h : Args m c V) (n : Fin 2) (i j : Fin 193) (k : Fin 64) :
    rd Cert.KernelIdeal.S2x193x193x64 .f32 (Cert.KernelIdeal.Gen.W7 m ρ c (Proc.devRef .tc Cert.KernelIdeal.main_v29)) (ix4 n i j k)
      = rd Cert.ReferenceIdeal.S2x64x193x193 .f32 (Cert.ReferenceIdeal.Hand.X6 V (Proc.devRef .tc Cert.ReferenceIdeal.main_v62)) (ix4 n k i j) := by
  refine (Cert.KernelIdeal.Hand.pad1 (Cert.KernelIdeal.Gen.W4 m ρ c) n i j k).trans ?_
  refine Eq.trans ?_ (Cert.ReferenceIdeal.Hand.pad1 (Cert.ReferenceIdeal.Hand.X3 V) n i j k).symm
  by_cases hb : i.val < 192 ∧ j.val < 192
  · rw [dif_pos hb, dif_pos hb]
    refine congrArg silu ((eC0 ρ h _ k).trans ?_)
    have e1 : (n.val * 36864 + i.val * 192 + j.val) / 36864 = n.val := by omega
    have e2 : (n.val * 36864 + i.val * 192 + j.val) / 192 % 192 = i.val := by omega
    have e3 : (n.val * 36864 + i.val * 192 + j.val) % 192 = j.val := by omega
    simp only [e1, e2, e3]
  · rw [dif_neg hb, dif_neg hb]

/-- The outputs of convolution 1 agree. -/
theorem eC1 (h : Args m c V) (r : Fin 18432) (o : Fin 128) :
    rd Cert.KernelIdeal.S18432x128 .f32 (Cert.KernelIdeal.Gen.W9 m ρ c (Proc.devRef .tc Cert.KernelIdeal.main_v54)) (ix2 r o)
      = rd Cert.ReferenceIdeal.S2x128x96x96 .f32 (Cert.ReferenceIdeal.Hand.X7 V (Proc.devRef .tc Cert.ReferenceIdeal.main_v118))
          (ix4 ⟨r / 9216, by omega⟩ o ⟨r / 96 % 96, by omega⟩ ⟨r % 96, by omega⟩) := by
  refine (Cert.KernelIdeal.Hand.conv1 m ρ c r o).trans ?_
  refine Eq.trans ?_ (Cert.ReferenceIdeal.Hand.conv1 (Cert.ReferenceIdeal.Hand.X6 V) _ o _ _).symm
  rw [X6_arg3 V, X6_arg4 V, h.h3, h.h4]
  refine congrArg₂ (fun a b : EReal => a + b) (congrArg taps ?_) rfl
  funext dh dw k
  exact congrArg₂ (fun a b : EReal => a * b) rfl (eP1 ρ h _ _ _ k)

/-- The padded inputs of convolution 2 agree. -/
theorem eP2 (h : Args m c V) (n : Fin 2) (i j : Fin 97) (k : Fin 128) :
    rd Cert.KernelIdeal.S2x97x97x128 .f32 (Cert.KernelIdeal.Gen.W12 m ρ c (Proc.devRef .tc Cert.KernelIdeal.main_v57)) (ix4 n i j k)
      = rd Cert.ReferenceIdeal.S2x128x97x97 .f32 (Cert.ReferenceIdeal.Hand.X10 V (Proc.devRef .tc Cert.ReferenceIdeal.main_v120)) (ix4 n k i j) := by
  refine (Cert.KernelIdeal.Hand.pad2 (Cert.KernelIdeal.Gen.W9 m ρ c) n i j k).trans ?_
  refine Eq.trans ?_ (Cert.ReferenceIdeal.Hand.pad2 (Cert.ReferenceIdeal.Hand.X7 V) n i j k).symm
  by_cases hb : i.val < 96 ∧ j.val < 96
  · rw [dif_pos hb, dif_pos hb]
    refine congrArg silu ((eC1 ρ h _ k).trans ?_)
    have e1 : (n.val * 9216 + i.val * 96 + j.val) / 9216 = n.val := by omega
    have e2 : (n.val * 9216 + i.val * 96 + j.val) / 96 % 96 = i.val := by omega
    have e3 : (n.val * 9216 + i.val * 96 + j.val) % 96 = j.val := by omega
    simp only [e1, e2, e3]
  · rw [dif_neg hb, dif_neg hb]

/-- The outputs of convolution 2 agree. -/
theorem eC2 (h : Args m c V) (r : Fin 4608) (o : Fin 256) :
    rd Cert.KernelIdeal.S4608x256 .f32 (Cert.KernelIdeal.Gen.W14 m ρ c (Proc.devRef .tc Cert.KernelIdeal.main_v82)) (ix2 r o)
      = rd Cert.ReferenceIdeal.S2x256x48x48 .f32 (Cert.ReferenceIdeal.Hand.X11 V (Proc.devRef .tc Cert.ReferenceIdeal.main_v176))
          (ix4 ⟨r / 2304, by omega⟩ o ⟨r / 48 % 48, by omega⟩ ⟨r % 48, by omega⟩) := by
  refine (Cert.KernelIdeal.Hand.conv2 m ρ c r o).trans ?_
  refine Eq.trans ?_ (Cert.ReferenceIdeal.Hand.conv2 (Cert.ReferenceIdeal.Hand.X10 V) _ o _ _).symm
  rw [X10_arg5 V, X10_arg6 V, h.h5, h.h6]
  refine congrArg₂ (fun a b : EReal => a + b) (congrArg taps ?_) rfl
  funext dh dw k
  exact congrArg₂ (fun a b : EReal => a * b) rfl (eP2 ρ h _ _ _ k)

/-- The predictions agree. -/
theorem ePreds_at (h : Args m c V) (n : Fin 2) (q : Fin 6912) (k : Fin 85) :
    rd Cert.KernelIdeal.S2x6912x85 .f32 (Cert.KernelIdeal.Gen.W18 m ρ c (Proc.devRef .tc Cert.KernelIdeal.main_v92)) (ix3 n q k)
      = rd Cert.ReferenceIdeal.S2x6912x85 .f32 (Cert.ReferenceIdeal.Hand.X13 V (Proc.devRef .tc Cert.ReferenceIdeal.main_v186)) (ix3 n q k) := by
  refine (Cert.KernelIdeal.Hand.preds (Cert.KernelIdeal.Gen.W17 m ρ c) n q k).trans ?_
  refine (Cert.KernelIdeal.Hand.head m ρ c _ _).trans ?_
  refine Eq.trans ?_ (Cert.ReferenceIdeal.Hand.preds (Cert.ReferenceIdeal.Hand.X12 V) n q k).symm
  rw [X12_arg7 V, X12_arg8 V, h.h7, h.h8]
  refine congrArg₂ (fun a b : EReal => a + b) (Finset.sum_congr rfl fun t _ => ?_) rfl
  refine congrArg₂ (fun a b : EReal => a * b) rfl ?_
  refine Eq.trans ?_ (Cert.ReferenceIdeal.Hand.act2 (Cert.ReferenceIdeal.Hand.X11 V) n t _ _).symm
  refine congrArg silu ((eC2 ρ h _ t).trans ?_)
  have e1 : (n.val * 2304 + q.val % 2304) / 2304 = n.val := by omega
  have e2 : (n.val * 2304 + q.val % 2304) / 48 % 48 = q.val / 48 % 48 := by omega
  have e3 : (n.val * 2304 + q.val % 2304) % 48 = q.val % 48 := by omega
  simp only [e1, e2, e3]

/-- The predictions agree as arrays. -/
theorem ePreds (h : Args m c V) :
    rd Cert.KernelIdeal.S2x6912x85 .f32 (Cert.KernelIdeal.Gen.W18 m ρ c (Proc.devRef .tc Cert.KernelIdeal.main_v92))
      = rd Cert.ReferenceIdeal.S2x6912x85 .f32 (Cert.ReferenceIdeal.Hand.X13 V (Proc.devRef .tc Cert.ReferenceIdeal.main_v186)) := by
  refine funext fun (j : Cert.KernelIdeal.S2x6912x85.Idx) => ?_
  idx_vars j
  exact ePreds_at ρ h _ _ _

end Cert.Match

end
-- ==== Proof.MatchDecode.lean ====
/-
  The kernel's and the reference's decoding of the predictions agree: both apply the same operations to arrays of the
  same shape, so each array is compared as a whole.
-/
module

public import proofs.«01_k».proof.Proof.MatchConv

@[expose] public section

set_option maxRecDepth 16384

noncomputable section

namespace Cert.Match

open Idealize.ShloMosaic Idealize.ShloMosaic.StableHlo Idealize.ShloMosaic.TcCoe Idealize.SL.Sem
open Cert.Hand

variable (K : Valuation Cert.KernelIdeal.τ Cert.KernelIdeal.sig (Elt Ideal))
  (R : Valuation Cert.ReferenceIdeal.τ Cert.ReferenceIdeal.sig (Elt Ideal))

/-- The arrays `cx` agree where the predictions do. -/
theorem d_cx
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912 .f32 ((after Cert.KernelIdeal.Gen.hostOps4 K) (Proc.devRef .tc Cert.KernelIdeal.main_v102))
      = rd Cert.ReferenceIdeal.S2x6912 .f32 ((after Cert.ReferenceIdeal.Gen.hostOps0_12 R) (Proc.devRef .tc Cert.ReferenceIdeal.main_v196)) := by
  revert h0
  after_reads_simp
  intro h0
  rw [rd_inj h0]
  all_goals rfl

/-- The arrays `cy` agree where the predictions do. -/
theorem d_cy
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912 .f32 ((after Cert.KernelIdeal.Gen.hostOps4 K) (Proc.devRef .tc Cert.KernelIdeal.main_v112))
      = rd Cert.ReferenceIdeal.S2x6912 .f32 ((after Cert.ReferenceIdeal.Gen.hostOps0_12 R) (Proc.devRef .tc Cert.ReferenceIdeal.main_v206)) := by
  revert h0
  after_reads_simp
  intro h0
  rw [rd_inj h0]
  all_goals rfl

/-- The arrays `bw` agree where the predictions do. -/
theorem d_bw
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912 .f32 ((after Cert.KernelIdeal.Gen.hostOps4 K) (Proc.devRef .tc Cert.KernelIdeal.main_v122))
      = rd Cert.ReferenceIdeal.S2x6912 .f32 ((after Cert.ReferenceIdeal.Gen.hostOps0_12 R) (Proc.devRef .tc Cert.ReferenceIdeal.main_v216)) := by
  revert h0
  after_reads_simp
  intro h0
  rw [rd_inj h0]
  all_goals rfl

/-- The arrays `bh` agree where the predictions do. -/
theorem d_bh
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912 .f32 ((after Cert.KernelIdeal.Gen.hostOps4 K) (Proc.devRef .tc Cert.KernelIdeal.main_v132))
      = rd Cert.ReferenceIdeal.S2x6912 .f32 ((after Cert.ReferenceIdeal.Gen.hostOps0_12 R) (Proc.devRef .tc Cert.ReferenceIdeal.main_v226)) := by
  revert h0
  after_reads_simp
  intro h0
  rw [rd_inj h0]
  all_goals rfl

/-- The arrays `cls` agree where the predictions do. -/
theorem d_cls
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912x80 .f32 ((after Cert.KernelIdeal.Gen.hostOps4 K) (Proc.devRef .tc Cert.KernelIdeal.main_v147))
      = rd Cert.ReferenceIdeal.S2x6912x80 .f32 ((after Cert.ReferenceIdeal.Gen.hostOps0_12 R) (Proc.devRef .tc Cert.ReferenceIdeal.main_v241)) := by
  revert h0
  after_reads_simp
  intro h0
  rw [rd_inj h0]
  all_goals rfl

/-- The arrays `conf` agree where the predictions do. -/
theorem d_conf
    (h0 : rd Cert.KernelIdeal.S2x6912x85 .f32 ((after Cert.KernelIdeal.Gen.hostOps4 K) (Proc.devRef .tc Cert.KernelIdeal.main_v92))
      = rd Cert.ReferenceIdeal.S2x6912x85 .f32 ((after Cert.ReferenceIdeal.Gen.hostOps0_12 R) (Proc.devRef .tc Cert.ReferenceIdeal.main_v186)))
    : rd Cert.KernelIdeal.S2x6912 .f32 ((after Cert.KernelIdeal.Gen.hostOps4 K) (Proc.devRef .tc Cert.KernelIdeal.main_v149))
      = rd Cert.ReferenceIdeal.S2x6912 .f32 ((after Cert.ReferenceIdeal.Gen.hostOps0_12 R) (Proc.devRef .tc Cert.ReferenceIdeal.main_v243)) := by
  revert h0
  after_reads_simp
  intro h0
  rw [rd_inj h0]
  all_goals rfl

/-- The class numbers agree. -/
theorem d_argmax
    (h0 : rd Cert.KernelIdeal.S2x6912x80 .f32 (K (Proc.devRef .tc Cert.KernelIdeal.main_v147))
      = rd Cert.ReferenceIdeal.S2x6912x80 .f32 (R (Proc.devRef .tc Cert.ReferenceIdeal.main_v241)))
    : rdI Cert.KernelIdeal.S2x6912 32 ((after Cert.KernelIdeal.Gen.hostOps4_1 K) (Proc.devRef .tc Cert.KernelIdeal.main_v150))
      = rdI Cert.ReferenceIdeal.S2x6912 32 ((after Cert.ReferenceIdeal.Gen.hostOps0_13 R) (Proc.devRef .tc Cert.ReferenceIdeal.main_v244)) := by
  after_reads_simp
  rw [rd_inj h0]
  all_goals rfl

/-- The confidences with the low ones cleared agree. -/
theorem d_where
    (h0 : rd Cert.KernelIdeal.S2x6912 .f32 (K (Proc.devRef .tc Cert.KernelIdeal.main_v149))
      = rd Cert.ReferenceIdeal.S2x6912 .f32 (R (Proc.devRef .tc Cert.ReferenceIdeal.main_v243)))
    : rd Cert.KernelIdeal.S2x6912 .f32 ((after Cert.KernelIdeal.Gen.hostOps4_3 (after Cert.KernelIdeal.Gen.hostOps4_2 K)) (Proc.devRef .tc Cert.KernelIdeal.main_v153))
      = rd Cert.ReferenceIdeal.S2x6912 .f32 ((after Cert.ReferenceIdeal.Gen.hostOps0_15 (after Cert.ReferenceIdeal.Gen.hostOps0_14 R)) (Proc.devRef .tc Cert.ReferenceIdeal.main_v247)) := by
  after_reads_simp
  rw [rd_inj h0]
  all_goals rfl

/-- The box sides `x1` agree. -/
theorem d_x1
    (h0 : rd Cert.KernelIdeal.S2x6912 .f32 (K (Proc.devRef .tc Cert.KernelIdeal.main_v102))
      = rd Cert.ReferenceIdeal.S2x6912 .f32 (R (Proc.devRef .tc Cert.ReferenceIdeal.main_v196)))
    (h1 : rd Cert.KernelIdeal.S2x6912 .f32 (K (Proc.devRef .tc Cert.KernelIdeal.main_v122))
      = rd Cert.ReferenceIdeal.S2x6912 .f32 (R (Proc.devRef .tc Cert.ReferenceIdeal.main_v216)))
    : rd Cert.KernelIdeal.S2x6912 .f32 ((after Cert.KernelIdeal.Gen.hostOps4_4 K) (Proc.devRef .tc Cert.KernelIdeal.main_v156))
      = rd Cert.ReferenceIdeal.S2x6912 .f32 ((after Cert.ReferenceIdeal.Gen.hostOps0_16 R) (Proc.devRef .tc Cert.ReferenceIdeal.main_v250)) := by
  after_reads_simp
  rw [rd_inj h0]
  rw [rd_inj h1]
  all_goals rfl

/-- The box sides `y1` agree. -/
theorem d_y1
    (h0 : rd Cert.KernelIdeal.S2x6912 .f32 (K (Proc.devRef .tc Cert.KernelIdeal.main_v112))
      = rd Cert.ReferenceIdeal.S2x6912 .f32 (R (Proc.devRef .tc Cert.ReferenceIdeal.main_v206)))
    (h1 : rd Cert.KernelIdeal.S2x6912 .f32 (K (Proc.devRef .tc Cert.KernelIdeal.main_v132))
      = rd Cert.ReferenceIdeal.S2x6912 .f32 (R (Proc.devRef .tc Cert.ReferenceIdeal.main_v226)))
    : rd Cert.KernelIdeal.S2x6912 .f32 ((after Cert.KernelIdeal.Gen.hostOps4_4 K) (Proc.devRef .tc Cert.KernelIdeal.main_v159))
      = rd Cert.ReferenceIdeal.S2x6912 .f32 ((after Cert.ReferenceIdeal.Gen.hostOps0_16 R) (Proc.devRef .tc Cert.ReferenceIdeal.main_v253)) := by
  after_reads_simp
  rw [rd_inj h0]
  rw [rd_inj h1]
  all_goals rfl

/-- The box sides `x2` agree. -/
theorem d_x2
    (h0 : rd Cert.KernelIdeal.S2x6912 .f32 (K (Proc.devRef .tc Cert.KernelIdeal.main_v102))
      = rd Cert.ReferenceIdeal.S2x6912 .f32 (R (Proc.devRef .tc Cert.ReferenceIdeal.main_v196)))
    (h1 : rd Cert.KernelIdeal.S2x6912 .f32 (K (Proc.devRef .tc Cert.KernelIdeal.main_v122))
      = rd Cert.ReferenceIdeal.S2x6912 .f32 (R (Proc.devRef .tc Cert.ReferenceIdeal.main_v216)))
    : rd Cert.KernelIdeal.S2x6912 .f32 ((after Cert.KernelIdeal.Gen.hostOps4_4 K) (Proc.devRef .tc Cert.KernelIdeal.main_v162))
      = rd Cert.ReferenceIdeal.S2x6912 .f32 ((after Cert.ReferenceIdeal.Gen.hostOps0_16 R) (Proc.devRef .tc Cert.ReferenceIdeal.main_v256)) := by
  after_reads_simp
  rw [rd_inj h0]
  rw [rd_inj h1]
  all_goals rfl

/-- The box sides `y2` agree. -/
theorem d_y2
    (h0 : rd Cert.KernelIdeal.S2x6912 .f32 (K (Proc.devRef .tc Cert.KernelIdeal.main_v112))
      = rd Cert.ReferenceIdeal.S2x6912 .f32 (R (Proc.devRef .tc Cert.ReferenceIdeal.main_v206)))
    (h1 : rd Cert.KernelIdeal.S2x6912 .f32 (K (Proc.devRef .tc Cert.KernelIdeal.main_v132))
      = rd Cert.ReferenceIdeal.S2x6912 .f32 (R (Proc.devRef .tc Cert.ReferenceIdeal.main_v226)))
    : rd Cert.KernelIdeal.S2x6912 .f32 ((after Cert.KernelIdeal.Gen.hostOps4_4 K) (Proc.devRef .tc Cert.KernelIdeal.main_v165))
      = rd Cert.ReferenceIdeal.S2x6912 .f32 ((after Cert.ReferenceIdeal.Gen.hostOps0_16 R) (Proc.devRef .tc Cert.ReferenceIdeal.main_v259)) := by
  after_reads_simp
  rw [rd_inj h0]
  rw [rd_inj h1]
  all_goals rfl

/-- The places of the highest confidences agree. -/
theorem d_topk
    (h0 : rd Cert.KernelIdeal.S2x6912 .f32 (K (Proc.devRef .tc Cert.KernelIdeal.main_v153))
      = rd Cert.ReferenceIdeal.S2x6912 .f32 (R (Proc.devRef .tc Cert.ReferenceIdeal.main_v247)))
    : rdI Cert.KernelIdeal.S2x1024 32 ((after Cert.KernelIdeal.Gen.hostOps4_4 K) (Proc.devRef .tc Cert.KernelIdeal.main_indices))
      = rdI Cert.ReferenceIdeal.S2x1024 32 ((after Cert.ReferenceIdeal.Gen.hostOps0_16 R) (Proc.devRef .tc Cert.ReferenceIdeal.main_indices)) := by
  after_reads_simp
  rw [rd_inj h0]
  all_goals rfl

/-- The confidences taken agree. -/
theorem d_tconf
    (h0 : rd Cert.KernelIdeal.S2x6912 .f32 (K (Proc.devRef .tc Cert.KernelIdeal.main_v153))
      = rd Cert.ReferenceIdeal.S2x6912 .f32 (R (Proc.devRef .tc Cert.ReferenceIdeal.main_v247)))
    (h1 : rdI Cert.KernelIdeal.S2x1024 32 (K (Proc.devRef .tc Cert.KernelIdeal.main_indices))
      = rdI Cert.ReferenceIdeal.S2x1024 32 (R (Proc.devRef .tc Cert.ReferenceIdeal.main_indices)))
    : rd Cert.KernelIdeal.S2x1024 .f32 ((after Cert.KernelIdeal.Gen.hostOps4_5 K) (Proc.devRef .tc Cert.KernelIdeal.main_v166))
      = rd Cert.ReferenceIdeal.S2x1024 .f32 ((after Cert.ReferenceIdeal.Gen.hostOps0_18 R) (Proc.devRef .tc Cert.ReferenceIdeal.main_v267)) := by
  after_reads_simp
  rw [rd_inj h0]
  rw [rdI_inj h1]
  all_goals rfl

/-- The class numbers taken agree. -/
theorem d_tcls
    (h0 : rdI Cert.KernelIdeal.S2x6912 32 (K (Proc.devRef .tc Cert.KernelIdeal.main_v150))
      = rdI Cert.ReferenceIdeal.S2x6912 32 (R (Proc.devRef .tc Cert.ReferenceIdeal.main_v244)))
    (h1 : rdI Cert.KernelIdeal.S2x1024 32 (K (Proc.devRef .tc Cert.KernelIdeal.main_indices))
      = rdI Cert.ReferenceIdeal.S2x1024 32 (R (Proc.devRef .tc Cert.ReferenceIdeal.main_indices)))
    : rdI Cert.KernelIdeal.S2x1024 32 ((after Cert.KernelIdeal.Gen.hostOps4_6 K) (Proc.devRef .tc Cert.KernelIdeal.main_v167))
      = rdI Cert.ReferenceIdeal.S2x1024 32 ((after Cert.ReferenceIdeal.Gen.hostOps0_19 R) (Proc.devRef .tc Cert.ReferenceIdeal.main_v268)) := by
  after_reads_simp
  rw [rdI_inj h0]
  rw [rdI_inj h1]
  all_goals rfl

end Cert.Match

end
-- ==== Proof.MatchTake.lean ====
/-
  The kernel's and the reference's taking of the boxes agree: the reference takes rows of four sides, the kernel each side.
-/
module

public import proofs.«01_k».proof.Proof.MatchConv

@[expose] public section

set_option maxRecDepth 16384

noncomputable section

namespace Cert.Match

open Idealize.ShloMosaic Idealize.ShloMosaic.StableHlo Idealize.ShloMosaic.TcCoe Idealize.SL.Sem
open Cert.Hand

variable (K : Valuation Cert.KernelIdeal.τ Cert.KernelIdeal.sig (Elt Ideal))
  (R : Valuation Cert.ReferenceIdeal.τ Cert.ReferenceIdeal.sig (Elt Ideal))

/-- Rows of four taken at once, read at one of the four, are the column's own elements taken. -/
theorem gather_rows (x : Cert.KernelIdeal.S2x6912.Idx → EReal) (x4 : Cert.ReferenceIdeal.S2x6912x4.Idx → EReal)
    (I : IVec Cert.KernelIdeal.S2x1024x1 32) (q : Fin 4)
    (h : ∀ (n : Fin 2) (p : Fin 6912), x4 (ix3 n p q) = x (ix2 n p)) (n : Fin 2) (k : Fin 1024) :
    Host.gather Cert.ReferenceIdeal.gather_S2x6912x4_S2x1024x1_S2x1024x4_2_1_0_0_1_2_114 x4 I (ix3 n k q)
      = Host.gather Cert.KernelIdeal.gather_S2x6912_S2x1024x1_S2x1024_n_1_0_0_1_2_11 x I (ix2 n k) := by
  unfold Host.gather
  have e : Cert.ReferenceIdeal.gather_S2x6912x4_S2x1024x1_S2x1024x4_2_1_0_0_1_2_114.operandIdx (ix3 n k q) I
    = ix3 (Cert.KernelIdeal.gather_S2x6912_S2x1024x1_S2x1024_n_1_0_0_1_2_11.operandIdx (ix2 n k) I 0)
       (Cert.KernelIdeal.gather_S2x6912_S2x1024x1_S2x1024_n_1_0_0_1_2_11.operandIdx (ix2 n k) I 1) q := by
    funext a
    refine Fin.ext ?_
    have hs : Cert.ReferenceIdeal.gather_S2x6912x4_S2x1024x1_S2x1024x4_2_1_0_0_1_2_114.siIdx (ix3 n k q) ⟨0, by decide⟩
      = Cert.KernelIdeal.gather_S2x6912_S2x1024x1_S2x1024_n_1_0_0_1_2_11.siIdx (ix2 n k) ⟨0, by decide⟩ := by
      funext b
      refine Fin.ext ?_
      match b with
      | ⟨0, _⟩ => rfl
      | ⟨1, _⟩ => rfl
      | ⟨2, _⟩ => rfl
    match a with
    | ⟨0, _⟩ => rfl
    | ⟨1, _⟩ =>
      show min (I (Cert.ReferenceIdeal.gather_S2x6912x4_S2x1024x1_S2x1024x4_2_1_0_0_1_2_114.siIdx (ix3 n k q) ⟨0, by decide⟩)).toInt.toNat _ + _ + _
        = min (I (Cert.KernelIdeal.gather_S2x6912_S2x1024x1_S2x1024_n_1_0_0_1_2_11.siIdx (ix2 n k) ⟨0, by decide⟩)).toInt.toNat _ + _ + _
      rw [hs]
      rfl
    | ⟨2, _⟩ =>
      show 0 + 0 + _ = _
      rw [Nat.zero_add]
      rfl
  refine (congrArg x4 e).trans ((h _ _).trans ?_)
  congr 1
  funext a
  match a with
  | ⟨0, _⟩ => rfl
  | ⟨1, _⟩ => rfl

open Cert.KernelIdeal Cert.KernelIdeal.Gen in
/-- The masked takes agree: rows of four against a column. -/
theorem take_eq (x : S2x6912.Idx → EReal) (x4 : Cert.ReferenceIdeal.S2x6912x4.Idx → EReal) (J J4 : IVec S2x1024x1 32)
    (q : Fin 4) (hJ : J4 = J) (h : ∀ (n : Fin 2) (p : Fin 6912), x4 (ix3 n p q) = x (ix2 n p)) (n : Fin 2) (k : Fin 1024) :
    rd S2x1024 .f32 (select (Host.reduce IntOp.andi (andi (cmpi .sge J (broadcastInDim S2x1024x1 ![] bcast_S_S2x1024x1 (constantI S_ 32 0#32)))
        (cmpi .sle J (broadcastInDim S2x1024x1 ![0, 1, 2] bcast_S1x1x1_S2x1024x1_0_1_2 (broadcastInDim S1x1x1 ![2] bcast_S1_S1x1x1_2 (constantI S1 32 6911#32)))))
        (constantI S_ 1 1#1) reducesTo_S2x1024x1_S2x1024_d2 h_S_)
        (Host.gather gather_S2x6912_S2x1024x1_S2x1024_n_1_0_0_1_2_11 x J)
        (broadcastInDim S2x1024 ![] bcast_S_S2x1024 (constant S_ .f32 2143289344#32))) (ix2 n k)
    = rd Cert.ReferenceIdeal.S2x1024x4 .f32 (select (broadcastInDim Cert.ReferenceIdeal.S2x1024x4 ![0, 1] Cert.ReferenceIdeal.Gen.bcast_S2x1024_S2x1024x4_0_1 (Host.reduce IntOp.andi (andi (cmpi .sge J4 (broadcastInDim S2x1024x1 ![] bcast_S_S2x1024x1 (constantI S_ 32 0#32)))
        (cmpi .sle J4 (broadcastInDim S2x1024x1 ![0, 1, 2] bcast_S1x1x1_S2x1024x1_0_1_2 (broadcastInDim S1x1x1 ![2] bcast_S1_S1x1x1_2 (constantI S1 32 6911#32)))))
        (constantI S_ 1 1#1) reducesTo_S2x1024x1_S2x1024_d2 h_S_))
        (Host.gather Cert.ReferenceIdeal.gather_S2x6912x4_S2x1024x1_S2x1024x4_2_1_0_0_1_2_114 x4 J4)
        (broadcastInDim Cert.ReferenceIdeal.S2x1024x4 ![] Cert.ReferenceIdeal.Gen.bcast_S_S2x1024x4 (constant S_ .f32 2143289344#32))) (ix3 n k q) := by
  subst hJ
  generalize Host.reduce IntOp.andi _ _ _ _ = M
  have hg := gather_rows x x4 J4 q h n k
  revert hg
  generalize Host.gather _ x J4 = G
  generalize Host.gather _ x4 J4 = G4
  intro hg
  pointwise []
  rw [hg]

/-- Side `0` of the boxes taken agrees. -/
theorem d_take0
  (h : ∀ (n : Fin 2) (p : Fin 6912), rd Cert.ReferenceIdeal.S2x6912x4 .f32 (R (Proc.devRef .tc Cert.ReferenceIdeal.main_v264)) (ix3 n p 0)
     = rd Cert.KernelIdeal.S2x6912 .f32 (K (Proc.devRef .tc Cert.KernelIdeal.main_v156)) (ix2 n p))
  (hI : ∀ (n : Fin 2) (k : Fin 1024), rdI Cert.ReferenceIdeal.S2x1024x1 32 (R (Proc.devRef .tc Cert.ReferenceIdeal.main_v265)) (ix3 n k 0)
     = rdI Cert.KernelIdeal.S2x1024 32 (K (Proc.devRef .tc Cert.KernelIdeal.main_indices)) (ix2 n k))
  (n : Fin 2) (k : Fin 1024) :
  rd Cert.KernelIdeal.S2x1024 .f32 (after Cert.KernelIdeal.Gen.hostOps4_7 K (Proc.devRef .tc Cert.KernelIdeal.main_v168)) (ix2 n k)
   = rd Cert.ReferenceIdeal.S2x1024x4 .f32 (after Cert.ReferenceIdeal.Gen.hostOps0_17 R (Proc.devRef .tc Cert.ReferenceIdeal.main_v266)) (ix3 n k 0) := by
  after_reads_simp
  simp -implicitDefEqProofs only [StableHlo.TRef.toBuf, StableHlo.TRef.ofBuf, cast_cast, cast_eq]
  revert h hI
  generalize K (Proc.devRef .tc Cert.KernelIdeal.main_v156) = x
  generalize K (Proc.devRef .tc Cert.KernelIdeal.main_indices) = I
  generalize R (Proc.devRef .tc Cert.ReferenceIdeal.main_v264) = x4
  generalize R (Proc.devRef .tc Cert.ReferenceIdeal.main_v265) = I4
  intro h hI
  refine take_eq _ _ _ _ _ ?_ h n k
  funext i
  idx_vars i
  pointwise []
  obtain rfl : i2 = 0 := Subsingleton.elim _ _
  rw [show I4 (ix3 i0 i1 0) = I (ix2 i0 i1) from hI i0 i1]

/-- Side `1` of the boxes taken agrees. -/
theorem d_take1
  (h : ∀ (n : Fin 2) (p : Fin 6912), rd Cert.ReferenceIdeal.S2x6912x4 .f32 (R (Proc.devRef .tc Cert.ReferenceIdeal.main_v264)) (ix3 n p 1)
     = rd Cert.KernelIdeal.S2x6912 .f32 (K (Proc.devRef .tc Cert.KernelIdeal.main_v159)) (ix2 n p))
  (hI : ∀ (n : Fin 2) (k : Fin 1024), rdI Cert.ReferenceIdeal.S2x1024x1 32 (R (Proc.devRef .tc Cert.ReferenceIdeal.main_v265)) (ix3 n k 0)
     = rdI Cert.KernelIdeal.S2x1024 32 (K (Proc.devRef .tc Cert.KernelIdeal.main_indices)) (ix2 n k))
  (n : Fin 2) (k : Fin 1024) :
  rd Cert.KernelIdeal.S2x1024 .f32 (after Cert.KernelIdeal.Gen.hostOps4_8 K (Proc.devRef .tc Cert.KernelIdeal.main_v169)) (ix2 n k)
   = rd Cert.ReferenceIdeal.S2x1024x4 .f32 (after Cert.ReferenceIdeal.Gen.hostOps0_17 R (Proc.devRef .tc Cert.ReferenceIdeal.main_v266)) (ix3 n k 1) := by
  after_reads_simp
  simp -implicitDefEqProofs only [StableHlo.TRef.toBuf, StableHlo.TRef.ofBuf, cast_cast, cast_eq]
  revert h hI
  generalize K (Proc.devRef .tc Cert.KernelIdeal.main_v159) = x
  generalize K (Proc.devRef .tc Cert.KernelIdeal.main_indices) = I
  generalize R (Proc.devRef .tc Cert.ReferenceIdeal.main_v264) = x4
  generalize R (Proc.devRef .tc Cert.ReferenceIdeal.main_v265) = I4
  intro h hI
  refine take_eq _ _ _ _ _ ?_ h n k
  funext i
  idx_vars i
  pointwise []
  obtain rfl : i2 = 0 := Subsingleton.elim _ _
  rw [show I4 (ix3 i0 i1 0) = I (ix2 i0 i1) from hI i0 i1]

/-- Side `2` of the boxes taken agrees. -/
theorem d_take2
  (h : ∀ (n : Fin 2) (p : Fin 6912), rd Cert.ReferenceIdeal.S2x6912x4 .f32 (R (Proc.devRef .tc Cert.ReferenceIdeal.main_v264)) (ix3 n p 2)
     = rd Cert.KernelIdeal.S2x6912 .f32 (K (Proc.devRef .tc Cert.KernelIdeal.main_v162)) (ix2 n p))
  (hI : ∀ (n : Fin 2) (k : Fin 1024), rdI Cert.ReferenceIdeal.S2x1024x1 32 (R (Proc.devRef .tc Cert.ReferenceIdeal.main_v265)) (ix3 n k 0)
     = rdI Cert.KernelIdeal.S2x1024 32 (K (Proc.devRef .tc Cert.KernelIdeal.main_indices)) (ix2 n k))
  (n : Fin 2) (k : Fin 1024) :
  rd Cert.KernelIdeal.S2x1024 .f32 (after Cert.KernelIdeal.Gen.hostOps4_9 K (Proc.devRef .tc Cert.KernelIdeal.main_v170)) (ix2 n k)
   = rd Cert.ReferenceIdeal.S2x1024x4 .f32 (after Cert.ReferenceIdeal.Gen.hostOps0_17 R (Proc.devRef .tc Cert.ReferenceIdeal.main_v266)) (ix3 n k 2) := by
  after_reads_simp
  simp -implicitDefEqProofs only [StableHlo.TRef.toBuf, StableHlo.TRef.ofBuf, cast_cast, cast_eq]
  revert h hI
  generalize K (Proc.devRef .tc Cert.KernelIdeal.main_v162) = x
  generalize K (Proc.devRef .tc Cert.KernelIdeal.main_indices) = I
  generalize R (Proc.devRef .tc Cert.ReferenceIdeal.main_v264) = x4
  generalize R (Proc.devRef .tc Cert.ReferenceIdeal.main_v265) = I4
  intro h hI
  refine take_eq _ _ _ _ _ ?_ h n k
  funext i
  idx_vars i
  pointwise []
  obtain rfl : i2 = 0 := Subsingleton.elim _ _
  rw [show I4 (ix3 i0 i1 0) = I (ix2 i0 i1) from hI i0 i1]

/-- Side `3` of the boxes taken agrees. -/
theorem d_take3
  (h : ∀ (n : Fin 2) (p : Fin 6912), rd Cert.ReferenceIdeal.S2x6912x4 .f32 (R (Proc.devRef .tc Cert.ReferenceIdeal.main_v264)) (ix3 n p 3)
     = rd Cert.KernelIdeal.S2x6912 .f32 (K (Proc.devRef .tc Cert.KernelIdeal.main_v165)) (ix2 n p))
  (hI : ∀ (n : Fin 2) (k : Fin 1024), rdI Cert.ReferenceIdeal.S2x1024x1 32 (R (Proc.devRef .tc Cert.ReferenceIdeal.main_v265)) (ix3 n k 0)
     = rdI Cert.KernelIdeal.S2x1024 32 (K (Proc.devRef .tc Cert.KernelIdeal.main_indices)) (ix2 n k))
  (n : Fin 2) (k : Fin 1024) :
  rd Cert.KernelIdeal.S2x1024 .f32 (after Cert.KernelIdeal.Gen.hostOps4_10 K (Proc.devRef .tc Cert.KernelIdeal.main_v171)) (ix2 n k)
   = rd Cert.ReferenceIdeal.S2x1024x4 .f32 (after Cert.ReferenceIdeal.Gen.hostOps0_17 R (Proc.devRef .tc Cert.ReferenceIdeal.main_v266)) (ix3 n k 3) := by
  after_reads_simp
  simp -implicitDefEqProofs only [StableHlo.TRef.toBuf, StableHlo.TRef.ofBuf, cast_cast, cast_eq]
  revert h hI
  generalize K (Proc.devRef .tc Cert.KernelIdeal.main_v165) = x
  generalize K (Proc.devRef .tc Cert.KernelIdeal.main_indices) = I
  generalize R (Proc.devRef .tc Cert.ReferenceIdeal.main_v264) = x4
  generalize R (Proc.devRef .tc Cert.ReferenceIdeal.main_v265) = I4
  intro h hI
  refine take_eq _ _ _ _ _ ?_ h n k
  funext i
  idx_vars i
  pointwise []
  obtain rfl : i2 = 0 := Subsingleton.elim _ _
  rw [show I4 (ix3 i0 i1 0) = I (ix2 i0 i1) from hI i0 i1]

set_option maxRecDepth 100000 in
/-- Column 0 of the boxes. -/
theorem r_box0 (n : Fin 2) (p : Fin 6912) :
    rd Cert.ReferenceIdeal.S2x6912x4 .f32 (after Cert.ReferenceIdeal.Gen.hostOps0_16 R (Proc.devRef .tc Cert.ReferenceIdeal.main_v264)) (ix3 n p 0)
      = rd Cert.ReferenceIdeal.S2x6912 .f32 (after Cert.ReferenceIdeal.Gen.hostOps0_16 R (Proc.devRef .tc Cert.ReferenceIdeal.main_v250)) (ix2 n p) := by
  after_reads_simp
  clean_types
  pointwise []
  after_reads_simp
  pointwise []

set_option maxRecDepth 100000 in
/-- Column 1 of the boxes. -/
theorem r_box1 (n : Fin 2) (p : Fin 6912) :
    rd Cert.ReferenceIdeal.S2x6912x4 .f32 (after Cert.ReferenceIdeal.Gen.hostOps0_16 R (Proc.devRef .tc Cert.ReferenceIdeal.main_v264)) (ix3 n p 1)
      = rd Cert.ReferenceIdeal.S2x6912 .f32 (after Cert.ReferenceIdeal.Gen.hostOps0_16 R (Proc.devRef .tc Cert.ReferenceIdeal.main_v253)) (ix2 n p) := by
  after_reads_simp
  clean_types
  pointwise []
  after_reads_simp
  pointwise []

set_option maxRecDepth 100000 in
/-- Column 2 of the boxes. -/
theorem r_box2 (n : Fin 2) (p : Fin 6912) :
    rd Cert.ReferenceIdeal.S2x6912x4 .f32 (after Cert.ReferenceIdeal.Gen.hostOps0_16 R (Proc.devRef .tc Cert.ReferenceIdeal.main_v264)) (ix3 n p 2)
      = rd Cert.ReferenceIdeal.S2x6912 .f32 (after Cert.ReferenceIdeal.Gen.hostOps0_16 R (Proc.devRef .tc Cert.ReferenceIdeal.main_v256)) (ix2 n p) := by
  after_reads_simp
  clean_types
  pointwise []
  after_reads_simp
  pointwise []

set_option maxRecDepth 100000 in
/-- Column 3 of the boxes. -/
theorem r_box3 (n : Fin 2) (p : Fin 6912) :
    rd Cert.ReferenceIdeal.S2x6912x4 .f32 (after Cert.ReferenceIdeal.Gen.hostOps0_16 R (Proc.devRef .tc Cert.ReferenceIdeal.main_v264)) (ix3 n p 3)
      = rd Cert.ReferenceIdeal.S2x6912 .f32 (after Cert.ReferenceIdeal.Gen.hostOps0_16 R (Proc.devRef .tc Cert.ReferenceIdeal.main_v259)) (ix2 n p) := by
  after_reads_simp
  clean_types
  pointwise []
  after_reads_simp
  pointwise []

/-- The places of the boxes taken, with an axis of one added. -/
theorem r_places (n : Fin 2) (k : Fin 1024) :
    rdI Cert.ReferenceIdeal.S2x1024x1 32 (after Cert.ReferenceIdeal.Gen.hostOps0_16 R (Proc.devRef .tc Cert.ReferenceIdeal.main_v265)) (ix3 n k 0)
      = rdI Cert.ReferenceIdeal.S2x1024 32 (after Cert.ReferenceIdeal.Gen.hostOps0_16 R (Proc.devRef .tc Cert.ReferenceIdeal.main_indices)) (ix2 n k) := by
  after_reads_simp
  pointwise []

end Cert.Match

end
-- ==== Proof.Nms.lean ====
/-
  The suppression of overlapping boxes, by scalars.
-/
module

public import proofs.«01_k».proof.Proof.Taps

@[expose] public section

noncomputable section

namespace Cert.Hand

open Idealize.ShloMosaic

/-- The overlap of two boxes over their union. -/
def iou (a b : Fin 4 → EReal) : EReal :=
  Ideal.div (max (min (a 2) (b 2) - max (a 0) (b 0)) 0 * max (min (a 3) (b 3) - max (a 1) (b 1)) 0)
    ((a 2 - a 0) * (a 3 - a 1) + (b 2 - b 0) * (b 3 - b 1)
      - max (min (a 2) (b 2) - max (a 0) (b 0)) 0 * max (min (a 3) (b 3) - max (a 1) (b 1)) 0 + Ideal.ofBits .f32 0x3089705F#32)

/-- Whether box `j` is kept before trip `t`: each trip drops the later boxes that overlap its own box, when that is kept. -/
def kept (box : Fin 1024 → Fin 4 → EReal) : ℕ → Fin 1024 → Bool
  | 0, _ => true
  | t + 1, j => kept box t j && !(if h : t < 1024 then
      decide (Ideal.ofBits .f32 0x3EE66666#32 < iou (box ⟨t, h⟩) (box j)) && decide (t < j.val) && kept box t ⟨t, h⟩ else false)

/-- A coordinate moved by its box's class, so that boxes of different classes do not meet. -/
def moved (x : EReal) (l : BitVec 32) : EReal :=
  x + FloatOps.sitofp (F := Ideal) .f32 l * Ideal.ofBits .f32 0x45800000#32

end Cert.Hand

end
-- ==== Proof.NmsKernel.lean ====
/-
  What the suppression kernel leaves: its 1024 trips as a sequence of whole arrays.
-/
module

public import Idealize.ShloMosaic.Lib.WritesUnit
public import Idealize.ShloMosaic.Lib.VecWindow
public import proofs.«01_k».proof.Proof.Regions
public import proofs.«01_k».proof.Proof.Nms

@[expose] public section

set_option maxRecDepth 16384

noncomputable section

namespace Cert.KernelIdeal.Hand

open Idealize.ShloMosaic Idealize.ShloMosaic.StableHlo Idealize.ShloMosaic.TcCoe Idealize.SL.Sem
open Cert.Hand Cert.KernelIdeal Cert.KernelIdeal.Gen

/-- The array after one trip, from the array before it: the boxes as vectors `x0 … x3` and as scalars `x4 … x7`. -/
def kstep (x0 x1 x2 x3 x4 x5 x6 x7 : Vec Idealize.ShloMosaic.Ideal S2x1024 .f32) (k : Fin k4_t1_loop.trips) (s : IVec S2x1024 32) : IVec S2x1024 32 :=
  have hk : k.val < 1024 := Nat.lt_of_lt_of_le k.isLt k4_t1_abs.2.1
  let a (x : Vec Idealize.ShloMosaic.Ideal S2x1024 .f32) (n : Fin 2) : Elt Idealize.ShloMosaic.Ideal .f32 := x (ix2 n ⟨k.val, hk⟩)
  k4_pay6 (F := Idealize.ShloMosaic.Ideal) x0 x1 x2 x3 (Scf.iv 0#32 1#32 k) (k4_pay7 (F := Idealize.ShloMosaic.Ideal) s) (k4_pay8 (F := Idealize.ShloMosaic.Ideal) (iota .tc S2x1024 32 [1] iota_S2x1024_d1_w32) 0#32 1#32 k s)
    (k4_pay13 (F := Idealize.ShloMosaic.Ideal) (a x4 0) (a x4 1) (a x5 0) (a x5 1) (a x6 0) (a x6 1) (a x7 0) (a x7 1))
    (k4_pay14 (F := Idealize.ShloMosaic.Ideal) (k4_pay2 (F := Idealize.ShloMosaic.Ideal) x1) (a x5 0) (a x5 1)) (k4_pay15 (F := Idealize.ShloMosaic.Ideal) (k4_pay4 (F := Idealize.ShloMosaic.Ideal) x3) (a x7 0) (a x7 1))
    (k4_pay16 (F := Idealize.ShloMosaic.Ideal) (k4_pay1 (F := Idealize.ShloMosaic.Ideal) x0) (k4_pay3 (F := Idealize.ShloMosaic.Ideal) x2) (a x4 0) (a x4 1) (a x6 0) (a x6 1))

/-- The array before trip `k`. -/
def kst (x0 x1 x2 x3 x4 x5 x6 x7 : Vec Idealize.ShloMosaic.Ideal S2x1024 .f32) : ℕ → IVec S2x1024 32
  | 0 => k4_pay5
  | k + 1 => if h : k < k4_t1_loop.trips then kstep x0 x1 x2 x3 x4 x5 x6 x7 ⟨k, h⟩ (kst x0 x1 x2 x3 x4 x5 x6 x7 k) else kst x0 x1 x2 x3 x4 x5 x6 x7 k

theorem kst_succ (x0 x1 x2 x3 x4 x5 x6 x7 : Vec Idealize.ShloMosaic.Ideal S2x1024 .f32) (k : ℕ) (h : k < k4_t1_loop.trips) :
    kst x0 x1 x2 x3 x4 x5 x6 x7 (k + 1) = kstep x0 x1 x2 x3 x4 x5 x6 x7 ⟨k, h⟩ (kst x0 x1 x2 x3 x4 x5 x6 x7 k) := by
  rw [kst]
  exact dif_pos h

/-- A whole block stored last is what the buffer reads back as. -/
theorem read_whole {κ : Kind} {sp : Space} (v : View sig κ sp S2x1024 .i32) (f : v.ty.Contents (Elt Idealize.ShloMosaic.Ideal))
    (inb : ∀ a, (![0, 0] : Fin 2 → ℕ) a + S2x1024.size a ≤ S2x1024.size a) (w : IVec S2x1024 32)
    (L : List (View.Piece (Elt Idealize.ShloMosaic.Ideal) S2x1024 .i32)) :
    v.read (Elt Idealize.ShloMosaic.Ideal) (v.writes (Elt Idealize.ShloMosaic.Ideal) f ((⟨Rect.unit ![0, 0] S2x1024.size inb, w⟩ : View.Piece (Elt Idealize.ShloMosaic.Ideal) S2x1024 .i32) :: L)) = w :=
  funext fun y => View.read_writes_cons_unit_of_mem v f inb w L y y (off' := ![0, 0]) rfl
    (by intro a; match a with | ⟨0, _⟩ => exact (Nat.zero_add _).symm | ⟨1, _⟩ => exact (Nat.zero_add _).symm)

/-- A scalar read through an offset of the trip is the array's element there. -/
theorem readAt_scalar {κ : Kind} {sp : Space} (v : View sig κ sp S2x1024 .f32) (f : v.ty.Contents (Elt Idealize.ShloMosaic.Ideal))
    (off : Fin 2 → ℕ) (inb : ∀ a, off a + S1x1.size a ≤ S2x1024.size a) (n : Fin 2) (k : Fin 1024) (h : off = ![n.val, k.val])
    (i : S1x1.Idx) :
    v.readAt (Elt Idealize.ShloMosaic.Ideal) (Rect.unit (s := S2x1024) off S1x1.size inb).toLoadRect f i = v.read (Elt Idealize.ShloMosaic.Ideal) f (ix2 n k) := by
  subst h
  rw [View.readAt_apply]
  congr 1
  funext a
  match a with
  | ⟨0, _⟩ =>
    refine Fin.ext ?_
    show n.val + 1 * (i 0).val = n.val
    have : (i 0).val < 1 := (i 0).isLt
    omega
  | ⟨1, _⟩ =>
    refine Fin.ext ?_
    show k.val + 1 * (i 1).val = k.val
    have : (i 1).val < 1 := (i 1).isLt
    omega

/-- The piece of trip `k`, from what the trip finds in the written block. -/
theorem tripL_eq (c : Dev nD) (arg0 : Memref sig .tc .vmem S2x1024 .f32) (harg0 : arg0.IsWhole) (arg1 : Memref sig .tc .vmem S2x1024 .f32) (harg1 : arg1.IsWhole) (arg2 : Memref sig .tc .vmem S2x1024 .f32) (harg2 : arg2.IsWhole) (arg3 : Memref sig .tc .vmem S2x1024 .f32) (harg3 : arg3.IsWhole) (arg4 : Memref sig .tc .smem S2x1024 .f32) (harg4 : arg4.IsWhole) (arg5 : Memref sig .tc .smem S2x1024 .f32) (harg5 : arg5.IsWhole) (arg6 : Memref sig .tc .smem S2x1024 .f32) (harg6 : arg6.IsWhole) (arg7 : Memref sig .tc .smem S2x1024 .f32) (harg7 : arg7.IsWhole) (arg8 : Memref sig .tc .vmem S2x1024 .i32) (harg8 : arg8.IsWhole)

    (x0 x1 x2 x3 x4 x5 x6 x7 : Vec Idealize.ShloMosaic.Ideal S2x1024 .f32) (k : Fin k4_t1_loop.trips) (f : BufTy.Contents (Elt Idealize.ShloMosaic.Ideal) arg8.view.ty)
    (v0 : IVec S2x1024 32) (hv0 : v0 = iota .tc S2x1024 32 [1] iota_S2x1024_d1_w32) :
    tripL_k4_t1 (F := Idealize.ShloMosaic.Ideal) Variants.none c none arg0 harg0 arg1 harg1 arg2 harg2 arg3 harg3 arg4 harg4 arg5 harg5 arg6 harg6 arg7 harg7 arg8 harg8 v0 x0 x1 x2 x3 (harg4.unread x4) (harg5.unread x5) (harg6.unread x6) (harg7.unread x7) k f
      = [⟨Rect.unit ![0, 0] S2x1024.size inb_S2x1024_S2x1024_0_0, kstep x0 x1 x2 x3 x4 x5 x6 x7 k (arg8.view.read (Elt Idealize.ShloMosaic.Ideal) f)⟩] := by
  subst hv0
  have hk : k.val < 1024 := Nat.lt_of_lt_of_le k.isLt k4_t1_abs.2.1
  unfold tripL_k4_t1 trip_k4_t1 kstep
  dsimp only
  simp only [trip_k4_t1.sl.arg9, trip_k4_t1.sl.r_8, trip_k4_t1.sl.r_9, trip_k4_t1.sl.r_10, trip_k4_t1.sl.r_11, trip_k4_t1.sl.r_12,
    trip_k4_t1.sl.r_13, trip_k4_t1.sl.r, trip_k4_t1.sl.r_1, trip_k4_t1.sl.r_2, trip_k4_t1.sl.r_3, trip_k4_t1.sl.r_4,
    trip_k4_t1.sl.r_5, trip_k4_t1.sl.r_6, trip_k4_t1.sl.r_7]
  simp only [View.readAt_full, readAt_scalar _ _ _ _ 0 ⟨k.val, hk⟩ (k4_off1_eq k), readAt_scalar _ _ _ _ 1 ⟨k.val, hk⟩ (k4_off2_eq k),
    harg4.read_unread, harg5.read_unread, harg6.read_unread, harg7.read_unread]
  have e : View.readAt (Elt Idealize.ShloMosaic.Ideal) arg8.view (Rect.unit ![0, 0] ![2, 1024] inb_S2x1024_S2x1024_0_0).toLoadRect f
      = View.read (Elt Idealize.ShloMosaic.Ideal) arg8.view f := View.readAt_full _ _ _
  rw [e]

/-- What the written block reads as before trip `k`, over any stored whole block. -/
theorem read_pb (c : Dev nD) (arg0 : Memref sig .tc .vmem S2x1024 .f32) (harg0 : arg0.IsWhole) (arg1 : Memref sig .tc .vmem S2x1024 .f32) (harg1 : arg1.IsWhole) (arg2 : Memref sig .tc .vmem S2x1024 .f32) (harg2 : arg2.IsWhole) (arg3 : Memref sig .tc .vmem S2x1024 .f32) (harg3 : arg3.IsWhole) (arg4 : Memref sig .tc .smem S2x1024 .f32) (harg4 : arg4.IsWhole) (arg5 : Memref sig .tc .smem S2x1024 .f32) (harg5 : arg5.IsWhole) (arg6 : Memref sig .tc .smem S2x1024 .f32) (harg6 : arg6.IsWhole) (arg7 : Memref sig .tc .smem S2x1024 .f32) (harg7 : arg7.IsWhole) (arg8 : Memref sig .tc .vmem S2x1024 .i32) (harg8 : arg8.IsWhole)

    (x0 x1 x2 x3 x4 x5 x6 x7 : Vec Idealize.ShloMosaic.Ideal S2x1024 .f32) (v0 : IVec S2x1024 32) (hv0 : v0 = iota .tc S2x1024 32 [1] iota_S2x1024_d1_w32)
    (G : BufTy.Contents (Elt Idealize.ShloMosaic.Ideal) arg8.view.ty) (hG : arg8.view.read (Elt Idealize.ShloMosaic.Ideal) G = k4_pay5) :
    ∀ k, k ≤ k4_t1_loop.trips → arg8.view.read (Elt Idealize.ShloMosaic.Ideal) (arg8.view.writes (Elt Idealize.ShloMosaic.Ideal) G
      (pb_k4_t1 (F := Idealize.ShloMosaic.Ideal) Variants.none c none arg0 harg0 arg1 harg1 arg2 harg2 arg3 harg3 arg4 harg4 arg5 harg5 arg6 harg6 arg7 harg7 arg8 harg8 v0 x0 x1 x2 x3 (harg4.unread x4) (harg5.unread x5) (harg6.unread x6) (harg7.unread x7) G k))
        = kst x0 x1 x2 x3 x4 x5 x6 x7 k
  | 0, _ => hG
  | k + 1, h => by
    have ih := read_pb c arg0 harg0 arg1 harg1 arg2 harg2 arg3 harg3 arg4 harg4 arg5 harg5 arg6 harg6 arg7 harg7 arg8 harg8 x0 x1 x2 x3 x4 x5 x6 x7 v0 hv0 G hG k (Nat.le_of_succ_le h)
    rw [show k + 1 = (⟨k, h⟩ : Fin k4_t1_loop.trips).val + 1 from rfl, pb_k4_t1_succ, tripL_eq _ arg0 harg0 arg1 harg1 arg2 harg2 arg3 harg3 arg4 harg4 arg5 harg5 arg6 harg6 arg7 harg7 arg8 harg8 _ _ _ _ _ _ _ _ _ _ _ hv0, List.singleton_append, read_whole, ih]
    exact (kst_succ x0 x1 x2 x3 x4 x5 x6 x7 k h).symm

/-- What the body leaves in the written block: the array after the last trip. -/
theorem out4_eq  (c : Dev nD) (arg0 : Memref sig .tc .vmem S2x1024 .f32) (harg0 : arg0.IsWhole) (arg1 : Memref sig .tc .vmem S2x1024 .f32) (harg1 : arg1.IsWhole) (arg2 : Memref sig .tc .vmem S2x1024 .f32) (harg2 : arg2.IsWhole) (arg3 : Memref sig .tc .vmem S2x1024 .f32) (harg3 : arg3.IsWhole) (arg4 : Memref sig .tc .smem S2x1024 .f32) (harg4 : arg4.IsWhole) (arg5 : Memref sig .tc .smem S2x1024 .f32) (harg5 : arg5.IsWhole) (arg6 : Memref sig .tc .smem S2x1024 .f32) (harg6 : arg6.IsWhole) (arg7 : Memref sig .tc .smem S2x1024 .f32) (harg7 : arg7.IsWhole) (arg8 : Memref sig .tc .vmem S2x1024 .i32) (harg8 : arg8.IsWhole)
    (x0 : Vec Idealize.ShloMosaic.Ideal S2x1024 .f32) (x1 : Vec Idealize.ShloMosaic.Ideal S2x1024 .f32) (x2 : Vec Idealize.ShloMosaic.Ideal S2x1024 .f32) (x3 : Vec Idealize.ShloMosaic.Ideal S2x1024 .f32) (x4 : Vec Idealize.ShloMosaic.Ideal S2x1024 .f32) (x5 : Vec Idealize.ShloMosaic.Ideal S2x1024 .f32) (x6 : Vec Idealize.ShloMosaic.Ideal S2x1024 .f32) (x7 : Vec Idealize.ShloMosaic.Ideal S2x1024 .f32)  :
    out4_A_8 (F := Idealize.ShloMosaic.Ideal) c arg0 harg0 arg1 harg1 arg2 harg2 arg3 harg3 arg4 harg4 arg5 harg5 arg6 harg6 arg7 harg7 arg8 harg8 x0 x1 x2 x3 x4 x5 x6 x7 = kst x0 x1 x2 x3 x4 x5 x6 x7 1024 := by
  unfold out4_A_8 kernelRun4_A
  dsimp only
  rw [View.readAt_full, View.readAt_full, View.readAt_full, View.readAt_full, harg0.read_unread, harg1.read_unread, harg2.read_unread, harg3.read_unread]
  have h1023 : 1023 < k4_t1_loop.trips := by decide
  have e : Scf.trips (0#32) (Scalar.addi 0#32 1024#32) 1#32 = (⟨1023, h1023⟩ : Fin k4_t1_loop.trips).val + 1 := by show _ = 1024; decide
  have hG : arg8.view.read (Elt Idealize.ShloMosaic.Ideal) (arg8.view.writes (Elt Idealize.ShloMosaic.Ideal) arg8.view.junk kernelRun4_A.sl.H8_1) = k4_pay5 := read_whole _ _ _ _ _
  have ih := read_pb c arg0 harg0 arg1 harg1 arg2 harg2 arg3 harg3 arg4 harg4 arg5 harg5 arg6 harg6 arg7 harg7 arg8 harg8 x0 x1 x2 x3 x4 x5 x6 x7 kernelRun4_A.sl.v0 rfl _ hG 1023 (by decide)
  rw [e, pb_k4_t1_succ, tripL_eq _ arg0 harg0 arg1 harg1 arg2 harg2 arg3 harg3 arg4 harg4 arg5 harg5 arg6 harg6 arg7 harg7 arg8 harg8 _ _ _ _ _ _ _ _ _ _ kernelRun4_A.sl.v0 rfl, List.singleton_append, List.cons_append, read_whole, ih]
  show _ = kst x0 x1 x2 x3 x4 x5 x6 x7 (1023 + 1)
  exact (kst_succ x0 x1 x2 x3 x4 x5 x6 x7 1023 h1023).symm

variable (m : (ℓ : Loc nD τ sig) → Buf (Elt Idealize.ShloMosaic.Ideal) ℓ) (ρ : Dev nD → PrngReg)

theorem idx4 : ∀ t : Fin cfg4.N, win4_0.index t = ![0, 0] ∧ win4_1.index t = ![0, 0] ∧ win4_2.index t = ![0, 0]
    ∧ win4_3.index t = ![0, 0] ∧ win4_4.index t = ![0, 0] ∧ win4_5.index t = ![0, 0] ∧ win4_6.index t = ![0, 0]
    ∧ win4_7.index t = ![0, 0] ∧ win4_8.index t = ![0, 0] := (by decide +kernel : ∀ t : Fin grid4.N, _)

theorem blk4_0 (c : Dev nD) (t : Fin cfg4.N) : iblk4 (V29 m ρ) c 0 t = W29 m ρ c (Proc.devRef .tc main_v175) := by
  funext y
  blk_ext! [iblk4, idx4 t]

theorem blk4_1 (c : Dev nD) (t : Fin cfg4.N) : iblk4 (V29 m ρ) c 1 t = W29 m ρ c (Proc.devRef .tc main_v176) := by
  funext y
  blk_ext! [iblk4, idx4 t]

theorem blk4_2 (c : Dev nD) (t : Fin cfg4.N) : iblk4 (V29 m ρ) c 2 t = W29 m ρ c (Proc.devRef .tc main_v177) := by
  funext y
  blk_ext! [iblk4, idx4 t]

theorem blk4_3 (c : Dev nD) (t : Fin cfg4.N) : iblk4 (V29 m ρ) c 3 t = W29 m ρ c (Proc.devRef .tc main_v178) := by
  funext y
  blk_ext! [iblk4, idx4 t]

theorem blk4_4 (c : Dev nD) (t : Fin cfg4.N) : iblk4 (V29 m ρ) c 4 t = W29 m ρ c (Proc.devRef .tc main_v175) := by
  funext y
  blk_ext! [iblk4, idx4 t]

theorem blk4_5 (c : Dev nD) (t : Fin cfg4.N) : iblk4 (V29 m ρ) c 5 t = W29 m ρ c (Proc.devRef .tc main_v176) := by
  funext y
  blk_ext! [iblk4, idx4 t]

theorem blk4_6 (c : Dev nD) (t : Fin cfg4.N) : iblk4 (V29 m ρ) c 6 t = W29 m ρ c (Proc.devRef .tc main_v177) := by
  funext y
  blk_ext! [iblk4, idx4 t]

theorem blk4_7 (c : Dev nD) (t : Fin cfg4.N) : iblk4 (V29 m ρ) c 7 t = W29 m ρ c (Proc.devRef .tc main_v178) := by
  funext y
  blk_ext! [iblk4, idx4 t]

/-- The result array of the suppression after its launch. -/
theorem final4 (c : Dev nD) : (dat4 (V29 m ρ) c).arrAt 8 cfg4.N
    = kst (W29 m ρ c (Proc.devRef .tc main_v175)) (W29 m ρ c (Proc.devRef .tc main_v176)) (W29 m ρ c (Proc.devRef .tc main_v177)) (W29 m ρ c (Proc.devRef .tc main_v178))
        (W29 m ρ c (Proc.devRef .tc main_v175)) (W29 m ρ c (Proc.devRef .tc main_v176)) (W29 m ρ c (Proc.devRef .tc main_v177)) (W29 m ρ c (Proc.devRef .tc main_v178)) 1024 := by
  refine (dat4 (V29 m ρ) c).arrAt_eq_of_after_last 8 t4_0 (by decide +kernel) _ fun j => ?_
  blk_simp
  rw [after4_8]
  unfold outsAt4
  rw [out4_eq, blk4_0, blk4_1, blk4_2, blk4_3, blk4_4, blk4_5, blk4_6, blk4_7]

/-- The contents of the suppression's result at the boundary behind it. -/
theorem W30_v179 (c : Dev nD) : W30 m ρ c (Proc.devRef .tc main_v179)
    = kst (W29 m ρ c (Proc.devRef .tc main_v175)) (W29 m ρ c (Proc.devRef .tc main_v176)) (W29 m ρ c (Proc.devRef .tc main_v177)) (W29 m ρ c (Proc.devRef .tc main_v178))
        (W29 m ρ c (Proc.devRef .tc main_v175)) (W29 m ρ c (Proc.devRef .tc main_v176)) (W29 m ρ c (Proc.devRef .tc main_v177)) (W29 m ρ c (Proc.devRef .tc main_v178)) 1024 :=
  (W30_arr m ρ c 8).trans (final4 m ρ c)

end Cert.KernelIdeal.Hand

end
-- ==== Proof.NmsSpec.lean ====
/-
  The suppression kernel's array at an index.
-/
module

public import Idealize.ShloMosaic.Lib.WordArith.Masks
public import proofs.«01_k».proof.Proof.NmsKernel

@[expose] public section

set_option maxRecDepth 16384

noncomputable section

namespace Cert.KernelIdeal.Hand

open Idealize.ShloMosaic Idealize.ShloMosaic.StableHlo Idealize.ShloMosaic.TcCoe Idealize.SL.Sem
open Cert.Hand Cert.KernelIdeal Cert.KernelIdeal.Gen

/-- A wrapping sum of words that are all zero is zero. -/
theorem fold_zero {α : Type} (s : Finset α) (f : α → BitVec 32) (h : ∀ x ∈ s, f x = 0#32) :
    Finset.fold IntOp.addi 0#32 f s = 0#32 := by
  classical
  induction s using Finset.induction_on with
  | empty => rfl
  | insert a s ha ih =>
    rw [Finset.fold_insert ha, h a (Finset.mem_insert_self a s), ih fun x hx => h x (Finset.mem_insert_of_mem hx)]
    rfl

/-- A wrapping sum of words that are zero but for one is that one. -/
theorem fold_one {α : Type} [Fintype α] [DecidableEq α] (k : α) (f : α → BitVec 32) (h : ∀ x, x ≠ k → f x = 0#32) :
    Finset.fold IntOp.addi 0#32 f Finset.univ = f k := by
  rw [← Finset.insert_erase (Finset.mem_univ k), Finset.fold_insert (Finset.notMem_erase k _),
    fold_zero _ f fun x hx => h x (Finset.ne_of_mem_erase hx)]
  exact BitVec.add_zero _

/-- The loop's own number as a word. -/
theorem iv_word (k : ℕ) (hk : k < 1024) : Scf.iv 0#32 1#32 k = BitVec.ofNat 32 k :=
  BitVec.eq_of_toNat_eq (by
    rw [WordArith.toNat_iv_zero_one k (by omega), BitVec.toNat_ofNat]
    omega)

/-- The element of the step's own box in a row, found by a masked sum. -/
theorem pay8_at (k : Fin k4_t1_loop.trips) (s : IVec S2x1024 32) (hk : k.val < 1024) (n : Fin 2) :
    k4_pay8 (F := Idealize.ShloMosaic.Ideal) (iota .tc S2x1024 32 [1] iota_S2x1024_d1_w32) 0#32 1#32 k s (ix2 n 0) = s (ix2 n ⟨k.val, hk⟩) := by
  pointwise [k4_pay8]
  rw [iv_word _ hk]
  refine (fold_one (⟨k.val, hk⟩ : Fin 1024) _ fun x hx => ?_).trans ?_
  · rw [WordCmp.cmpi_eq_ofNat (by have := x.isLt; omega) (by omega), decide_eq_false (fun e => hx (Fin.ext e))]
    rfl
  · rw [WordCmp.cmpi_eq_ofNat (by omega) (by omega), decide_eq_true rfl]
    show k4_pay7 (F := Idealize.ShloMosaic.Ideal) s _ = _
    pointwise [k4_pay7]

/-- A choice between the two rows by the row's number is the row's element. -/
theorem pick {α : Type} (x : Vec Idealize.ShloMosaic.Ideal S2x1024 .f32) (n : Fin 2) (k : Fin 1024) :
    (if h : n.val < 1 then x (ix2 0 k) else x (ix2 1 k)) = x (ix2 n k) := by
  match n with
  | ⟨0, _⟩ => rfl
  | ⟨1, _⟩ => rfl

/-- The box `j` of picture `n`, from its four coordinate arrays. -/
def boxK (x0 x1 x2 x3 : Vec Idealize.ShloMosaic.Ideal S2x1024 .f32) (n : Fin 2) (j : Fin 1024) : Fin 4 → EReal :=
  ![x0 (ix2 n j), x1 (ix2 n j), x2 (ix2 n j), x3 (ix2 n j)]

/-- One step at an index. -/
theorem kstep_at (x0 x1 x2 x3 : Vec Idealize.ShloMosaic.Ideal S2x1024 .f32) (k : Fin k4_t1_loop.trips) (s : IVec S2x1024 32)
    (hk : k.val < 1024) (n : Fin 2) (j : Fin 1024) :
    kstep x0 x1 x2 x3 x0 x1 x2 x3 k s (ix2 n j)
      = Scalar.select (IntOp.andi (IntOp.andi
          (BitVec.ofBool (decide (Ideal.ofBits .f32 0x3EE66666#32 < iou (boxK x0 x1 x2 x3 n ⟨k.val, hk⟩) (boxK x0 x1 x2 x3 n j))))
          (BitVec.ofBool (decide (k.val < j.val)))) (IntOp.cmpi .sgt (s (ix2 n ⟨k.val, hk⟩)) 0#32)) 0#32 (s (ix2 n j)) := by
  unfold kstep
  pointwise [k4_pay6, k4_pay7, k4_pay13, k4_pay14, k4_pay15, k4_pay16, k4_pay9, k4_pay10, k4_pay11, k4_pay12, k4_pay1, k4_pay2, k4_pay3, k4_pay4]
  rw [pay8_at k s hk n, iv_word _ hk, WordCmp.cmpi_sgt_ofNat (by have := j.isLt; omega) (by omega)]
  have p (x : Vec Idealize.ShloMosaic.Ideal S2x1024 .f32) : (if h : n.val < 1 then x (ix2 0 k) else x (ix2 1 k)) = x (ix2 n ⟨k.val, hk⟩) := pick (α := Unit) x n ⟨k.val, hk⟩
  simp only [p]
  rfl

/-- The array before trip `t` holds 1 at the boxes kept so far, 0 at the others. -/
theorem kst_at (x0 x1 x2 x3 : Vec Idealize.ShloMosaic.Ideal S2x1024 .f32) (n : Fin 2) :
    ∀ t, t ≤ 1024 → ∀ j : Fin 1024, kst x0 x1 x2 x3 x0 x1 x2 x3 t (ix2 n j) = if kept (boxK x0 x1 x2 x3 n) t j then 1#32 else 0#32
  | 0, _, j => by
    show k4_pay5 (ix2 n j) = _
    pointwise [k4_pay5]
    rfl
  | t + 1, ht, j => by
    have ih := kst_at x0 x1 x2 x3 n t (by omega)
    rw [kst_succ _ _ _ _ _ _ _ _ t ht, kstep_at x0 x1 x2 x3 ⟨t, ht⟩ _ (show t < 1024 from ht) n j, ih, ih, kept, dif_pos (show t < 1024 from ht)]
    generalize kept (boxK x0 x1 x2 x3 n) t j = a
    generalize kept (boxK x0 x1 x2 x3 n) t ⟨t, ht⟩ = b
    generalize decide (Ideal.ofBits .f32 0x3EE66666#32 < iou (boxK x0 x1 x2 x3 n ⟨t, ht⟩) (boxK x0 x1 x2 x3 n j)) = d
    generalize decide (t < j.val) = e
    revert a b d e
    decide

end Cert.KernelIdeal.Hand

end
-- ==== Proof.NmsRef.lean ====
/-
  The reference's suppression loop at an index.
-/
module

public import Idealize.ShloMosaic.Lib.WordCmp
public import proofs.«01_k».proof.Proof.RefRun
public import proofs.«01_k».proof.Proof.Nms

@[expose] public section

set_option maxRecDepth 16384

noncomputable section

namespace Cert.ReferenceIdeal.Hand

open Idealize.ShloMosaic Idealize.ShloMosaic.StableHlo Idealize.ShloMosaic.TcCoe Idealize.SL.Sem
open Cert.Hand Cert.ReferenceIdeal Cert.ReferenceIdeal.Gen Cert.ReferenceIdeal.Value

/-- The start of the slice at box `k`, as a natural. -/
theorem start_word (k : ℕ) (hk : k < 1024) :
    (Scalar.select (IntOp.cmpi .slt (BitVec.ofNat 32 k) 0#32) (IntOp.addi (BitVec.ofNat 32 k) 1024#32) (BitVec.ofNat 32 k)).toInt = (k : Int) := by
  have e : IntOp.cmpi .slt (BitVec.ofNat 32 k) (BitVec.ofNat 32 0) = BitVec.ofBool (decide (k < 0)) :=
    WordCmp.cmpi_slt_ofNat (by omega) (by omega)
  have e' : decide (k < 0) = false := decide_eq_false (by omega)
  rw [show (0#32 : BitVec 32) = BitVec.ofNat 32 0 from rfl, e, e']
  show (BitVec.ofNat 32 k).toInt = _
  rw [BitVec.toInt_eq_toNat_cond, BitVec.toNat_ofNat]
  omega

/-- One trip's operations at an index. -/
theorem pure_at (k : ℕ) (hk : k < 1024) (O : FVec Idealize.ShloMosaic.Ideal S2x1024x1024 .f32) (I : IVec S1024 32) (K : IVec S2x1024 1)
    (s3 : S2x1024x1024.Slices (![0, k, 0] : Fin 3 → ℕ) S2x1x1024) (s2 : S2x1024.Slices (![0, k] : Fin 2 → ℕ) S2x1)
    (h1 : ∀ j : Fin 1024, I (ix1 j) = BitVec.ofNat 32 j.val) (n : Fin 2) (j : Fin 1024) :
    andi K (noti (andi (andi
      (cmpf .ogt (shapeCast S2x1024 (extractStridedSlice S2x1x1024 (![0, k, 0] : Fin 3 → ℕ) O s3) shapeCasts_S2x1x1024_S2x1024)
        (broadcastInDim S2x1024 ![] bcast_S_S2x1024 (constant (F := Idealize.ShloMosaic.Ideal) S_ .f32 0x3EE66666#32)))
      (broadcastInDim S2x1024 ![0, 1] bcast_S1x1024_S2x1024_0_1
        (broadcastInDim S1x1024 ![1] bcast_S1024_S1x1024_1
          (cmpi .sgt I (broadcastInDim S1024 ![] bcast_S_S1024 ((fun _ => BitVec.ofNat 32 k) : IVec S_ 32))))))
      (broadcastInDim S2x1024 ![0, 1] bcast_S2x1_S2x1024_0_1 (extractStridedSlice S2x1 (![0, k] : Fin 2 → ℕ) K s2)))) (ix2 n j)
      = IntOp.andi (K (ix2 n j)) (~~~ (IntOp.andi (IntOp.andi
          (BitVec.ofBool (decide (Ideal.ofBits .f32 0x3EE66666#32 < O (ix3 n ⟨k, hk⟩ j))))
          (BitVec.ofBool (decide (k < j.val)))) (K (ix2 n ⟨k, hk⟩)))) := by
  pointwise []
  rw [h1, WordCmp.cmpi_sgt_ofNat (by have := j.isLt; omega) (by omega)]

/-- One trip's kept boxes at an index. -/
theorem step_at (V : Valuation τ sig (Elt Idealize.ShloMosaic.Ideal)) (k : ℕ) (hk : k < 1024)
   (h1 : ∀ j, rdI S1024 32 (V (Proc.devRef .tc main_v319_1)) (ix1 j) = BitVec.ofNat 32 j.val)
   (h3 : V (Proc.devRef .tc main_v319_3) = fun _ => BitVec.ofNat 32 k) (n : Fin 2) (j : Fin 1024) :
    rdI S2x1024 1 (step_main_v319_4 V) (ix2 n j)
      = IntOp.andi (rdI S2x1024 1 (V (Proc.devRef .tc main_v319_4)) (ix2 n j))
        (~~~ (IntOp.andi (IntOp.andi
          (BitVec.ofBool (decide (Ideal.ofBits .f32 0x3EE66666#32 < rd S2x1024x1024 .f32 (V (Proc.devRef .tc main_v319_0)) (ix3 n ⟨k, hk⟩ j))))
          (BitVec.ofBool (decide (k < j.val)))) (rdI S2x1024 1 (V (Proc.devRef .tc main_v319_4)) (ix2 n ⟨k, hk⟩)))) := by
  unfold step_main_v319_4
  rw [h3]
  have s3 : S2x1024x1024.Slices (![0, k, 0] : Fin 3 → ℕ) S2x1x1024 := ⟨rfl, fun a => by
    match a with
    | ⟨0, _⟩ => exact Nat.le_refl 2
    | ⟨1, _⟩ => exact hk
    | ⟨2, _⟩ => exact Nat.le_refl 1024⟩
  have s2 : S2x1024.Slices (![0, k] : Fin 2 → ℕ) S2x1 := ⟨rfl, fun a => by
    match a with
    | ⟨0, _⟩ => exact Nat.le_refl 2
    | ⟨1, _⟩ => exact hk⟩
  rw [WordCmp.dynamicSlice_eq_extract S2x1x1024 _ _ _ (![0, k, 0] : Fin 3 → ℕ) s3 (fun a => by
      match a with
      | ⟨0, _⟩ => rfl
      | ⟨1, _⟩ => exact start_word k hk
      | ⟨2, _⟩ => rfl),
    WordCmp.dynamicSlice_eq_extract S2x1 _ _ _ (![0, k] : Fin 2 → ℕ) s2 (fun a => by
      match a with
      | ⟨0, _⟩ => rfl
      | ⟨1, _⟩ => exact start_word k hk)]
  generalize V (Proc.devRef .tc main_v319_1) = I at h1 ⊢
  generalize V (Proc.devRef .tc main_v319_0) = O
  generalize V (Proc.devRef .tc main_v319_4) = K
  simp only [rdI, rd] at h1 ⊢
  exact pure_at k hk O I K s3 s2 h1 n j
/-- What the trips have made of the carried buffers before trip `t`. -/
theorem iter_at (V : Valuation τ sig (Elt Idealize.ShloMosaic.Ideal)) (box : Fin 2 → Fin 1024 → Fin 4 → EReal)
    (h0 : ∀ n i j, rd S2x1024x1024 .f32 (V (Proc.devRef .tc main_v319_0)) (ix3 n i j) = iou (box n i) (box n j))
    (h1 : ∀ j, rdI S1024 32 (V (Proc.devRef .tc main_v319_1)) (ix1 j) = BitVec.ofNat 32 j.val)
    (h3 : V (Proc.devRef .tc main_v319_3) = fun _ => 0#32)
    (h4 : ∀ n j, rdI S2x1024 1 (V (Proc.devRef .tc main_v319_4)) (ix2 n j) = 1#1) :
    ∀ t, t ≤ 1024 → STEP^[t] V (Proc.devRef .tc main_v319_0) = V (Proc.devRef .tc main_v319_0)
      ∧ STEP^[t] V (Proc.devRef .tc main_v319_1) = V (Proc.devRef .tc main_v319_1)
      ∧ STEP^[t] V (Proc.devRef .tc main_v319_3) = (fun _ => BitVec.ofNat 32 t)
      ∧ ∀ n j, rdI S2x1024 1 (STEP^[t] V (Proc.devRef .tc main_v319_4)) (ix2 n j) = BitVec.ofBool (kept (box n) t j)
  | 0, _ => ⟨rfl, rfl, h3, h4⟩
  | t + 1, ht => by
    obtain ⟨e0, e1, e3, e4⟩ := iter_at V box h0 h1 h3 h4 t (by omega)
    rw [Function.iterate_succ_apply', STEP_main_v319_0, STEP_main_v319_1, STEP_main_v319_3, STEP_main_v319_4]
    refine ⟨e0, e1, ?_, fun n j => ?_⟩
    · unfold step_main_v319_3
      rw [e3]
      funext i
      show BitVec.ofNat 32 t + 1#32 = BitVec.ofNat 32 (t + 1)
      exact (BitVec.ofNat_add t 1).symm
    · rw [step_at _ t ht (fun j => by rw [e1]; exact h1 j) e3, e0, h0, e4, e4, kept, dif_pos (show t < 1024 from ht)]
      generalize kept (box n) t j = a
      generalize kept (box n) t ⟨t, ht⟩ = b
      generalize decide (Ideal.ofBits .f32 0x3EE66666#32 < iou (box n ⟨t, ht⟩) (box n j)) = d
      generalize decide (t < j.val) = e
      revert a b d e
      decide

/-- The kept boxes after the loop, from the buffers before it. -/
theorem loop_at (m : (ℓ : Loc nD τ sig) → Buf (Elt Idealize.ShloMosaic.Ideal) ℓ) (c : Dev nD) (box : Fin 2 → Fin 1024 → Fin 4 → EReal)
    (h0 : ∀ n i j, rd S2x1024x1024 .f32 (X21 (launchContents m c) (Proc.devRef .tc main_v319_0)) (ix3 n i j) = iou (box n i) (box n j))
    (h1 : ∀ j, rdI S1024 32 (X21 (launchContents m c) (Proc.devRef .tc main_v319_1)) (ix1 j) = BitVec.ofNat 32 j.val)
    (h3 : X21 (launchContents m c) (Proc.devRef .tc main_v319_3) = fun _ => 0#32)
    (h4 : ∀ n j, rdI S2x1024 1 (X21 (launchContents m c) (Proc.devRef .tc main_v319_4)) (ix2 n j) = 1#1) (n : Fin 2) (j : Fin 1024) :
    rdI S2x1024 1 (atK m 1024 c (Proc.devRef .tc main_v319_4)) (ix2 n j) = BitVec.ofBool (kept (box n) 1024 j) := by
  rw [atK_agree m c 1024 main_v319_4 (by decide)]
  exact (iter_at (X21 (launchContents m c)) box h0 h1 h3 h4 1024 (Nat.le_refl _)).2.2.2 n j

end Cert.ReferenceIdeal.Hand

end
-- ==== Proof.NmsInit.lean ====
/-
  The reference's buffers in front of its suppression loop.
-/
module

public import proofs.«01_k».proof.Proof.NmsRef

@[expose] public section

set_option maxRecDepth 16384

noncomputable section

namespace Cert.ReferenceIdeal.Hand

open Idealize.ShloMosaic Idealize.ShloMosaic.StableHlo Idealize.ShloMosaic.TcCoe Idealize.SL.Sem
open Cert.Hand Cert.ReferenceIdeal Cert.ReferenceIdeal.Gen Cert.ReferenceIdeal.Value

variable (R : Valuation τ sig (Elt Idealize.ShloMosaic.Ideal))

/-- The loop starts at box 0. -/
theorem i_counter : after hostOps0_20 R (Proc.devRef .tc main_v319_3) = fun _ => 0#32 := by
  after_reads_simp
  rfl

/-- The boxes' numbers. -/
theorem i_iota (j : Fin 1024) : rdI S1024 32 (after hostOps0_20 R (Proc.devRef .tc main_v319_1)) (ix1 j) = BitVec.ofNat 32 j.val := by
  after_reads_simp
  rfl

/-- The loop starts with every box kept. -/
theorem i_ones (n : Fin 2) (j : Fin 1024) : rdI S2x1024 1 (after hostOps0_20 R (Proc.devRef .tc main_v319_4)) (ix2 n j) = 1#1 := by
  after_reads_simp
  rfl

/-- The moved box `j` of picture `n`. -/
def boxR (n : Fin 2) (j : Fin 1024) (q : Fin 4) : EReal :=
  moved (rd S2x1024x4 .f32 (R (Proc.devRef .tc main_v266)) (ix3 n j q)) (rdI S2x1024 32 (R (Proc.devRef .tc main_v268)) (ix2 n j))

set_option maxRecDepth 100000 in
set_option maxHeartbeats 2000000 in
/-- The overlaps of all pairs of moved boxes. -/
theorem i_iou (n : Fin 2) (i j : Fin 1024) : rd S2x1024x1024 .f32 (after hostOps0_20 R (Proc.devRef .tc main_v319_0)) (ix3 n i j)
    = iou (boxR R n i) (boxR R n j) := by
  after_reads_simp
  simp only [iou, boxR, moved, rd, rdI, id]
  generalize R (Proc.devRef .tc main_v266) = P
  generalize R (Proc.devRef .tc main_v268) = C
  pointwise []

end Cert.ReferenceIdeal.Hand

end
-- ==== Proof.Post.lean ====
/-
  What follows the suppression: clipping, masking, and the stacked results.
-/
module

public import proofs.«01_k».proof.Proof.NmsSpec
public import proofs.«01_k».proof.Proof.NmsInit

@[expose] public section

set_option maxRecDepth 16384

noncomputable section

namespace Cert.Match

open Idealize.ShloMosaic Idealize.ShloMosaic.StableHlo Idealize.ShloMosaic.TcCoe Idealize.SL.Sem
open Cert.Hand

local notation "FI" => Idealize.ShloMosaic.Ideal

/-- A coordinate clipped to the picture. -/
def clipped (x : EReal) : EReal := min (Ideal.ofBits .f32 0x43C00000#32) (max 0 x)

/-- A number kept or dropped by a mask bit. -/
def masked (x : EReal) (b : BitVec 1) : EReal := x * FloatOps.uitofp (F := FI) .f32 b

variable (K : Valuation KernelIdeal.τ KernelIdeal.sig (Elt FI)) (R : Valuation ReferenceIdeal.τ ReferenceIdeal.sig (Elt FI))

section
open KernelIdeal KernelIdeal.Gen

/-- The kernel's keep bit of a box. -/
def kbit (n : Fin 2) (j : Fin 1024) : BitVec 1 := IntOp.cmpi .sgt (rdI S2x1024 32 (K (Proc.devRef .tc main_v179)) (ix2 n j)) 0#32

set_option maxRecDepth 100000 in
set_option maxHeartbeats 2000000 in
/-- Column 0 of the kernel's first result. -/
theorem k_out0 (n : Fin 2) (j : Fin 1024) : rd S2x1024x5 .f32 (after hostOps5_8 (after hostOps5_7 (after hostOps5_6 (after hostOps5_5 (after hostOps5_4 (after hostOps5_3 (after hostOps5_2 (after hostOps5_1 (after hostOps5 K)))))))) (Proc.devRef .tc main_v197)) (ix3 n j 0)
    = masked (clipped (rd S2x1024 .f32 (K (Proc.devRef .tc main_v168)) (ix2 n j))) (kbit K n j) := by
  after_reads_simp
  try simp -implicitDefEqProofs only [StableHlo.TRef.toBuf, StableHlo.TRef.ofBuf, cast_cast, cast_eq]
  simp only [rd, rdI, id, clipped, masked, kbit]
  pointwise []
  after_reads_simp
  try simp -implicitDefEqProofs only [StableHlo.TRef.toBuf, StableHlo.TRef.ofBuf, cast_cast, cast_eq]
  generalize K (Proc.devRef .tc main_v168) = P
  generalize K (Proc.devRef .tc main_v179) = M
  try simp only [id]
  pointwise []

set_option maxRecDepth 100000 in
set_option maxHeartbeats 2000000 in
/-- Column 1 of the kernel's first result. -/
theorem k_out1 (n : Fin 2) (j : Fin 1024) : rd S2x1024x5 .f32 (after hostOps5_8 (after hostOps5_7 (after hostOps5_6 (after hostOps5_5 (after hostOps5_4 (after hostOps5_3 (after hostOps5_2 (after hostOps5_1 (after hostOps5 K)))))))) (Proc.devRef .tc main_v197)) (ix3 n j 1)
    = masked (clipped (rd S2x1024 .f32 (K (Proc.devRef .tc main_v169)) (ix2 n j))) (kbit K n j) := by
  after_reads_simp
  try simp -implicitDefEqProofs only [StableHlo.TRef.toBuf, StableHlo.TRef.ofBuf, cast_cast, cast_eq]
  simp only [rd, rdI, id, clipped, masked, kbit]
  pointwise []
  after_reads_simp
  try simp -implicitDefEqProofs only [StableHlo.TRef.toBuf, StableHlo.TRef.ofBuf, cast_cast, cast_eq]
  generalize K (Proc.devRef .tc main_v169) = P
  generalize K (Proc.devRef .tc main_v179) = M
  try simp only [id]
  pointwise []

set_option maxRecDepth 100000 in
set_option maxHeartbeats 2000000 in
/-- Column 2 of the kernel's first result. -/
theorem k_out2 (n : Fin 2) (j : Fin 1024) : rd S2x1024x5 .f32 (after hostOps5_8 (after hostOps5_7 (after hostOps5_6 (after hostOps5_5 (after hostOps5_4 (after hostOps5_3 (after hostOps5_2 (after hostOps5_1 (after hostOps5 K)))))))) (Proc.devRef .tc main_v197)) (ix3 n j 2)
    = masked (clipped (rd S2x1024 .f32 (K (Proc.devRef .tc main_v170)) (ix2 n j))) (kbit K n j) := by
  after_reads_simp
  try simp -implicitDefEqProofs only [StableHlo.TRef.toBuf, StableHlo.TRef.ofBuf, cast_cast, cast_eq]
  simp only [rd, rdI, id, clipped, masked, kbit]
  pointwise []
  after_reads_simp
  try simp -implicitDefEqProofs only [StableHlo.TRef.toBuf, StableHlo.TRef.ofBuf, cast_cast, cast_eq]
  generalize K (Proc.devRef .tc main_v170) = P
  generalize K (Proc.devRef .tc main_v179) = M
  try simp only [id]
  pointwise []

set_option maxRecDepth 100000 in
set_option maxHeartbeats 2000000 in
/-- Column 3 of the kernel's first result. -/
theorem k_out3 (n : Fin 2) (j : Fin 1024) : rd S2x1024x5 .f32 (after hostOps5_8 (after hostOps5_7 (after hostOps5_6 (after hostOps5_5 (after hostOps5_4 (after hostOps5_3 (after hostOps5_2 (after hostOps5_1 (after hostOps5 K)))))))) (Proc.devRef .tc main_v197)) (ix3 n j 3)
    = masked (clipped (rd S2x1024 .f32 (K (Proc.devRef .tc main_v171)) (ix2 n j))) (kbit K n j) := by
  after_reads_simp
  try simp -implicitDefEqProofs only [StableHlo.TRef.toBuf, StableHlo.TRef.ofBuf, cast_cast, cast_eq]
  simp only [rd, rdI, id, clipped, masked, kbit]
  pointwise []
  after_reads_simp
  try simp -implicitDefEqProofs only [StableHlo.TRef.toBuf, StableHlo.TRef.ofBuf, cast_cast, cast_eq]
  generalize K (Proc.devRef .tc main_v171) = P
  generalize K (Proc.devRef .tc main_v179) = M
  try simp only [id]
  pointwise []

set_option maxRecDepth 100000 in
set_option maxHeartbeats 2000000 in
/-- Column 4 of the kernel's first result. -/
theorem k_out4 (n : Fin 2) (j : Fin 1024) : rd S2x1024x5 .f32 (after hostOps5_8 (after hostOps5_7 (after hostOps5_6 (after hostOps5_5 (after hostOps5_4 (after hostOps5_3 (after hostOps5_2 (after hostOps5_1 (after hostOps5 K)))))))) (Proc.devRef .tc main_v197)) (ix3 n j 4)
    = masked (rd S2x1024 .f32 (K (Proc.devRef .tc main_v166)) (ix2 n j)) (kbit K n j) := by
  after_reads_simp
  try simp -implicitDefEqProofs only [StableHlo.TRef.toBuf, StableHlo.TRef.ofBuf, cast_cast, cast_eq]
  simp only [rd, rdI, id, clipped, masked, kbit]
  pointwise []
  after_reads_simp
  try simp -implicitDefEqProofs only [StableHlo.TRef.toBuf, StableHlo.TRef.ofBuf, cast_cast, cast_eq]
  generalize K (Proc.devRef .tc main_v166) = P
  generalize K (Proc.devRef .tc main_v179) = M
  try simp only [id]
  pointwise []

/-- The kernel's second result. -/
theorem k_label (n : Fin 2) (j : Fin 1024) : rdI S2x1024 32 (after hostOps5_9 (after hostOps5_8 (after hostOps5_7 (after hostOps5_6 (after hostOps5_5 (after hostOps5_4 (after hostOps5_3 (after hostOps5_2 (after hostOps5_1 (after hostOps5 K))))))))) (Proc.devRef .tc main_v198)) (ix2 n j)
    = Scalar.select (kbit K n j) (rdI S2x1024 32 (K (Proc.devRef .tc main_v167)) (ix2 n j)) 4294967295#32 := by
  after_reads_simp
  try simp -implicitDefEqProofs only [StableHlo.TRef.toBuf, StableHlo.TRef.ofBuf, cast_cast, cast_eq]
  simp only [rd, rdI, id, kbit]
  generalize K (Proc.devRef .tc main_v167) = P
  generalize K (Proc.devRef .tc main_v179) = M
  pointwise []

end

section
open ReferenceIdeal ReferenceIdeal.Gen

set_option maxRecDepth 100000 in
set_option maxHeartbeats 2000000 in
/-- Column 0 of the reference's first result. -/
theorem r_out0
    (h0 : ∀ q, rd S4 .f32 (R (Proc.devRef .tc main_cst_0)) (ix1 q) = 0) (h1 : ∀ q, rd S4 .f32 (R (Proc.devRef .tc main_cst_1)) (ix1 q) = Ideal.ofBits .f32 0x43C00000#32) (n : Fin 2) (j : Fin 1024) :
    rd S2x1024x5 .f32 (after hostOps0_23 (after hostOps0_22 (after hostOps0_21 R)) (Proc.devRef .tc main_v332)) (ix3 n j 0)
    = masked (clipped (rd S2x1024x4 .f32 (R (Proc.devRef .tc main_v266)) (ix3 n j 0))) (rdI S2x1024 1 (R (Proc.devRef .tc main_v319_4)) (ix2 n j)) := by
  after_reads_simp
  try simp -implicitDefEqProofs only [StableHlo.TRef.toBuf, StableHlo.TRef.ofBuf, cast_cast, cast_eq]
  simp only [rd, rdI, id, clipped, masked]
  pointwise []
  after_reads_simp
  try simp -implicitDefEqProofs only [StableHlo.TRef.toBuf, StableHlo.TRef.ofBuf, cast_cast, cast_eq]
  generalize R (Proc.devRef .tc main_cst_0) = A at h0 ⊢
  generalize R (Proc.devRef .tc main_cst_1) = B at h1 ⊢
  generalize R (Proc.devRef .tc main_v266) = P
  simp only [rd] at h0 h1
  generalize R (Proc.devRef .tc main_v319_4) = M
  try simp only [id]
  pointwise []
  rw [h0, h1, sub_zero, Cert.Hand.div_one]

set_option maxRecDepth 100000 in
set_option maxHeartbeats 2000000 in
/-- Column 1 of the reference's first result. -/
theorem r_out1
    (h0 : ∀ q, rd S4 .f32 (R (Proc.devRef .tc main_cst_0)) (ix1 q) = 0) (h1 : ∀ q, rd S4 .f32 (R (Proc.devRef .tc main_cst_1)) (ix1 q) = Ideal.ofBits .f32 0x43C00000#32) (n : Fin 2) (j : Fin 1024) :
    rd S2x1024x5 .f32 (after hostOps0_23 (after hostOps0_22 (after hostOps0_21 R)) (Proc.devRef .tc main_v332)) (ix3 n j 1)
    = masked (clipped (rd S2x1024x4 .f32 (R (Proc.devRef .tc main_v266)) (ix3 n j 1))) (rdI S2x1024 1 (R (Proc.devRef .tc main_v319_4)) (ix2 n j)) := by
  after_reads_simp
  try simp -implicitDefEqProofs only [StableHlo.TRef.toBuf, StableHlo.TRef.ofBuf, cast_cast, cast_eq]
  simp only [rd, rdI, id, clipped, masked]
  pointwise []
  after_reads_simp
  try simp -implicitDefEqProofs only [StableHlo.TRef.toBuf, StableHlo.TRef.ofBuf, cast_cast, cast_eq]
  generalize R (Proc.devRef .tc main_cst_0) = A at h0 ⊢
  generalize R (Proc.devRef .tc main_cst_1) = B at h1 ⊢
  generalize R (Proc.devRef .tc main_v266) = P
  simp only [rd] at h0 h1
  generalize R (Proc.devRef .tc main_v319_4) = M
  try simp only [id]
  pointwise []
  rw [h0, h1, sub_zero, Cert.Hand.div_one]

set_option maxRecDepth 100000 in
set_option maxHeartbeats 2000000 in
/-- Column 2 of the reference's first result. -/
theorem r_out2
    (h0 : ∀ q, rd S4 .f32 (R (Proc.devRef .tc main_cst_0)) (ix1 q) = 0) (h1 : ∀ q, rd S4 .f32 (R (Proc.devRef .tc main_cst_1)) (ix1 q) = Ideal.ofBits .f32 0x43C00000#32) (n : Fin 2) (j : Fin 1024) :
    rd S2x1024x5 .f32 (after hostOps0_23 (after hostOps0_22 (after hostOps0_21 R)) (Proc.devRef .tc main_v332)) (ix3 n j 2)
    = masked (clipped (rd S2x1024x4 .f32 (R (Proc.devRef .tc main_v266)) (ix3 n j 2))) (rdI S2x1024 1 (R (Proc.devRef .tc main_v319_4)) (ix2 n j)) := by
  after_reads_simp
  try simp -implicitDefEqProofs only [StableHlo.TRef.toBuf, StableHlo.TRef.ofBuf, cast_cast, cast_eq]
  simp only [rd, rdI, id, clipped, masked]
  pointwise []
  after_reads_simp
  try simp -implicitDefEqProofs only [StableHlo.TRef.toBuf, StableHlo.TRef.ofBuf, cast_cast, cast_eq]
  generalize R (Proc.devRef .tc main_cst_0) = A at h0 ⊢
  generalize R (Proc.devRef .tc main_cst_1) = B at h1 ⊢
  generalize R (Proc.devRef .tc main_v266) = P
  simp only [rd] at h0 h1
  generalize R (Proc.devRef .tc main_v319_4) = M
  try simp only [id]
  pointwise []
  rw [h0, h1, sub_zero, Cert.Hand.div_one]

set_option maxRecDepth 100000 in
set_option maxHeartbeats 2000000 in
/-- Column 3 of the reference's first result. -/
theorem r_out3
    (h0 : ∀ q, rd S4 .f32 (R (Proc.devRef .tc main_cst_0)) (ix1 q) = 0) (h1 : ∀ q, rd S4 .f32 (R (Proc.devRef .tc main_cst_1)) (ix1 q) = Ideal.ofBits .f32 0x43C00000#32) (n : Fin 2) (j : Fin 1024) :
    rd S2x1024x5 .f32 (after hostOps0_23 (after hostOps0_22 (after hostOps0_21 R)) (Proc.devRef .tc main_v332)) (ix3 n j 3)
    = masked (clipped (rd S2x1024x4 .f32 (R (Proc.devRef .tc main_v266)) (ix3 n j 3))) (rdI S2x1024 1 (R (Proc.devRef .tc main_v319_4)) (ix2 n j)) := by
  after_reads_simp
  try simp -implicitDefEqProofs only [StableHlo.TRef.toBuf, StableHlo.TRef.ofBuf, cast_cast, cast_eq]
  simp only [rd, rdI, id, clipped, masked]
  pointwise []
  after_reads_simp
  try simp -implicitDefEqProofs only [StableHlo.TRef.toBuf, StableHlo.TRef.ofBuf, cast_cast, cast_eq]
  generalize R (Proc.devRef .tc main_cst_0) = A at h0 ⊢
  generalize R (Proc.devRef .tc main_cst_1) = B at h1 ⊢
  generalize R (Proc.devRef .tc main_v266) = P
  simp only [rd] at h0 h1
  generalize R (Proc.devRef .tc main_v319_4) = M
  try simp only [id]
  pointwise []
  rw [h0, h1, sub_zero, Cert.Hand.div_one]

set_option maxRecDepth 100000 in
set_option maxHeartbeats 2000000 in
/-- Column 4 of the reference's first result. -/
theorem r_out4 (n : Fin 2) (j : Fin 1024) :
    rd S2x1024x5 .f32 (after hostOps0_23 (after hostOps0_22 (after hostOps0_21 R)) (Proc.devRef .tc main_v332)) (ix3 n j 4)
    = masked (rd S2x1024 .f32 (R (Proc.devRef .tc main_v267)) (ix2 n j)) (rdI S2x1024 1 (R (Proc.devRef .tc main_v319_4)) (ix2 n j)) := by
  after_reads_simp
  try simp -implicitDefEqProofs only [StableHlo.TRef.toBuf, StableHlo.TRef.ofBuf, cast_cast, cast_eq]
  simp only [rd, rdI, id, clipped, masked]
  pointwise []
  after_reads_simp
  try simp -implicitDefEqProofs only [StableHlo.TRef.toBuf, StableHlo.TRef.ofBuf, cast_cast, cast_eq]
  generalize R (Proc.devRef .tc main_v267) = P
  generalize R (Proc.devRef .tc main_v319_4) = M
  try simp only [id]
  pointwise []

/-- The reference's second result. -/
theorem r_label (n : Fin 2) (j : Fin 1024) : rdI S2x1024 32 (after hostOps0_24 (after hostOps0_23 (after hostOps0_22 (after hostOps0_21 R))) (Proc.devRef .tc main_v333)) (ix2 n j)
    = Scalar.select (rdI S2x1024 1 (R (Proc.devRef .tc main_v319_4)) (ix2 n j)) (rdI S2x1024 32 (R (Proc.devRef .tc main_v268)) (ix2 n j)) 4294967295#32 := by
  after_reads_simp
  try simp -implicitDefEqProofs only [StableHlo.TRef.toBuf, StableHlo.TRef.ofBuf, cast_cast, cast_eq]
  simp only [rd, rdI, id]
  generalize R (Proc.devRef .tc main_v268) = P
  generalize R (Proc.devRef .tc main_v319_4) = M
  pointwise []

end

end Cert.Match

end
-- ==== Proof.Chain.lean ====
/-
  The two programs agree at every boundary of the decoding, through the suppression, and in their results.
-/
module

public import proofs.«01_k».proof.Proof.MatchDecode
public import proofs.«01_k».proof.Proof.MatchTake
public import proofs.«01_k».proof.Proof.Post

@[expose] public section

set_option maxRecDepth 16384

noncomputable section

namespace Cert.Match

open Idealize.ShloMosaic Idealize.ShloMosaic.StableHlo Idealize.ShloMosaic.TcCoe Idealize.SL.Sem
open Cert.Hand

variable {m : (ℓ : Loc KernelIdeal.nD KernelIdeal.τ KernelIdeal.sig) → Buf (Elt Idealize.ShloMosaic.Ideal) ℓ}
  (ρ : Dev KernelIdeal.nD → PrngReg) {c : Dev KernelIdeal.nD} {V : Valuation ReferenceIdeal.τ ReferenceIdeal.sig (Elt Idealize.ShloMosaic.Ideal)}

/-- The arrays `cx` agree. -/
theorem e_cx (h : Args m c V) : rd KernelIdeal.S2x6912 .f32 (KernelIdeal.Gen.W18 m ρ c (Proc.devRef .tc KernelIdeal.main_v102)) = rd ReferenceIdeal.S2x6912 .f32 (ReferenceIdeal.Hand.X13 V (Proc.devRef .tc ReferenceIdeal.main_v196)) :=
  d_cx (KernelIdeal.Gen.W17 m ρ c) (ReferenceIdeal.Hand.X12 V) (ePreds ρ h)

/-- The arrays `cy` agree. -/
theorem e_cy (h : Args m c V) : rd KernelIdeal.S2x6912 .f32 (KernelIdeal.Gen.W18 m ρ c (Proc.devRef .tc KernelIdeal.main_v112)) = rd ReferenceIdeal.S2x6912 .f32 (ReferenceIdeal.Hand.X13 V (Proc.devRef .tc ReferenceIdeal.main_v206)) :=
  d_cy (KernelIdeal.Gen.W17 m ρ c) (ReferenceIdeal.Hand.X12 V) (ePreds ρ h)

/-- The arrays `bw` agree. -/
theorem e_bw (h : Args m c V) : rd KernelIdeal.S2x6912 .f32 (KernelIdeal.Gen.W18 m ρ c (Proc.devRef .tc KernelIdeal.main_v122)) = rd ReferenceIdeal.S2x6912 .f32 (ReferenceIdeal.Hand.X13 V (Proc.devRef .tc ReferenceIdeal.main_v216)) :=
  d_bw (KernelIdeal.Gen.W17 m ρ c) (ReferenceIdeal.Hand.X12 V) (ePreds ρ h)

/-- The arrays `bh` agree. -/
theorem e_bh (h : Args m c V) : rd KernelIdeal.S2x6912 .f32 (KernelIdeal.Gen.W18 m ρ c (Proc.devRef .tc KernelIdeal.main_v132)) = rd ReferenceIdeal.S2x6912 .f32 (ReferenceIdeal.Hand.X13 V (Proc.devRef .tc ReferenceIdeal.main_v226)) :=
  d_bh (KernelIdeal.Gen.W17 m ρ c) (ReferenceIdeal.Hand.X12 V) (ePreds ρ h)

/-- The arrays `cls` agree. -/
theorem e_cls (h : Args m c V) : rd KernelIdeal.S2x6912x80 .f32 (KernelIdeal.Gen.W18 m ρ c (Proc.devRef .tc KernelIdeal.main_v147)) = rd ReferenceIdeal.S2x6912x80 .f32 (ReferenceIdeal.Hand.X13 V (Proc.devRef .tc ReferenceIdeal.main_v241)) :=
  d_cls (KernelIdeal.Gen.W17 m ρ c) (ReferenceIdeal.Hand.X12 V) (ePreds ρ h)

/-- The arrays `conf` agree. -/
theorem e_conf (h : Args m c V) : rd KernelIdeal.S2x6912 .f32 (KernelIdeal.Gen.W18 m ρ c (Proc.devRef .tc KernelIdeal.main_v149)) = rd ReferenceIdeal.S2x6912 .f32 (ReferenceIdeal.Hand.X13 V (Proc.devRef .tc ReferenceIdeal.main_v243)) :=
  d_conf (KernelIdeal.Gen.W17 m ρ c) (ReferenceIdeal.Hand.X12 V) (ePreds ρ h)

/-- The best classes agree. -/
theorem e_argmax (h : Args m c V) : rdI KernelIdeal.S2x6912 32 (KernelIdeal.Gen.W19 m ρ c (Proc.devRef .tc KernelIdeal.main_v150)) = rdI ReferenceIdeal.S2x6912 32 (ReferenceIdeal.Hand.X14 V (Proc.devRef .tc ReferenceIdeal.main_v244)) :=
  d_argmax (KernelIdeal.Gen.W18 m ρ c) (ReferenceIdeal.Hand.X13 V) (e_cls ρ h)

/-- The same, carried to later boundaries. -/
theorem e_conf_19_14 (h : Args m c V) : rd KernelIdeal.S2x6912 .f32 (KernelIdeal.Gen.W19 m ρ c (Proc.devRef .tc KernelIdeal.main_v149)) = rd ReferenceIdeal.S2x6912 .f32 (ReferenceIdeal.Hand.X14 V (Proc.devRef .tc ReferenceIdeal.main_v243)) := by
  rw [KernelIdeal.Gen.W19_of m ρ c KernelIdeal.main_v149 (by decide), ReferenceIdeal.Hand.X14_of V ReferenceIdeal.main_v243 (by decide)]
  exact e_conf ρ h

/-- The thresholded confidences agree. -/
theorem e_where (h : Args m c V) : rd KernelIdeal.S2x6912 .f32 (KernelIdeal.Gen.W21 m ρ c (Proc.devRef .tc KernelIdeal.main_v153)) = rd ReferenceIdeal.S2x6912 .f32 (ReferenceIdeal.Hand.X16 V (Proc.devRef .tc ReferenceIdeal.main_v247)) :=
  d_where (KernelIdeal.Gen.W19 m ρ c) (ReferenceIdeal.Hand.X14 V) (e_conf_19_14 ρ h)

/-- The same, carried to later boundaries. -/
theorem e_cx_21_16 (h : Args m c V) : rd KernelIdeal.S2x6912 .f32 (KernelIdeal.Gen.W21 m ρ c (Proc.devRef .tc KernelIdeal.main_v102)) = rd ReferenceIdeal.S2x6912 .f32 (ReferenceIdeal.Hand.X16 V (Proc.devRef .tc ReferenceIdeal.main_v196)) := by
  rw [KernelIdeal.Gen.W21_of m ρ c KernelIdeal.main_v102 (by decide), KernelIdeal.Gen.W20_of m ρ c KernelIdeal.main_v102 (by decide), KernelIdeal.Gen.W19_of m ρ c KernelIdeal.main_v102 (by decide), ReferenceIdeal.Hand.X16_of V ReferenceIdeal.main_v196 (by decide), ReferenceIdeal.Hand.X15_of V ReferenceIdeal.main_v196 (by decide), ReferenceIdeal.Hand.X14_of V ReferenceIdeal.main_v196 (by decide)]
  exact e_cx ρ h

/-- The same, carried to later boundaries. -/
theorem e_bw_21_16 (h : Args m c V) : rd KernelIdeal.S2x6912 .f32 (KernelIdeal.Gen.W21 m ρ c (Proc.devRef .tc KernelIdeal.main_v122)) = rd ReferenceIdeal.S2x6912 .f32 (ReferenceIdeal.Hand.X16 V (Proc.devRef .tc ReferenceIdeal.main_v216)) := by
  rw [KernelIdeal.Gen.W21_of m ρ c KernelIdeal.main_v122 (by decide), KernelIdeal.Gen.W20_of m ρ c KernelIdeal.main_v122 (by decide), KernelIdeal.Gen.W19_of m ρ c KernelIdeal.main_v122 (by decide), ReferenceIdeal.Hand.X16_of V ReferenceIdeal.main_v216 (by decide), ReferenceIdeal.Hand.X15_of V ReferenceIdeal.main_v216 (by decide), ReferenceIdeal.Hand.X14_of V ReferenceIdeal.main_v216 (by decide)]
  exact e_bw ρ h

/-- The corner coordinates `x1` agree. -/
theorem e_x1 (h : Args m c V) : rd KernelIdeal.S2x6912 .f32 (KernelIdeal.Gen.W22 m ρ c (Proc.devRef .tc KernelIdeal.main_v156)) = rd ReferenceIdeal.S2x6912 .f32 (ReferenceIdeal.Hand.X17 V (Proc.devRef .tc ReferenceIdeal.main_v250)) :=
  d_x1 (KernelIdeal.Gen.W21 m ρ c) (ReferenceIdeal.Hand.X16 V) (e_cx_21_16 ρ h) (e_bw_21_16 ρ h)

/-- The same, carried to later boundaries. -/
theorem e_cy_21_16 (h : Args m c V) : rd KernelIdeal.S2x6912 .f32 (KernelIdeal.Gen.W21 m ρ c (Proc.devRef .tc KernelIdeal.main_v112)) = rd ReferenceIdeal.S2x6912 .f32 (ReferenceIdeal.Hand.X16 V (Proc.devRef .tc ReferenceIdeal.main_v206)) := by
  rw [KernelIdeal.Gen.W21_of m ρ c KernelIdeal.main_v112 (by decide), KernelIdeal.Gen.W20_of m ρ c KernelIdeal.main_v112 (by decide), KernelIdeal.Gen.W19_of m ρ c KernelIdeal.main_v112 (by decide), ReferenceIdeal.Hand.X16_of V ReferenceIdeal.main_v206 (by decide), ReferenceIdeal.Hand.X15_of V ReferenceIdeal.main_v206 (by decide), ReferenceIdeal.Hand.X14_of V ReferenceIdeal.main_v206 (by decide)]
  exact e_cy ρ h

/-- The same, carried to later boundaries. -/
theorem e_bh_21_16 (h : Args m c V) : rd KernelIdeal.S2x6912 .f32 (KernelIdeal.Gen.W21 m ρ c (Proc.devRef .tc KernelIdeal.main_v132)) = rd ReferenceIdeal.S2x6912 .f32 (ReferenceIdeal.Hand.X16 V (Proc.devRef .tc ReferenceIdeal.main_v226)) := by
  rw [KernelIdeal.Gen.W21_of m ρ c KernelIdeal.main_v132 (by decide), KernelIdeal.Gen.W20_of m ρ c KernelIdeal.main_v132 (by decide), KernelIdeal.Gen.W19_of m ρ c KernelIdeal.main_v132 (by decide), ReferenceIdeal.Hand.X16_of V ReferenceIdeal.main_v226 (by decide), ReferenceIdeal.Hand.X15_of V ReferenceIdeal.main_v226 (by decide), ReferenceIdeal.Hand.X14_of V ReferenceIdeal.main_v226 (by decide)]
  exact e_bh ρ h

/-- The corner coordinates `y1` agree. -/
theorem e_y1 (h : Args m c V) : rd KernelIdeal.S2x6912 .f32 (KernelIdeal.Gen.W22 m ρ c (Proc.devRef .tc KernelIdeal.main_v159)) = rd ReferenceIdeal.S2x6912 .f32 (ReferenceIdeal.Hand.X17 V (Proc.devRef .tc ReferenceIdeal.main_v253)) :=
  d_y1 (KernelIdeal.Gen.W21 m ρ c) (ReferenceIdeal.Hand.X16 V) (e_cy_21_16 ρ h) (e_bh_21_16 ρ h)

/-- The corner coordinates `x2` agree. -/
theorem e_x2 (h : Args m c V) : rd KernelIdeal.S2x6912 .f32 (KernelIdeal.Gen.W22 m ρ c (Proc.devRef .tc KernelIdeal.main_v162)) = rd ReferenceIdeal.S2x6912 .f32 (ReferenceIdeal.Hand.X17 V (Proc.devRef .tc ReferenceIdeal.main_v256)) :=
  d_x2 (KernelIdeal.Gen.W21 m ρ c) (ReferenceIdeal.Hand.X16 V) (e_cx_21_16 ρ h) (e_bw_21_16 ρ h)

/-- The corner coordinates `y2` agree. -/
theorem e_y2 (h : Args m c V) : rd KernelIdeal.S2x6912 .f32 (KernelIdeal.Gen.W22 m ρ c (Proc.devRef .tc KernelIdeal.main_v165)) = rd ReferenceIdeal.S2x6912 .f32 (ReferenceIdeal.Hand.X17 V (Proc.devRef .tc ReferenceIdeal.main_v259)) :=
  d_y2 (KernelIdeal.Gen.W21 m ρ c) (ReferenceIdeal.Hand.X16 V) (e_cy_21_16 ρ h) (e_bh_21_16 ρ h)

/-- The places of the best boxes agree. -/
theorem e_topk (h : Args m c V) : rdI KernelIdeal.S2x1024 32 (KernelIdeal.Gen.W22 m ρ c (Proc.devRef .tc KernelIdeal.main_indices)) = rdI ReferenceIdeal.S2x1024 32 (ReferenceIdeal.Hand.X17 V (Proc.devRef .tc ReferenceIdeal.main_indices)) :=
  d_topk (KernelIdeal.Gen.W21 m ρ c) (ReferenceIdeal.Hand.X16 V) (e_where ρ h)

/-- The same, carried to later boundaries. -/
theorem e_where_22_18 (h : Args m c V) : rd KernelIdeal.S2x6912 .f32 (KernelIdeal.Gen.W22 m ρ c (Proc.devRef .tc KernelIdeal.main_v153)) = rd ReferenceIdeal.S2x6912 .f32 (ReferenceIdeal.Hand.X18 V (Proc.devRef .tc ReferenceIdeal.main_v247)) := by
  rw [KernelIdeal.Gen.W22_of m ρ c KernelIdeal.main_v153 (by decide), ReferenceIdeal.Hand.X18_of V ReferenceIdeal.main_v247 (by decide), ReferenceIdeal.Hand.X17_of V ReferenceIdeal.main_v247 (by decide)]
  exact e_where ρ h

/-- The same, carried to later boundaries. -/
theorem e_topk_22_18 (h : Args m c V) : rdI KernelIdeal.S2x1024 32 (KernelIdeal.Gen.W22 m ρ c (Proc.devRef .tc KernelIdeal.main_indices)) = rdI ReferenceIdeal.S2x1024 32 (ReferenceIdeal.Hand.X18 V (Proc.devRef .tc ReferenceIdeal.main_indices)) := by
  rw [ReferenceIdeal.Hand.X18_of V ReferenceIdeal.main_indices (by decide)]
  exact e_topk ρ h

/-- The confidences taken agree. -/
theorem e_tconf (h : Args m c V) : rd KernelIdeal.S2x1024 .f32 (KernelIdeal.Gen.W23 m ρ c (Proc.devRef .tc KernelIdeal.main_v166)) = rd ReferenceIdeal.S2x1024 .f32 (ReferenceIdeal.Hand.X19 V (Proc.devRef .tc ReferenceIdeal.main_v267)) :=
  d_tconf (KernelIdeal.Gen.W22 m ρ c) (ReferenceIdeal.Hand.X18 V) (e_where_22_18 ρ h) (e_topk_22_18 ρ h)

/-- The same, carried to later boundaries. -/
theorem e_argmax_23_19 (h : Args m c V) : rdI KernelIdeal.S2x6912 32 (KernelIdeal.Gen.W23 m ρ c (Proc.devRef .tc KernelIdeal.main_v150)) = rdI ReferenceIdeal.S2x6912 32 (ReferenceIdeal.Hand.X19 V (Proc.devRef .tc ReferenceIdeal.main_v244)) := by
  rw [KernelIdeal.Gen.W23_of m ρ c KernelIdeal.main_v150 (by decide), KernelIdeal.Gen.W22_of m ρ c KernelIdeal.main_v150 (by decide), KernelIdeal.Gen.W21_of m ρ c KernelIdeal.main_v150 (by decide), KernelIdeal.Gen.W20_of m ρ c KernelIdeal.main_v150 (by decide), ReferenceIdeal.Hand.X19_of V ReferenceIdeal.main_v244 (by decide), ReferenceIdeal.Hand.X18_of V ReferenceIdeal.main_v244 (by decide), ReferenceIdeal.Hand.X17_of V ReferenceIdeal.main_v244 (by decide), ReferenceIdeal.Hand.X16_of V ReferenceIdeal.main_v244 (by decide), ReferenceIdeal.Hand.X15_of V ReferenceIdeal.main_v244 (by decide)]
  exact e_argmax ρ h

/-- The same, carried to later boundaries. -/
theorem e_topk_23_19 (h : Args m c V) : rdI KernelIdeal.S2x1024 32 (KernelIdeal.Gen.W23 m ρ c (Proc.devRef .tc KernelIdeal.main_indices)) = rdI ReferenceIdeal.S2x1024 32 (ReferenceIdeal.Hand.X19 V (Proc.devRef .tc ReferenceIdeal.main_indices)) := by
  rw [KernelIdeal.Gen.W23_of m ρ c KernelIdeal.main_indices (by decide), ReferenceIdeal.Hand.X19_of V ReferenceIdeal.main_indices (by decide), ReferenceIdeal.Hand.X18_of V ReferenceIdeal.main_indices (by decide)]
  exact e_topk ρ h

/-- The classes taken agree. -/
theorem e_tcls (h : Args m c V) : rdI KernelIdeal.S2x1024 32 (KernelIdeal.Gen.W24 m ρ c (Proc.devRef .tc KernelIdeal.main_v167)) = rdI ReferenceIdeal.S2x1024 32 (ReferenceIdeal.Hand.X20 V (Proc.devRef .tc ReferenceIdeal.main_v268)) :=
  d_tcls (KernelIdeal.Gen.W23 m ρ c) (ReferenceIdeal.Hand.X19 V) (e_argmax_23_19 ρ h) (e_topk_23_19 ρ h)

/-- The same, carried to later boundaries. -/
theorem e_x1_24_17 (h : Args m c V) : rd KernelIdeal.S2x6912 .f32 (KernelIdeal.Gen.W24 m ρ c (Proc.devRef .tc KernelIdeal.main_v156)) = rd ReferenceIdeal.S2x6912 .f32 (ReferenceIdeal.Hand.X17 V (Proc.devRef .tc ReferenceIdeal.main_v250)) := by
  rw [KernelIdeal.Gen.W24_of m ρ c KernelIdeal.main_v156 (by decide), KernelIdeal.Gen.W23_of m ρ c KernelIdeal.main_v156 (by decide)]
  exact e_x1 ρ h

/-- The same, carried to later boundaries. -/
theorem e_topk_24_17 (h : Args m c V) : rdI KernelIdeal.S2x1024 32 (KernelIdeal.Gen.W24 m ρ c (Proc.devRef .tc KernelIdeal.main_indices)) = rdI ReferenceIdeal.S2x1024 32 (ReferenceIdeal.Hand.X17 V (Proc.devRef .tc ReferenceIdeal.main_indices)) := by
  rw [KernelIdeal.Gen.W24_of m ρ c KernelIdeal.main_indices (by decide), KernelIdeal.Gen.W23_of m ρ c KernelIdeal.main_indices (by decide)]
  exact e_topk ρ h

/-- Coordinate 0 of the boxes taken agrees. -/
theorem e_take0 (h : Args m c V) (n : Fin 2) (k : Fin 1024) :
    rd KernelIdeal.S2x1024 .f32 (KernelIdeal.Gen.W25 m ρ c (Proc.devRef .tc KernelIdeal.main_v168)) (ix2 n k)
      = rd ReferenceIdeal.S2x1024x4 .f32 (ReferenceIdeal.Hand.X18 V (Proc.devRef .tc ReferenceIdeal.main_v266)) (ix3 n k 0) :=
  d_take0 (KernelIdeal.Gen.W24 m ρ c) (ReferenceIdeal.Hand.X17 V) (fun n p => (r_box0 (ReferenceIdeal.Hand.X16 V) n p).trans (congrFun (e_x1_24_17 ρ h).symm (ix2 n p)))
    (fun n k => (r_places (ReferenceIdeal.Hand.X16 V) n k).trans (congrFun (e_topk_24_17 ρ h).symm (ix2 n k))) n k

/-- The moved coordinate 0 of the kernel's boxes, from the operands of the stretch. -/
theorem k_off0 (K : Valuation KernelIdeal.τ KernelIdeal.sig (Elt Idealize.ShloMosaic.Ideal)) (n : Fin 2) (j : Fin 1024) :
    rd KernelIdeal.S2x1024 .f32 (after KernelIdeal.Gen.hostOps4_11 K (Proc.devRef .tc KernelIdeal.main_v175)) (ix2 n j)
      = moved (rd KernelIdeal.S2x1024 .f32 (K (Proc.devRef .tc KernelIdeal.main_v168)) (ix2 n j))
        (rdI KernelIdeal.S2x1024 32 (K (Proc.devRef .tc KernelIdeal.main_v167)) (ix2 n j)) := by
  after_reads_simp
  simp only [moved, rd, rdI]
  generalize K (Proc.devRef .tc KernelIdeal.main_v168) = P
  generalize K (Proc.devRef .tc KernelIdeal.main_v167) = M
  pointwise []

/-- The same, carried to later boundaries. -/
theorem e_y1_25_17 (h : Args m c V) : rd KernelIdeal.S2x6912 .f32 (KernelIdeal.Gen.W25 m ρ c (Proc.devRef .tc KernelIdeal.main_v159)) = rd ReferenceIdeal.S2x6912 .f32 (ReferenceIdeal.Hand.X17 V (Proc.devRef .tc ReferenceIdeal.main_v253)) := by
  rw [KernelIdeal.Gen.W25_of m ρ c KernelIdeal.main_v159 (by decide), KernelIdeal.Gen.W24_of m ρ c KernelIdeal.main_v159 (by decide), KernelIdeal.Gen.W23_of m ρ c KernelIdeal.main_v159 (by decide)]
  exact e_y1 ρ h

/-- The same, carried to later boundaries. -/
theorem e_topk_25_17 (h : Args m c V) : rdI KernelIdeal.S2x1024 32 (KernelIdeal.Gen.W25 m ρ c (Proc.devRef .tc KernelIdeal.main_indices)) = rdI ReferenceIdeal.S2x1024 32 (ReferenceIdeal.Hand.X17 V (Proc.devRef .tc ReferenceIdeal.main_indices)) := by
  rw [KernelIdeal.Gen.W25_of m ρ c KernelIdeal.main_indices (by decide), KernelIdeal.Gen.W24_of m ρ c KernelIdeal.main_indices (by decide), KernelIdeal.Gen.W23_of m ρ c KernelIdeal.main_indices (by decide)]
  exact e_topk ρ h

/-- Coordinate 1 of the boxes taken agrees. -/
theorem e_take1 (h : Args m c V) (n : Fin 2) (k : Fin 1024) :
    rd KernelIdeal.S2x1024 .f32 (KernelIdeal.Gen.W26 m ρ c (Proc.devRef .tc KernelIdeal.main_v169)) (ix2 n k)
      = rd ReferenceIdeal.S2x1024x4 .f32 (ReferenceIdeal.Hand.X18 V (Proc.devRef .tc ReferenceIdeal.main_v266)) (ix3 n k 1) :=
  d_take1 (KernelIdeal.Gen.W25 m ρ c) (ReferenceIdeal.Hand.X17 V) (fun n p => (r_box1 (ReferenceIdeal.Hand.X16 V) n p).trans (congrFun (e_y1_25_17 ρ h).symm (ix2 n p)))
    (fun n k => (r_places (ReferenceIdeal.Hand.X16 V) n k).trans (congrFun (e_topk_25_17 ρ h).symm (ix2 n k))) n k

/-- The moved coordinate 1 of the kernel's boxes, from the operands of the stretch. -/
theorem k_off1 (K : Valuation KernelIdeal.τ KernelIdeal.sig (Elt Idealize.ShloMosaic.Ideal)) (n : Fin 2) (j : Fin 1024) :
    rd KernelIdeal.S2x1024 .f32 (after KernelIdeal.Gen.hostOps4_11 K (Proc.devRef .tc KernelIdeal.main_v176)) (ix2 n j)
      = moved (rd KernelIdeal.S2x1024 .f32 (K (Proc.devRef .tc KernelIdeal.main_v169)) (ix2 n j))
        (rdI KernelIdeal.S2x1024 32 (K (Proc.devRef .tc KernelIdeal.main_v167)) (ix2 n j)) := by
  after_reads_simp
  simp only [moved, rd, rdI]
  generalize K (Proc.devRef .tc KernelIdeal.main_v169) = P
  generalize K (Proc.devRef .tc KernelIdeal.main_v167) = M
  pointwise []

/-- The same, carried to later boundaries. -/
theorem e_x2_26_17 (h : Args m c V) : rd KernelIdeal.S2x6912 .f32 (KernelIdeal.Gen.W26 m ρ c (Proc.devRef .tc KernelIdeal.main_v162)) = rd ReferenceIdeal.S2x6912 .f32 (ReferenceIdeal.Hand.X17 V (Proc.devRef .tc ReferenceIdeal.main_v256)) := by
  rw [KernelIdeal.Gen.W26_of m ρ c KernelIdeal.main_v162 (by decide), KernelIdeal.Gen.W25_of m ρ c KernelIdeal.main_v162 (by decide), KernelIdeal.Gen.W24_of m ρ c KernelIdeal.main_v162 (by decide), KernelIdeal.Gen.W23_of m ρ c KernelIdeal.main_v162 (by decide)]
  exact e_x2 ρ h

/-- The same, carried to later boundaries. -/
theorem e_topk_26_17 (h : Args m c V) : rdI KernelIdeal.S2x1024 32 (KernelIdeal.Gen.W26 m ρ c (Proc.devRef .tc KernelIdeal.main_indices)) = rdI ReferenceIdeal.S2x1024 32 (ReferenceIdeal.Hand.X17 V (Proc.devRef .tc ReferenceIdeal.main_indices)) := by
  rw [KernelIdeal.Gen.W26_of m ρ c KernelIdeal.main_indices (by decide), KernelIdeal.Gen.W25_of m ρ c KernelIdeal.main_indices (by decide), KernelIdeal.Gen.W24_of m ρ c KernelIdeal.main_indices (by decide), KernelIdeal.Gen.W23_of m ρ c KernelIdeal.main_indices (by decide)]
  exact e_topk ρ h

/-- Coordinate 2 of the boxes taken agrees. -/
theorem e_take2 (h : Args m c V) (n : Fin 2) (k : Fin 1024) :
    rd KernelIdeal.S2x1024 .f32 (KernelIdeal.Gen.W27 m ρ c (Proc.devRef .tc KernelIdeal.main_v170)) (ix2 n k)
      = rd ReferenceIdeal.S2x1024x4 .f32 (ReferenceIdeal.Hand.X18 V (Proc.devRef .tc ReferenceIdeal.main_v266)) (ix3 n k 2) :=
  d_take2 (KernelIdeal.Gen.W26 m ρ c) (ReferenceIdeal.Hand.X17 V) (fun n p => (r_box2 (ReferenceIdeal.Hand.X16 V) n p).trans (congrFun (e_x2_26_17 ρ h).symm (ix2 n p)))
    (fun n k => (r_places (ReferenceIdeal.Hand.X16 V) n k).trans (congrFun (e_topk_26_17 ρ h).symm (ix2 n k))) n k

/-- The moved coordinate 2 of the kernel's boxes, from the operands of the stretch. -/
theorem k_off2 (K : Valuation KernelIdeal.τ KernelIdeal.sig (Elt Idealize.ShloMosaic.Ideal)) (n : Fin 2) (j : Fin 1024) :
    rd KernelIdeal.S2x1024 .f32 (after KernelIdeal.Gen.hostOps4_11 K (Proc.devRef .tc KernelIdeal.main_v177)) (ix2 n j)
      = moved (rd KernelIdeal.S2x1024 .f32 (K (Proc.devRef .tc KernelIdeal.main_v170)) (ix2 n j))
        (rdI KernelIdeal.S2x1024 32 (K (Proc.devRef .tc KernelIdeal.main_v167)) (ix2 n j)) := by
  after_reads_simp
  simp only [moved, rd, rdI]
  generalize K (Proc.devRef .tc KernelIdeal.main_v170) = P
  generalize K (Proc.devRef .tc KernelIdeal.main_v167) = M
  pointwise []

/-- The same, carried to later boundaries. -/
theorem e_y2_27_17 (h : Args m c V) : rd KernelIdeal.S2x6912 .f32 (KernelIdeal.Gen.W27 m ρ c (Proc.devRef .tc KernelIdeal.main_v165)) = rd ReferenceIdeal.S2x6912 .f32 (ReferenceIdeal.Hand.X17 V (Proc.devRef .tc ReferenceIdeal.main_v259)) := by
  rw [KernelIdeal.Gen.W27_of m ρ c KernelIdeal.main_v165 (by decide), KernelIdeal.Gen.W26_of m ρ c KernelIdeal.main_v165 (by decide), KernelIdeal.Gen.W25_of m ρ c KernelIdeal.main_v165 (by decide), KernelIdeal.Gen.W24_of m ρ c KernelIdeal.main_v165 (by decide), KernelIdeal.Gen.W23_of m ρ c KernelIdeal.main_v165 (by decide)]
  exact e_y2 ρ h

/-- The same, carried to later boundaries. -/
theorem e_topk_27_17 (h : Args m c V) : rdI KernelIdeal.S2x1024 32 (KernelIdeal.Gen.W27 m ρ c (Proc.devRef .tc KernelIdeal.main_indices)) = rdI ReferenceIdeal.S2x1024 32 (ReferenceIdeal.Hand.X17 V (Proc.devRef .tc ReferenceIdeal.main_indices)) := by
  rw [KernelIdeal.Gen.W27_of m ρ c KernelIdeal.main_indices (by decide), KernelIdeal.Gen.W26_of m ρ c KernelIdeal.main_indices (by decide), KernelIdeal.Gen.W25_of m ρ c KernelIdeal.main_indices (by decide), KernelIdeal.Gen.W24_of m ρ c KernelIdeal.main_indices (by decide), KernelIdeal.Gen.W23_of m ρ c KernelIdeal.main_indices (by decide)]
  exact e_topk ρ h

/-- Coordinate 3 of the boxes taken agrees. -/
theorem e_take3 (h : Args m c V) (n : Fin 2) (k : Fin 1024) :
    rd KernelIdeal.S2x1024 .f32 (KernelIdeal.Gen.W28 m ρ c (Proc.devRef .tc KernelIdeal.main_v171)) (ix2 n k)
      = rd ReferenceIdeal.S2x1024x4 .f32 (ReferenceIdeal.Hand.X18 V (Proc.devRef .tc ReferenceIdeal.main_v266)) (ix3 n k 3) :=
  d_take3 (KernelIdeal.Gen.W27 m ρ c) (ReferenceIdeal.Hand.X17 V) (fun n p => (r_box3 (ReferenceIdeal.Hand.X16 V) n p).trans (congrFun (e_y2_27_17 ρ h).symm (ix2 n p)))
    (fun n k => (r_places (ReferenceIdeal.Hand.X16 V) n k).trans (congrFun (e_topk_27_17 ρ h).symm (ix2 n k))) n k

/-- The moved coordinate 3 of the kernel's boxes, from the operands of the stretch. -/
theorem k_off3 (K : Valuation KernelIdeal.τ KernelIdeal.sig (Elt Idealize.ShloMosaic.Ideal)) (n : Fin 2) (j : Fin 1024) :
    rd KernelIdeal.S2x1024 .f32 (after KernelIdeal.Gen.hostOps4_11 K (Proc.devRef .tc KernelIdeal.main_v178)) (ix2 n j)
      = moved (rd KernelIdeal.S2x1024 .f32 (K (Proc.devRef .tc KernelIdeal.main_v171)) (ix2 n j))
        (rdI KernelIdeal.S2x1024 32 (K (Proc.devRef .tc KernelIdeal.main_v167)) (ix2 n j)) := by
  after_reads_simp
  simp only [moved, rd, rdI]
  generalize K (Proc.devRef .tc KernelIdeal.main_v171) = P
  generalize K (Proc.devRef .tc KernelIdeal.main_v167) = M
  pointwise []

/-- The same, carried to later boundaries. -/
theorem e_tcls_28_20 (h : Args m c V) : rdI KernelIdeal.S2x1024 32 (KernelIdeal.Gen.W28 m ρ c (Proc.devRef .tc KernelIdeal.main_v167)) = rdI ReferenceIdeal.S2x1024 32 (ReferenceIdeal.Hand.X20 V (Proc.devRef .tc ReferenceIdeal.main_v268)) := by
  rw [KernelIdeal.Gen.W28_of m ρ c KernelIdeal.main_v167 (by decide), KernelIdeal.Gen.W27_of m ρ c KernelIdeal.main_v167 (by decide), KernelIdeal.Gen.W26_of m ρ c KernelIdeal.main_v167 (by decide), KernelIdeal.Gen.W25_of m ρ c KernelIdeal.main_v167 (by decide)]
  exact e_tcls ρ h

/-- The moved coordinate 0 agrees. -/
theorem e_box0 (h : Args m c V) (n : Fin 2) (j : Fin 1024) :
    rd KernelIdeal.S2x1024 .f32 (KernelIdeal.Gen.W29 m ρ c (Proc.devRef .tc KernelIdeal.main_v175)) (ix2 n j) = ReferenceIdeal.Hand.boxR (ReferenceIdeal.Hand.X20 V) n j 0 := by
  refine (k_off0 (KernelIdeal.Gen.W28 m ρ c) n j).trans ?_
  unfold ReferenceIdeal.Hand.boxR
  rw [KernelIdeal.Gen.W28_of m ρ c KernelIdeal.main_v168 (by decide), KernelIdeal.Gen.W27_of m ρ c KernelIdeal.main_v168 (by decide), KernelIdeal.Gen.W26_of m ρ c KernelIdeal.main_v168 (by decide), ReferenceIdeal.Hand.X20_of V ReferenceIdeal.main_v266 (by decide), ReferenceIdeal.Hand.X19_of V ReferenceIdeal.main_v266 (by decide), e_take0 ρ h n j, e_tcls_28_20 ρ h]

/-- The moved coordinate 1 agrees. -/
theorem e_box1 (h : Args m c V) (n : Fin 2) (j : Fin 1024) :
    rd KernelIdeal.S2x1024 .f32 (KernelIdeal.Gen.W29 m ρ c (Proc.devRef .tc KernelIdeal.main_v176)) (ix2 n j) = ReferenceIdeal.Hand.boxR (ReferenceIdeal.Hand.X20 V) n j 1 := by
  refine (k_off1 (KernelIdeal.Gen.W28 m ρ c) n j).trans ?_
  unfold ReferenceIdeal.Hand.boxR
  rw [KernelIdeal.Gen.W28_of m ρ c KernelIdeal.main_v169 (by decide), KernelIdeal.Gen.W27_of m ρ c KernelIdeal.main_v169 (by decide), ReferenceIdeal.Hand.X20_of V ReferenceIdeal.main_v266 (by decide), ReferenceIdeal.Hand.X19_of V ReferenceIdeal.main_v266 (by decide), e_take1 ρ h n j, e_tcls_28_20 ρ h]

/-- The moved coordinate 2 agrees. -/
theorem e_box2 (h : Args m c V) (n : Fin 2) (j : Fin 1024) :
    rd KernelIdeal.S2x1024 .f32 (KernelIdeal.Gen.W29 m ρ c (Proc.devRef .tc KernelIdeal.main_v177)) (ix2 n j) = ReferenceIdeal.Hand.boxR (ReferenceIdeal.Hand.X20 V) n j 2 := by
  refine (k_off2 (KernelIdeal.Gen.W28 m ρ c) n j).trans ?_
  unfold ReferenceIdeal.Hand.boxR
  rw [KernelIdeal.Gen.W28_of m ρ c KernelIdeal.main_v170 (by decide), ReferenceIdeal.Hand.X20_of V ReferenceIdeal.main_v266 (by decide), ReferenceIdeal.Hand.X19_of V ReferenceIdeal.main_v266 (by decide), e_take2 ρ h n j, e_tcls_28_20 ρ h]

/-- The moved coordinate 3 agrees. -/
theorem e_box3 (h : Args m c V) (n : Fin 2) (j : Fin 1024) :
    rd KernelIdeal.S2x1024 .f32 (KernelIdeal.Gen.W29 m ρ c (Proc.devRef .tc KernelIdeal.main_v178)) (ix2 n j) = ReferenceIdeal.Hand.boxR (ReferenceIdeal.Hand.X20 V) n j 3 := by
  refine (k_off3 (KernelIdeal.Gen.W28 m ρ c) n j).trans ?_
  unfold ReferenceIdeal.Hand.boxR
  rw [ReferenceIdeal.Hand.X20_of V ReferenceIdeal.main_v266 (by decide), ReferenceIdeal.Hand.X19_of V ReferenceIdeal.main_v266 (by decide), e_take3 ρ h n j, e_tcls_28_20 ρ h]

/-- The boxes the two suppressions see agree. -/
theorem e_box (h : Args m c V) (n : Fin 2) (j : Fin 1024) :
    KernelIdeal.Hand.boxK (KernelIdeal.Gen.W29 m ρ c (Proc.devRef .tc KernelIdeal.main_v175)) (KernelIdeal.Gen.W29 m ρ c (Proc.devRef .tc KernelIdeal.main_v176))
      (KernelIdeal.Gen.W29 m ρ c (Proc.devRef .tc KernelIdeal.main_v177)) (KernelIdeal.Gen.W29 m ρ c (Proc.devRef .tc KernelIdeal.main_v178)) n j = ReferenceIdeal.Hand.boxR (ReferenceIdeal.Hand.X20 V) n j := by
  funext q
  match q with
  | ⟨0, _⟩ => exact e_box0 ρ h n j
  | ⟨1, _⟩ => exact e_box1 ρ h n j
  | ⟨2, _⟩ => exact e_box2 ρ h n j
  | ⟨3, _⟩ => exact e_box3 ρ h n j

/-- The kernel's keep bit is the suppression's answer on the reference's boxes. -/
theorem e_kbit (h : Args m c V) (n : Fin 2) (j : Fin 1024) :
    kbit (KernelIdeal.Gen.W30 m ρ c) n j = BitVec.ofBool (kept (ReferenceIdeal.Hand.boxR (ReferenceIdeal.Hand.X20 V) n) 1024 j) := by
  unfold kbit
  rw [KernelIdeal.Hand.W30_v179 m ρ c]
  unfold rdI
  rw [KernelIdeal.Hand.kst_at _ _ _ _ n 1024 (Nat.le_refl _) j, funext fun j => e_box ρ h n j]
  generalize kept (ReferenceIdeal.Hand.boxR (ReferenceIdeal.Hand.X20 V) n) 1024 j = b
  revert b
  decide

variable {m' : (ℓ : Loc ReferenceIdeal.nD ReferenceIdeal.τ ReferenceIdeal.sig) → Buf (Elt Idealize.ShloMosaic.Ideal) ℓ} {c' : Dev ReferenceIdeal.nD}

/-- The reference's keep bit after its loop, on its own boxes. -/
theorem e_keep (n : Fin 2) (j : Fin 1024) :
    rdI ReferenceIdeal.S2x1024 1 (ReferenceIdeal.Hand.Y0 (ReferenceIdeal.Value.atK m' 1024 c') (Proc.devRef .tc ReferenceIdeal.main_v319_4)) (ix2 n j)
      = BitVec.ofBool (kept (ReferenceIdeal.Hand.boxR (ReferenceIdeal.Hand.X20 (launchContents m' c')) n) 1024 j) := by
  rw [ReferenceIdeal.Hand.Y0_of (ReferenceIdeal.Value.atK m' 1024 c') ReferenceIdeal.main_v319_4 (by decide)]
  exact ReferenceIdeal.Hand.loop_at m' c' _ (ReferenceIdeal.Hand.i_iou (ReferenceIdeal.Hand.X20 (launchContents m' c'))) (ReferenceIdeal.Hand.i_iota (ReferenceIdeal.Hand.X20 (launchContents m' c')))
    (ReferenceIdeal.Hand.i_counter (ReferenceIdeal.Hand.X20 (launchContents m' c'))) (ReferenceIdeal.Hand.i_ones (ReferenceIdeal.Hand.X20 (launchContents m' c'))) n j

/-- The two keep bits agree. -/
theorem e_bits (h : Args m c (launchContents m' c')) (n : Fin 2) (j : Fin 1024) :
    kbit (KernelIdeal.Gen.W30 m ρ c) n j = rdI ReferenceIdeal.S2x1024 1 (ReferenceIdeal.Hand.Y0 (ReferenceIdeal.Value.atK m' 1024 c') (Proc.devRef .tc ReferenceIdeal.main_v319_4)) (ix2 n j) :=
  (e_kbit ρ h n j).trans (e_keep n j).symm

/-- The clip's bound `zero` is still what the first stretch set. -/
theorem b_zero (q : Fin 4) : rd ReferenceIdeal.S4 .f32 (ReferenceIdeal.Hand.Y0 (ReferenceIdeal.Value.atK m' 1024 c') (Proc.devRef .tc ReferenceIdeal.main_cst_0)) (ix1 q) = 0 := by
  rw [ReferenceIdeal.Hand.Y0_of (ReferenceIdeal.Value.atK m' 1024 c') ReferenceIdeal.main_cst_0 (by decide), ReferenceIdeal.Hand.atK_of m' c' ReferenceIdeal.main_cst_0 (by decide) (by decide) (by decide) (by decide) (by decide), ReferenceIdeal.Hand.X21_of (launchContents m' c') ReferenceIdeal.main_cst_0 (by decide), ReferenceIdeal.Hand.X20_of (launchContents m' c') ReferenceIdeal.main_cst_0 (by decide), ReferenceIdeal.Hand.X19_of (launchContents m' c') ReferenceIdeal.main_cst_0 (by decide), ReferenceIdeal.Hand.X18_of (launchContents m' c') ReferenceIdeal.main_cst_0 (by decide), ReferenceIdeal.Hand.X17_of (launchContents m' c') ReferenceIdeal.main_cst_0 (by decide), ReferenceIdeal.Hand.X16_of (launchContents m' c') ReferenceIdeal.main_cst_0 (by decide), ReferenceIdeal.Hand.X15_of (launchContents m' c') ReferenceIdeal.main_cst_0 (by decide), ReferenceIdeal.Hand.X14_of (launchContents m' c') ReferenceIdeal.main_cst_0 (by decide), ReferenceIdeal.Hand.X13_of (launchContents m' c') ReferenceIdeal.main_cst_0 (by decide), ReferenceIdeal.Hand.X12_of (launchContents m' c') ReferenceIdeal.main_cst_0 (by decide), ReferenceIdeal.Hand.X11_of (launchContents m' c') ReferenceIdeal.main_cst_0 (by decide), ReferenceIdeal.Hand.X10_of (launchContents m' c') ReferenceIdeal.main_cst_0 (by decide), ReferenceIdeal.Hand.X9_of (launchContents m' c') ReferenceIdeal.main_cst_0 (by decide), ReferenceIdeal.Hand.X8_of (launchContents m' c') ReferenceIdeal.main_cst_0 (by decide), ReferenceIdeal.Hand.X7_of (launchContents m' c') ReferenceIdeal.main_cst_0 (by decide), ReferenceIdeal.Hand.X6_of (launchContents m' c') ReferenceIdeal.main_cst_0 (by decide), ReferenceIdeal.Hand.X5_of (launchContents m' c') ReferenceIdeal.main_cst_0 (by decide), ReferenceIdeal.Hand.X4_of (launchContents m' c') ReferenceIdeal.main_cst_0 (by decide), ReferenceIdeal.Hand.X3_of (launchContents m' c') ReferenceIdeal.main_cst_0 (by decide), ReferenceIdeal.Hand.X2_of (launchContents m' c') ReferenceIdeal.main_cst_0 (by decide)]
  show rd ReferenceIdeal.S4 .f32 (after ReferenceIdeal.Gen.hostOps0 (launchContents m' c') (Proc.devRef .tc ReferenceIdeal.main_cst_0)) (ix1 q) = _
  after_reads_simp
  unfold rd
  pointwise []

/-- The clip's bound `high` is still what the first stretch set. -/
theorem b_high (q : Fin 4) : rd ReferenceIdeal.S4 .f32 (ReferenceIdeal.Hand.Y0 (ReferenceIdeal.Value.atK m' 1024 c') (Proc.devRef .tc ReferenceIdeal.main_cst_1)) (ix1 q) = Ideal.ofBits .f32 0x43C00000#32 := by
  rw [ReferenceIdeal.Hand.Y0_of (ReferenceIdeal.Value.atK m' 1024 c') ReferenceIdeal.main_cst_1 (by decide), ReferenceIdeal.Hand.atK_of m' c' ReferenceIdeal.main_cst_1 (by decide) (by decide) (by decide) (by decide) (by decide), ReferenceIdeal.Hand.X21_of (launchContents m' c') ReferenceIdeal.main_cst_1 (by decide), ReferenceIdeal.Hand.X20_of (launchContents m' c') ReferenceIdeal.main_cst_1 (by decide), ReferenceIdeal.Hand.X19_of (launchContents m' c') ReferenceIdeal.main_cst_1 (by decide), ReferenceIdeal.Hand.X18_of (launchContents m' c') ReferenceIdeal.main_cst_1 (by decide), ReferenceIdeal.Hand.X17_of (launchContents m' c') ReferenceIdeal.main_cst_1 (by decide), ReferenceIdeal.Hand.X16_of (launchContents m' c') ReferenceIdeal.main_cst_1 (by decide), ReferenceIdeal.Hand.X15_of (launchContents m' c') ReferenceIdeal.main_cst_1 (by decide), ReferenceIdeal.Hand.X14_of (launchContents m' c') ReferenceIdeal.main_cst_1 (by decide), ReferenceIdeal.Hand.X13_of (launchContents m' c') ReferenceIdeal.main_cst_1 (by decide), ReferenceIdeal.Hand.X12_of (launchContents m' c') ReferenceIdeal.main_cst_1 (by decide), ReferenceIdeal.Hand.X11_of (launchContents m' c') ReferenceIdeal.main_cst_1 (by decide), ReferenceIdeal.Hand.X10_of (launchContents m' c') ReferenceIdeal.main_cst_1 (by decide), ReferenceIdeal.Hand.X9_of (launchContents m' c') ReferenceIdeal.main_cst_1 (by decide), ReferenceIdeal.Hand.X8_of (launchContents m' c') ReferenceIdeal.main_cst_1 (by decide), ReferenceIdeal.Hand.X7_of (launchContents m' c') ReferenceIdeal.main_cst_1 (by decide), ReferenceIdeal.Hand.X6_of (launchContents m' c') ReferenceIdeal.main_cst_1 (by decide), ReferenceIdeal.Hand.X5_of (launchContents m' c') ReferenceIdeal.main_cst_1 (by decide), ReferenceIdeal.Hand.X4_of (launchContents m' c') ReferenceIdeal.main_cst_1 (by decide), ReferenceIdeal.Hand.X3_of (launchContents m' c') ReferenceIdeal.main_cst_1 (by decide), ReferenceIdeal.Hand.X2_of (launchContents m' c') ReferenceIdeal.main_cst_1 (by decide)]
  show rd ReferenceIdeal.S4 .f32 (after ReferenceIdeal.Gen.hostOps0 (launchContents m' c') (Proc.devRef .tc ReferenceIdeal.main_cst_1)) (ix1 q) = _
  after_reads_simp
  unfold rd
  pointwise []

/-- Column 0 of the first result agrees. -/
theorem e_out0 (h : Args m c (launchContents m' c')) (n : Fin 2) (j : Fin 1024) :
    rd KernelIdeal.S2x1024x5 .f32 (KernelIdeal.Gen.W40 m ρ c (Proc.devRef .tc KernelIdeal.main_v197)) (ix3 n j 0)
      = rd ReferenceIdeal.S2x1024x5 .f32 (ReferenceIdeal.Hand.Y4 (ReferenceIdeal.Value.atK m' 1024 c') (Proc.devRef .tc ReferenceIdeal.main_v332)) (ix3 n j 0) := by
  rw [KernelIdeal.Gen.W40_of m ρ c KernelIdeal.main_v197 (by decide), ReferenceIdeal.Hand.Y4_of (ReferenceIdeal.Value.atK m' 1024 c') ReferenceIdeal.main_v332 (by decide)]
  refine (k_out0 (KernelIdeal.Gen.W30 m ρ c) n j).trans (Eq.trans ?_ (r_out0 (ReferenceIdeal.Hand.Y0 (ReferenceIdeal.Value.atK m' 1024 c')) b_zero b_high n j).symm)
  rw [e_bits ρ h n j, KernelIdeal.Gen.W30_of_ne m ρ c KernelIdeal.main_v168 (by decide), KernelIdeal.Gen.W29_of m ρ c KernelIdeal.main_v168 (by decide), KernelIdeal.Gen.W28_of m ρ c KernelIdeal.main_v168 (by decide), KernelIdeal.Gen.W27_of m ρ c KernelIdeal.main_v168 (by decide), KernelIdeal.Gen.W26_of m ρ c KernelIdeal.main_v168 (by decide), ReferenceIdeal.Hand.Y0_of (ReferenceIdeal.Value.atK m' 1024 c') ReferenceIdeal.main_v266 (by decide), ReferenceIdeal.Hand.atK_of m' c' ReferenceIdeal.main_v266 (by decide) (by decide) (by decide) (by decide) (by decide), ReferenceIdeal.Hand.X21_of (launchContents m' c') ReferenceIdeal.main_v266 (by decide), ReferenceIdeal.Hand.X20_of (launchContents m' c') ReferenceIdeal.main_v266 (by decide), ReferenceIdeal.Hand.X19_of (launchContents m' c') ReferenceIdeal.main_v266 (by decide), e_take0 ρ h n j]

/-- Column 1 of the first result agrees. -/
theorem e_out1 (h : Args m c (launchContents m' c')) (n : Fin 2) (j : Fin 1024) :
    rd KernelIdeal.S2x1024x5 .f32 (KernelIdeal.Gen.W40 m ρ c (Proc.devRef .tc KernelIdeal.main_v197)) (ix3 n j 1)
      = rd ReferenceIdeal.S2x1024x5 .f32 (ReferenceIdeal.Hand.Y4 (ReferenceIdeal.Value.atK m' 1024 c') (Proc.devRef .tc ReferenceIdeal.main_v332)) (ix3 n j 1) := by
  rw [KernelIdeal.Gen.W40_of m ρ c KernelIdeal.main_v197 (by decide), ReferenceIdeal.Hand.Y4_of (ReferenceIdeal.Value.atK m' 1024 c') ReferenceIdeal.main_v332 (by decide)]
  refine (k_out1 (KernelIdeal.Gen.W30 m ρ c) n j).trans (Eq.trans ?_ (r_out1 (ReferenceIdeal.Hand.Y0 (ReferenceIdeal.Value.atK m' 1024 c')) b_zero b_high n j).symm)
  rw [e_bits ρ h n j, KernelIdeal.Gen.W30_of_ne m ρ c KernelIdeal.main_v169 (by decide), KernelIdeal.Gen.W29_of m ρ c KernelIdeal.main_v169 (by decide), KernelIdeal.Gen.W28_of m ρ c KernelIdeal.main_v169 (by decide), KernelIdeal.Gen.W27_of m ρ c KernelIdeal.main_v169 (by decide), ReferenceIdeal.Hand.Y0_of (ReferenceIdeal.Value.atK m' 1024 c') ReferenceIdeal.main_v266 (by decide), ReferenceIdeal.Hand.atK_of m' c' ReferenceIdeal.main_v266 (by decide) (by decide) (by decide) (by decide) (by decide), ReferenceIdeal.Hand.X21_of (launchContents m' c') ReferenceIdeal.main_v266 (by decide), ReferenceIdeal.Hand.X20_of (launchContents m' c') ReferenceIdeal.main_v266 (by decide), ReferenceIdeal.Hand.X19_of (launchContents m' c') ReferenceIdeal.main_v266 (by decide), e_take1 ρ h n j]

/-- Column 2 of the first result agrees. -/
theorem e_out2 (h : Args m c (launchContents m' c')) (n : Fin 2) (j : Fin 1024) :
    rd KernelIdeal.S2x1024x5 .f32 (KernelIdeal.Gen.W40 m ρ c (Proc.devRef .tc KernelIdeal.main_v197)) (ix3 n j 2)
      = rd ReferenceIdeal.S2x1024x5 .f32 (ReferenceIdeal.Hand.Y4 (ReferenceIdeal.Value.atK m' 1024 c') (Proc.devRef .tc ReferenceIdeal.main_v332)) (ix3 n j 2) := by
  rw [KernelIdeal.Gen.W40_of m ρ c KernelIdeal.main_v197 (by decide), ReferenceIdeal.Hand.Y4_of (ReferenceIdeal.Value.atK m' 1024 c') ReferenceIdeal.main_v332 (by decide)]
  refine (k_out2 (KernelIdeal.Gen.W30 m ρ c) n j).trans (Eq.trans ?_ (r_out2 (ReferenceIdeal.Hand.Y0 (ReferenceIdeal.Value.atK m' 1024 c')) b_zero b_high n j).symm)
  rw [e_bits ρ h n j, KernelIdeal.Gen.W30_of_ne m ρ c KernelIdeal.main_v170 (by decide), KernelIdeal.Gen.W29_of m ρ c KernelIdeal.main_v170 (by decide), KernelIdeal.Gen.W28_of m ρ c KernelIdeal.main_v170 (by decide), ReferenceIdeal.Hand.Y0_of (ReferenceIdeal.Value.atK m' 1024 c') ReferenceIdeal.main_v266 (by decide), ReferenceIdeal.Hand.atK_of m' c' ReferenceIdeal.main_v266 (by decide) (by decide) (by decide) (by decide) (by decide), ReferenceIdeal.Hand.X21_of (launchContents m' c') ReferenceIdeal.main_v266 (by decide), ReferenceIdeal.Hand.X20_of (launchContents m' c') ReferenceIdeal.main_v266 (by decide), ReferenceIdeal.Hand.X19_of (launchContents m' c') ReferenceIdeal.main_v266 (by decide), e_take2 ρ h n j]

/-- Column 3 of the first result agrees. -/
theorem e_out3 (h : Args m c (launchContents m' c')) (n : Fin 2) (j : Fin 1024) :
    rd KernelIdeal.S2x1024x5 .f32 (KernelIdeal.Gen.W40 m ρ c (Proc.devRef .tc KernelIdeal.main_v197)) (ix3 n j 3)
      = rd ReferenceIdeal.S2x1024x5 .f32 (ReferenceIdeal.Hand.Y4 (ReferenceIdeal.Value.atK m' 1024 c') (Proc.devRef .tc ReferenceIdeal.main_v332)) (ix3 n j 3) := by
  rw [KernelIdeal.Gen.W40_of m ρ c KernelIdeal.main_v197 (by decide), ReferenceIdeal.Hand.Y4_of (ReferenceIdeal.Value.atK m' 1024 c') ReferenceIdeal.main_v332 (by decide)]
  refine (k_out3 (KernelIdeal.Gen.W30 m ρ c) n j).trans (Eq.trans ?_ (r_out3 (ReferenceIdeal.Hand.Y0 (ReferenceIdeal.Value.atK m' 1024 c')) b_zero b_high n j).symm)
  rw [e_bits ρ h n j, KernelIdeal.Gen.W30_of_ne m ρ c KernelIdeal.main_v171 (by decide), KernelIdeal.Gen.W29_of m ρ c KernelIdeal.main_v171 (by decide), ReferenceIdeal.Hand.Y0_of (ReferenceIdeal.Value.atK m' 1024 c') ReferenceIdeal.main_v266 (by decide), ReferenceIdeal.Hand.atK_of m' c' ReferenceIdeal.main_v266 (by decide) (by decide) (by decide) (by decide) (by decide), ReferenceIdeal.Hand.X21_of (launchContents m' c') ReferenceIdeal.main_v266 (by decide), ReferenceIdeal.Hand.X20_of (launchContents m' c') ReferenceIdeal.main_v266 (by decide), ReferenceIdeal.Hand.X19_of (launchContents m' c') ReferenceIdeal.main_v266 (by decide), e_take3 ρ h n j]

/-- Column 4 of the first result agrees. -/
theorem e_out4 (h : Args m c (launchContents m' c')) (n : Fin 2) (j : Fin 1024) :
    rd KernelIdeal.S2x1024x5 .f32 (KernelIdeal.Gen.W40 m ρ c (Proc.devRef .tc KernelIdeal.main_v197)) (ix3 n j 4)
      = rd ReferenceIdeal.S2x1024x5 .f32 (ReferenceIdeal.Hand.Y4 (ReferenceIdeal.Value.atK m' 1024 c') (Proc.devRef .tc ReferenceIdeal.main_v332)) (ix3 n j 4) := by
  rw [KernelIdeal.Gen.W40_of m ρ c KernelIdeal.main_v197 (by decide), ReferenceIdeal.Hand.Y4_of (ReferenceIdeal.Value.atK m' 1024 c') ReferenceIdeal.main_v332 (by decide)]
  refine (k_out4 (KernelIdeal.Gen.W30 m ρ c) n j).trans (Eq.trans ?_ (r_out4 (ReferenceIdeal.Hand.Y0 (ReferenceIdeal.Value.atK m' 1024 c')) n j).symm)
  rw [e_bits ρ h n j, KernelIdeal.Gen.W30_of_ne m ρ c KernelIdeal.main_v166 (by decide), KernelIdeal.Gen.W29_of m ρ c KernelIdeal.main_v166 (by decide), KernelIdeal.Gen.W28_of m ρ c KernelIdeal.main_v166 (by decide), KernelIdeal.Gen.W27_of m ρ c KernelIdeal.main_v166 (by decide), KernelIdeal.Gen.W26_of m ρ c KernelIdeal.main_v166 (by decide), KernelIdeal.Gen.W25_of m ρ c KernelIdeal.main_v166 (by decide), KernelIdeal.Gen.W24_of m ρ c KernelIdeal.main_v166 (by decide), ReferenceIdeal.Hand.Y0_of (ReferenceIdeal.Value.atK m' 1024 c') ReferenceIdeal.main_v267 (by decide), ReferenceIdeal.Hand.atK_of m' c' ReferenceIdeal.main_v267 (by decide) (by decide) (by decide) (by decide) (by decide), ReferenceIdeal.Hand.X21_of (launchContents m' c') ReferenceIdeal.main_v267 (by decide), ReferenceIdeal.Hand.X20_of (launchContents m' c') ReferenceIdeal.main_v267 (by decide), e_tconf ρ h]

/-- Arrays of two axes that agree at all coordinates are equal. -/
theorem ext2 {α : Type} {f g : KernelIdeal.S2x1024.Idx → α} (h : ∀ (n : Fin 2) (j : Fin 1024), f (ix2 n j) = g (ix2 n j)) : f = g :=
  funext fun i => by
    idx_vars i
    exact h _ _

/-- Arrays of three axes that agree at all coordinates are equal. -/
theorem ext3 {α : Type} {f g : KernelIdeal.S2x1024x5.Idx → α} (h : ∀ (n : Fin 2) (j : Fin 1024) (q : Fin 5), f (ix3 n j q) = g (ix3 n j q)) : f = g :=
  funext fun i => by
    idx_vars i
    exact h _ _ _

/-- The first results agree. -/
theorem e_boxes (h : Args m c (launchContents m' c')) :
    rd KernelIdeal.S2x1024x5 .f32 (KernelIdeal.Gen.W40 m ρ c (Proc.devRef .tc KernelIdeal.main_v197))
      = rd ReferenceIdeal.S2x1024x5 .f32 (ReferenceIdeal.Hand.Y4 (ReferenceIdeal.Value.atK m' 1024 c') (Proc.devRef .tc ReferenceIdeal.main_v332)) := by
  refine ext3 fun n j q => ?_
  match q with
  | ⟨0, _⟩ => exact e_out0 ρ h n j
  | ⟨1, _⟩ => exact e_out1 ρ h n j
  | ⟨2, _⟩ => exact e_out2 ρ h n j
  | ⟨3, _⟩ => exact e_out3 ρ h n j
  | ⟨4, _⟩ => exact e_out4 ρ h n j

/-- The second results agree. -/
theorem e_labels (h : Args m c (launchContents m' c')) :
    rdI KernelIdeal.S2x1024 32 (KernelIdeal.Gen.W40 m ρ c (Proc.devRef .tc KernelIdeal.main_v198))
      = rdI ReferenceIdeal.S2x1024 32 (ReferenceIdeal.Hand.Y4 (ReferenceIdeal.Value.atK m' 1024 c') (Proc.devRef .tc ReferenceIdeal.main_v333)) := by
  refine ext2 fun n j => ?_
  refine (k_label (KernelIdeal.Gen.W30 m ρ c) n j).trans (Eq.trans ?_ (r_label (ReferenceIdeal.Hand.Y0 (ReferenceIdeal.Value.atK m' 1024 c')) n j).symm)
  rw [e_bits ρ h n j, KernelIdeal.Gen.W30_of_ne m ρ c KernelIdeal.main_v167 (by decide), KernelIdeal.Gen.W29_of m ρ c KernelIdeal.main_v167 (by decide), KernelIdeal.Gen.W28_of m ρ c KernelIdeal.main_v167 (by decide), KernelIdeal.Gen.W27_of m ρ c KernelIdeal.main_v167 (by decide), KernelIdeal.Gen.W26_of m ρ c KernelIdeal.main_v167 (by decide), KernelIdeal.Gen.W25_of m ρ c KernelIdeal.main_v167 (by decide), ReferenceIdeal.Hand.Y0_of (ReferenceIdeal.Value.atK m' 1024 c') ReferenceIdeal.main_v268 (by decide), ReferenceIdeal.Hand.atK_of m' c' ReferenceIdeal.main_v268 (by decide) (by decide) (by decide) (by decide) (by decide), ReferenceIdeal.Hand.X21_of (launchContents m' c') ReferenceIdeal.main_v268 (by decide), e_tcls ρ h]

end Cert.Match

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.RefRun
public import proofs.«01_k».proof.Proof.Chain

@[expose] public section

open Idealize.ShloMosaic Idealize.ShloMosaic.StableHlo Idealize.ShloMosaic.TcCoe Idealize.SL.Sem

/-- From memories agreeing on the arguments both programs run and end with the same boxes and the same labels. -/
theorem Cert.Proof.agree : Cert.algebraic_KernelIdeal_ReferenceIdeal
    (hKernelIdeal := Cert.KernelIdeal.Gen.facts) (hReferenceIdeal := Cert.ReferenceIdeal.Gen.facts) :=
  fun m g m' g' _ hargs =>
    have h (c : Dev Cert.KernelIdeal.nD) : Cert.Match.Args m c (launchContents m' c) :=
      have ⟨a0, a1, a2, a3, a4, a5, a6, a7, a8⟩ := hargs c
      ⟨a0, a1, a2, a3, a4, a5, a6, a7, a8⟩
    ⟨fun c => Cert.KernelIdeal.Gen.W40 m g c (Proc.devRef .tc Cert.KernelIdeal.main_v197),
      fun c => Cert.KernelIdeal.Gen.W40 m g c (Proc.devRef .tc Cert.KernelIdeal.main_v198),
      Cert.KernelIdeal.Hand.run_results m g,
      (θ_run _ _ _).mono (fun _ hr c =>
        ⟨(hr c).1.trans (Cert.Match.e_boxes g (h c)).symm, (hr c).2.1.trans (Cert.Match.e_labels g (h c)).symm, (hr c).2.2⟩)
        (Cert.ReferenceIdeal.Hand.run_results m' g')⟩

/-- The three frames, the idealization, and the agreement of both results. -/
theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Hand.frame m ρ, trivial, Cert.Proof.agree⟩
end
